-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_fixed [hPre_lengths_fixed : Cert.Pre_lengths_fixed.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fixed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_fixed [hPre_lengths_fixed : Cert.Pre_lengths_fixed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fixed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lengths_fixed [hKernelIdeal : Cert.KernelIdeal.Facts] [hPre_lengths_fixed : Cert.Pre_lengths_fixed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_fixed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths_fixed [hReferenceIdeal : Cert.ReferenceIdeal.Facts] [hPre_lengths_fixed : Cert.Pre_lengths_fixed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_fixed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_lengths_fixed [hKernelIdeal : Cert.KernelIdeal.Facts] [hReferenceIdeal : Cert.ReferenceIdeal.Facts] [hPre_lengths_fixed : Cert.Pre_lengths_fixed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_fixed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lengths_fixed : Cert.Pre_lengths_fixed.Facts),
    quiescent_Kernel (hKernel := hKernel)
    ∧ quiescent_KernelIdeal (hKernelIdeal := hKernelIdeal)
    ∧ quiescent_KernelIdeal_pre_lengths_fixed (hKernelIdeal := hKernelIdeal) (hPre_lengths_fixed := hPre_lengths_fixed)
    ∧ quiescent_ReferenceIdeal (hReferenceIdeal := hReferenceIdeal)
    ∧ quiescent_ReferenceIdeal_pre_lengths_fixed (hReferenceIdeal := hReferenceIdeal) (hPre_lengths_fixed := hPre_lengths_fixed)
    ∧ preserves_Kernel_KernelIdeal
    ∧ algebraic_KernelIdeal_ReferenceIdeal_pre_lengths_fixed (hKernelIdeal := hKernelIdeal) (hReferenceIdeal := hReferenceIdeal) (hPre_lengths_fixed := hPre_lengths_fixed)
-- ==== Pre_lengths_fixed.lean ====
abbrev S32768x1024 : Shape := ⟨2, ![32768, 1024]⟩
abbrev S17 : Shape := ⟨1, ![17]⟩
abbrev S_ : Shape := ⟨0, ![]⟩

class Facts : Prop where
  reducesTo_S17_S_d0 : S17.ReducesTo [0] S_
  h_S_ : 0 < S_.numel

variable [Facts]

noncomputable abbrev lit0 : Fin 17 → BitVec 32 := fun
  | 0 => 0#32 | 1 => 4096#32 | 2 => 4608#32 | 3 => 6656#32 | 4 => 7680#32 | 5 => 10752#32 | 6 => 12288#32 | 7 => 14848#32
  | 8 => 15616#32 | 9 => 19712#32 | 10 => 20992#32 | 11 => 23040#32 | 12 => 23936#32 | 13 => 27520#32 | 14 => 29312#32 | 15 => 31616#32
  | 16 => 32768#32
  | _ => 0#32

def fn {F : FTy → Type} [FloatOps F] (main_arg0 : FVec F S32768x1024 .f32) (main_arg1 : IVec S17 32) : IVec S_ 1 :=
  let main_c : IVec S17 32 := fun i => lit0 (S17.rowMajor i)
  let main_v0 : IVec S17 1 := cmpi .eq main_arg1 main_c
  let main_c_0 : IVec S_ 1 := constantI S_ 1 1#1
  let main_v1 : IVec S_ 1 := (fun x v => Host.reduce IntOp.andi x v reducesTo_S17_S_d0 h_S_) main_v0 main_c_0
  main_v1
-- ==== Kernel.lean ====
abbrev S32768x1024 : Shape := ⟨2, ![32768, 1024]⟩
abbrev S17 : Shape := ⟨1, ![17]⟩
abbrev S22 : Shape := ⟨1, ![22]⟩
abbrev S65536x1024 : Shape := ⟨2, ![65536, 1024]⟩
abbrev S3x2048x1024 : Shape := ⟨3, ![3, 2048, 1024]⟩
abbrev S3 : Shape := ⟨1, ![3]⟩
abbrev S2048x1024 : Shape := ⟨2, ![2048, 1024]⟩
abbrev S_ : Shape := ⟨0, ![]⟩
abbrev S1 : Shape := ⟨1, ![1]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S16x4096x1024 : Shape := ⟨3, ![16, 4096, 1024]⟩

abbrev nBuf : Space → Nat
  | .hbm => 4
  | .vmem => 3
  | .smem => 4
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S65536x1024, .f32⟩
  | .hbm, ⟨3, _⟩ => ⟨S16x4096x1024, .f32⟩
  | .local _ .vmem, ⟨0, _⟩ => ⟨S3x2048x1024, .f32⟩
  | .local _ .vmem, ⟨1, _⟩ => ⟨S3x2048x1024, .f32⟩
  | .local _ .vmem, ⟨2, _⟩ => ⟨S2048x1024, .f32⟩
  | .local _ .smem, ⟨0, _⟩ => ⟨S22, .i32⟩
  | .local _ .smem, ⟨1, _⟩ => ⟨S22, .i32⟩
  | .local _ .smem, ⟨2, _⟩ => ⟨S22, .i32⟩
  | .local _ .smem, ⟨3, _⟩ => ⟨S22, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_scratch0 : Ref sig .tc := ⟨.vmem, 0, rfl⟩
abbrev cc0_scratch2 : Ref sig .tc := ⟨.vmem, 1, rfl⟩
abbrev cc0_scratch4 : Ref sig .tc := ⟨.vmem, 2, rfl⟩

abbrev nD : Nat := 1
abbrev τ : Topo := Topo.v7x

variable {F : FTy → Type} [FloatOps F]

abbrev grid0 : Pipeline.Grid := ⟨1, ![22], ![false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let c21_i32_81 : BitVec 32 := 21#32
  let v142 : BitVec 32 := Scalar.minsi arg0 c21_i32_81
  let v143 : Index := Scalar.indexCast v142
  ![v143.toNat]
def k0_mult1 (v147 : BitVec 32) : BitVec 32 :=
  let c0_i32_86 : BitVec 32 := 0#32
  let v255 : BitVec 32 := Scalar.addi v147 c0_i32_86
  v255
def k0_cond2 (i : grid0.Coords) (v144 : BitVec 32) : BitVec 1 :=
  let arg0 : BitVec 32 := BitVec.ofNat 32 (i 0).val
  let c22_i32_85 : BitVec 32 := 22#32
  let v150 : BitVec 1 := Scalar.cmpi .slt arg0 c22_i32_85
  let c2048_i32_83 : BitVec 32 := 2048#32
  let v148 : BitVec 32 := Scalar.andi v144 c2048_i32_83
  let c0_i32_84 : BitVec 32 := 0#32
  let v149 : BitVec 1 := Scalar.cmpi .ne v148 c0_i32_84
  let v151 : BitVec 1 := Scalar.andi v150 v149
  let v152 : BitVec 32 := Scalar.extui v151
  let c0_i32_87 : BitVec 32 := 0#32
  let v153 : BitVec 1 := Scalar.cmpi .ne v152 c0_i32_87
  v153

def k0_mult2 : BitVec 32 :=
  let c0_i32_86 : BitVec 32 := 0#32
  c0_i32_86
def k0_off2 (i : grid0.Coords) : Fin 1 → Nat :=
  let arg0 : BitVec 32 := BitVec.ofNat 32 (i 0).val
  let c3_i32_82 : BitVec 32 := 3#32
  let v145 : BitVec 32 := Scalar.remsi arg0 c3_i32_82
  ![v145.toNat]
def k0_off3 (i : grid0.Coords) : Fin 3 → Nat :=
  let arg0 : BitVec 32 := BitVec.ofNat 32 (i 0).val
  let c3_i32_82 : BitVec 32 := 3#32
  let v145 : BitVec 32 := Scalar.remsi arg0 c3_i32_82
  let c0_i32_86 : BitVec 32 := 0#32
  let v257 : BitVec 32 := c0_i32_86
  let c0_i32_155 : BitVec 32 := 0#32
  ![v145.toNat, 0, 0]
def k0_off4 (v147 : BitVec 32) : Fin 2 → Nat :=
  let c0_i32_86 : BitVec 32 := 0#32
  let v255 : BitVec 32 := Scalar.addi v147 c0_i32_86
  let v256 : BitVec 32 := v255
  let c0_i32_156 : BitVec 32 := 0#32
  ![v256.toNat, 0]
def k0_mult3 (v144 : BitVec 32) (v147 : BitVec 32) : BitVec 32 :=
  let c0_i32_89 : BitVec 32 := 0#32
  let c2048_i32_88 : BitVec 32 := 2048#32
  let v154 : BitVec 32 := Scalar.andi v144 c2048_i32_88
  let v155 : BitVec 32 := Scalar.addi c0_i32_89 v154
  let v255 : BitVec 32 := Scalar.addi v147 v155
  v255
def k0_cond3 (i : grid0.Coords) (v144 : BitVec 32) : BitVec 1 :=
  let arg0 : BitVec 32 := BitVec.ofNat 32 (i 0).val
  let c22_i32_92 : BitVec 32 := 22#32
  let v158 : BitVec 1 := Scalar.cmpi .slt arg0 c22_i32_92
  let c1024_i32_90 : BitVec 32 := 1024#32
  let v156 : BitVec 32 := Scalar.andi v144 c1024_i32_90
  let c0_i32_91 : BitVec 32 := 0#32
  let v157 : BitVec 1 := Scalar.cmpi .ne v156 c0_i32_91
  let v159 : BitVec 1 := Scalar.andi v158 v157
  let v160 : BitVec 32 := Scalar.extui v159
  let c0_i32_93 : BitVec 32 := 0#32
  let v161 : BitVec 1 := Scalar.cmpi .ne v160 c0_i32_93
  v161

def k0_mult4 (v144 : BitVec 32) : BitVec 32 :=
  let c0_i32_89 : BitVec 32 := 0#32
  let c2048_i32_88 : BitVec 32 := 2048#32
  let v154 : BitVec 32 := Scalar.andi v144 c2048_i32_88
  let v155 : BitVec 32 := Scalar.addi c0_i32_89 v154
  v155

def k0_off5 (i : grid0.Coords) : Fin 1 → Nat :=
  let arg0 : BitVec 32 := BitVec.ofNat 32 (i 0).val
  let c3_i32_82 : BitVec 32 := 3#32
  let v145 : BitVec 32 := Scalar.remsi arg0 c3_i32_82
  ![v145.toNat]
def k0_off6 (i : grid0.Coords) (v144 : BitVec 32) : Fin 3 → Nat :=
  let arg0 : BitVec 32 := BitVec.ofNat 32 (i 0).val
  let c3_i32_82 : BitVec 32 := 3#32
  let v145 : BitVec 32 := Scalar.remsi arg0 c3_i32_82
  let c0_i32_89 : BitVec 32 := 0#32
  let c2048_i32_88 : BitVec 32 := 2048#32
  let v154 : BitVec 32 := Scalar.andi v144 c2048_i32_88
  let v155 : BitVec 32 := Scalar.addi c0_i32_89 v154
  let v257 : BitVec 32 := v155
  let c0_i32_155 : BitVec 32 := 0#32
  ![v145.toNat, v257.toNat, 0]
def k0_off7 (v144 : BitVec 32) (v147 : BitVec 32) : Fin 2 → Nat :=
  let c0_i32_89 : BitVec 32 := 0#32
  let c2048_i32_88 : BitVec 32 := 2048#32
  let v154 : BitVec 32 := Scalar.andi v144 c2048_i32_88
  let v155 : BitVec 32 := Scalar.addi c0_i32_89 v154
  let v255 : BitVec 32 := Scalar.addi v147 v155
  let v256 : BitVec 32 := v255
  let c0_i32_156 : BitVec 32 := 0#32
  ![v256.toNat, 0]
def k0_mult5 (v144 : BitVec 32) (v147 : BitVec 32) : BitVec 32 :=
  let c0_i32_95 : BitVec 32 := 0#32
  let c2048_i32_94 : BitVec 32 := 2048#32
  let v162 : BitVec 32 := Scalar.andi v144 c2048_i32_94
  let v163 : BitVec 32 := Scalar.addi c0_i32_95 v162
  let c1024_i32_96 : BitVec 32 := 1024#32
  let v164 : BitVec 32 := Scalar.andi v144 c1024_i32_96
  let v165 : BitVec 32 := Scalar.addi v163 v164
  let v255 : BitVec 32 := Scalar.addi v147 v165
  v255
def k0_cond4 (i : grid0.Coords) (v144 : BitVec 32) : BitVec 1 :=
  let arg0 : BitVec 32 := BitVec.ofNat 32 (i 0).val
  let c22_i32_99 : BitVec 32 := 22#32
  let v168 : BitVec 1 := Scalar.cmpi .slt arg0 c22_i32_99
  let c512_i32_97 : BitVec 32 := 512#32
  let v166 : BitVec 32 := Scalar.andi v144 c512_i32_97
  let c0_i32_98 : BitVec 32 := 0#32
  let v167 : BitVec 1 := Scalar.cmpi .ne v166 c0_i32_98
  let v169 : BitVec 1 := Scalar.andi v168 v167
  let v170 : BitVec 32 := Scalar.extui v169
  let c0_i32_100 : BitVec 32 := 0#32
  let v171 : BitVec 1 := Scalar.cmpi .ne v170 c0_i32_100
  v171

def k0_mult6 (v144 : BitVec 32) : BitVec 32 :=
  let c0_i32_95 : BitVec 32 := 0#32
  let c2048_i32_94 : BitVec 32 := 2048#32
  let v162 : BitVec 32 := Scalar.andi v144 c2048_i32_94
  let v163 : BitVec 32 := Scalar.addi c0_i32_95 v162
  let c1024_i32_96 : BitVec 32 := 1024#32
  let v164 : BitVec 32 := Scalar.andi v144 c1024_i32_96
  let v165 : BitVec 32 := Scalar.addi v163 v164
  v165
def k0_off8 (i : grid0.Coords) : Fin 1 → Nat :=
  let arg0 : BitVec 32 := BitVec.ofNat 32 (i 0).val
  let c3_i32_82 : BitVec 32 := 3#32
  let v145 : BitVec 32 := Scalar.remsi arg0 c3_i32_82
  ![v145.toNat]
def k0_off9 (i : grid0.Coords) (v144 : BitVec 32) : Fin 3 → Nat :=
  let arg0 : BitVec 32 := BitVec.ofNat 32 (i 0).val
  let c3_i32_82 : BitVec 32 := 3#32
  let v145 : BitVec 32 := Scalar.remsi arg0 c3_i32_82
  let c0_i32_95 : BitVec 32 := 0#32
  let c2048_i32_94 : BitVec 32 := 2048#32
  let v162 : BitVec 32 := Scalar.andi v144 c2048_i32_94
  let v163 : BitVec 32 := Scalar.addi c0_i32_95 v162
  let c1024_i32_96 : BitVec 32 := 1024#32
  let v164 : BitVec 32 := Scalar.andi v144 c1024_i32_96
  let v165 : BitVec 32 := Scalar.addi v163 v164
  let v257 : BitVec 32 := v165
  let c0_i32_155 : BitVec 32 := 0#32
  ![v145.toNat, v257.toNat, 0]
def k0_off10 (v144 : BitVec 32) (v147 : BitVec 32) : Fin 2 → Nat :=
  let c0_i32_95 : BitVec 32 := 0#32
  let c2048_i32_94 : BitVec 32 := 2048#32
  let v162 : BitVec 32 := Scalar.andi v144 c2048_i32_94
  let v163 : BitVec 32 := Scalar.addi c0_i32_95 v162
  let c1024_i32_96 : BitVec 32 := 1024#32
  let v164 : BitVec 32 := Scalar.andi v144 c1024_i32_96
  let v165 : BitVec 32 := Scalar.addi v163 v164
  let v255 : BitVec 32 := Scalar.addi v147 v165
  let v256 : BitVec 32 := v255
  let c0_i32_156 : BitVec 32 := 0#32
  ![v256.toNat, 0]
def k0_mult7 (v144 : BitVec 32) (v147 : BitVec 32) : BitVec 32 :=
  let c0_i32_102 : BitVec 32 := 0#32
  let c2048_i32_101 : BitVec 32 := 2048#32
  let v172 : BitVec 32 := Scalar.andi v144 c2048_i32_101
  let v173 : BitVec 32 := Scalar.addi c0_i32_102 v172
  let c1024_i32_103 : BitVec 32 := 1024#32
  let v174 : BitVec 32 := Scalar.andi v144 c1024_i32_103
  let v175 : BitVec 32 := Scalar.addi v173 v174
  let c512_i32_104 : BitVec 32 := 512#32
  let v176 : BitVec 32 := Scalar.andi v144 c512_i32_104
  let v177 : BitVec 32 := Scalar.addi v175 v176
  let v255 : BitVec 32 := Scalar.addi v147 v177
  v255
def k0_cond5 (i : grid0.Coords) (v144 : BitVec 32) : BitVec 1 :=
  let arg0 : BitVec 32 := BitVec.ofNat 32 (i 0).val
  let c22_i32_107 : BitVec 32 := 22#32
  let v180 : BitVec 1 := Scalar.cmpi .slt arg0 c22_i32_107
  let c256_i32_105 : BitVec 32 := 256#32
  let v178 : BitVec 32 := Scalar.andi v144 c256_i32_105
  let c0_i32_106 : BitVec 32 := 0#32
  let v179 : BitVec 1 := Scalar.cmpi .ne v178 c0_i32_106
  let v181 : BitVec 1 := Scalar.andi v180 v179
  let v182 : BitVec 32 := Scalar.extui v181
  let c0_i32_108 : BitVec 32 := 0#32
  let v183 : BitVec 1 := Scalar.cmpi .ne v182 c0_i32_108
  v183

def k0_mult8 (v144 : BitVec 32) : BitVec 32 :=
  let c0_i32_102 : BitVec 32 := 0#32
  let c2048_i32_101 : BitVec 32 := 2048#32
  let v172 : BitVec 32 := Scalar.andi v144 c2048_i32_101
  let v173 : BitVec 32 := Scalar.addi c0_i32_102 v172
  let c1024_i32_103 : BitVec 32 := 1024#32
  let v174 : BitVec 32 := Scalar.andi v144 c1024_i32_103
  let v175 : BitVec 32 := Scalar.addi v173 v174
  let c512_i32_104 : BitVec 32 := 512#32
  let v176 : BitVec 32 := Scalar.andi v144 c512_i32_104
  let v177 : BitVec 32 := Scalar.addi v175 v176
  v177
def k0_off11 (i : grid0.Coords) : Fin 1 → Nat :=
  let arg0 : BitVec 32 := BitVec.ofNat 32 (i 0).val
  let c3_i32_82 : BitVec 32 := 3#32
  let v145 : BitVec 32 := Scalar.remsi arg0 c3_i32_82
  ![v145.toNat]
def k0_off12 (i : grid0.Coords) (v144 : BitVec 32) : Fin 3 → Nat :=
  let arg0 : BitVec 32 := BitVec.ofNat 32 (i 0).val
  let c3_i32_82 : BitVec 32 := 3#32
  let v145 : BitVec 32 := Scalar.remsi arg0 c3_i32_82
  let c0_i32_102 : BitVec 32 := 0#32
  let c2048_i32_101 : BitVec 32 := 2048#32
  let v172 : BitVec 32 := Scalar.andi v144 c2048_i32_101
  let v173 : BitVec 32 := Scalar.addi c0_i32_102 v172
  let c1024_i32_103 : BitVec 32 := 1024#32
  let v174 : BitVec 32 := Scalar.andi v144 c1024_i32_103
  let v175 : BitVec 32 := Scalar.addi v173 v174
  let c512_i32_104 : BitVec 32 := 512#32
  let v176 : BitVec 32 := Scalar.andi v144 c512_i32_104
  let v177 : BitVec 32 := Scalar.addi v175 v176
  let v257 : BitVec 32 := v177
  let c0_i32_155 : BitVec 32 := 0#32
  ![v145.toNat, v257.toNat, 0]
def k0_off13 (v144 : BitVec 32) (v147 : BitVec 32) : Fin 2 → Nat :=
  let c0_i32_102 : BitVec 32 := 0#32
  let c2048_i32_101 : BitVec 32 := 2048#32
  let v172 : BitVec 32 := Scalar.andi v144 c2048_i32_101
  let v173 : BitVec 32 := Scalar.addi c0_i32_102 v172
  let c1024_i32_103 : BitVec 32 := 1024#32
  let v174 : BitVec 32 := Scalar.andi v144 c1024_i32_103
  let v175 : BitVec 32 := Scalar.addi v173 v174
  let c512_i32_104 : BitVec 32 := 512#32
  let v176 : BitVec 32 := Scalar.andi v144 c512_i32_104
  let v177 : BitVec 32 := Scalar.addi v175 v176
  let v255 : BitVec 32 := Scalar.addi v147 v177
  let v256 : BitVec 32 := v255
  let c0_i32_156 : BitVec 32 := 0#32
  ![v256.toNat, 0]
def k0_mult9 (v144 : BitVec 32) (v147 : BitVec 32) : BitVec 32 :=
  let c0_i32_110 : BitVec 32 := 0#32
  let c2048_i32_109 : BitVec 32 := 2048#32
  let v184 : BitVec 32 := Scalar.andi v144 c2048_i32_109
  let v185 : BitVec 32 := Scalar.addi c0_i32_110 v184
  let c1024_i32_111 : BitVec 32 := 1024#32
  let v186 : BitVec 32 := Scalar.andi v144 c1024_i32_111
  let v187 : BitVec 32 := Scalar.addi v185 v186
  let c512_i32_112 : BitVec 32 := 512#32
  let v188 : BitVec 32 := Scalar.andi v144 c512_i32_112
  let v189 : BitVec 32 := Scalar.addi v187 v188
  let c256_i32_113 : BitVec 32 := 256#32
  let v190 : BitVec 32 := Scalar.andi v144 c256_i32_113
  let v191 : BitVec 32 := Scalar.addi v189 v190
  let v255 : BitVec 32 := Scalar.addi v147 v191
  v255
def k0_cond6 (i : grid0.Coords) (v144 : BitVec 32) : BitVec 1 :=
  let arg0 : BitVec 32 := BitVec.ofNat 32 (i 0).val
  let c22_i32_116 : BitVec 32 := 22#32
  let v194 : BitVec 1 := Scalar.cmpi .slt arg0 c22_i32_116
  let c128_i32_114 : BitVec 32 := 128#32
  let v192 : BitVec 32 := Scalar.andi v144 c128_i32_114
  let c0_i32_115 : BitVec 32 := 0#32
  let v193 : BitVec 1 := Scalar.cmpi .ne v192 c0_i32_115
  let v195 : BitVec 1 := Scalar.andi v194 v193
  let v196 : BitVec 32 := Scalar.extui v195
  let c0_i32_117 : BitVec 32 := 0#32
  let v197 : BitVec 1 := Scalar.cmpi .ne v196 c0_i32_117
  v197

def k0_mult10 (v144 : BitVec 32) : BitVec 32 :=
  let c0_i32_110 : BitVec 32 := 0#32
  let c2048_i32_109 : BitVec 32 := 2048#32
  let v184 : BitVec 32 := Scalar.andi v144 c2048_i32_109
  let v185 : BitVec 32 := Scalar.addi c0_i32_110 v184
  let c1024_i32_111 : BitVec 32 := 1024#32
  let v186 : BitVec 32 := Scalar.andi v144 c1024_i32_111
  let v187 : BitVec 32 := Scalar.addi v185 v186
  let c512_i32_112 : BitVec 32 := 512#32
  let v188 : BitVec 32 := Scalar.andi v144 c512_i32_112
  let v189 : BitVec 32 := Scalar.addi v187 v188
  let c256_i32_113 : BitVec 32 := 256#32
  let v190 : BitVec 32 := Scalar.andi v144 c256_i32_113
  let v191 : BitVec 32 := Scalar.addi v189 v190
  v191
def k0_off14 (i : grid0.Coords) : Fin 1 → Nat :=
  let arg0 : BitVec 32 := BitVec.ofNat 32 (i 0).val
  let c3_i32_82 : BitVec 32 := 3#32
  let v145 : BitVec 32 := Scalar.remsi arg0 c3_i32_82
  ![v145.toNat]
def k0_off15 (i : grid0.Coords) (v144 : BitVec 32) : Fin 3 → Nat :=
  let arg0 : BitVec 32 := BitVec.ofNat 32 (i 0).val
  let c3_i32_82 : BitVec 32 := 3#32
  let v145 : BitVec 32 := Scalar.remsi arg0 c3_i32_82
  let c0_i32_110 : BitVec 32 := 0#32
  let c2048_i32_109 : BitVec 32 := 2048#32
  let v184 : BitVec 32 := Scalar.andi v144 c2048_i32_109
  let v185 : BitVec 32 := Scalar.addi c0_i32_110 v184
  let c1024_i32_111 : BitVec 32 := 1024#32
  let v186 : BitVec 32 := Scalar.andi v144 c1024_i32_111
  let v187 : BitVec 32 := Scalar.addi v185 v186
  let c512_i32_112 : BitVec 32 := 512#32
  let v188 : BitVec 32 := Scalar.andi v144 c512_i32_112
  let v189 : BitVec 32 := Scalar.addi v187 v188
  let c256_i32_113 : BitVec 32 := 256#32
  let v190 : BitVec 32 := Scalar.andi v144 c256_i32_113
  let v191 : BitVec 32 := Scalar.addi v189 v190
  let v257 : BitVec 32 := v191
  let c0_i32_155 : BitVec 32 := 0#32
  ![v145.toNat, v257.toNat, 0]

def k0_chk2 (i : grid0.Coords) (v144 : BitVec 32) : Prop :=
  (∀ (k0_h1 : k0_cond1 i = 1#1), ∀ (k0_h3 : k0_cond3 i v144 = 1#1), 128 ∣ (k0_mult4 v144).toNat) ∧
  (∀ (k0_h1 : k0_cond1 i = 1#1), ∀ (k0_h3 : k0_cond3 i v144 = 1#1), ∀ a, (k0_off6 i v144) a + S1x1024x1024.size a ≤ S3x2048x1024.size a) ∧
  (∀ (k0_h1 : k0_cond1 i = 1#1), ∀ (k0_h4 : k0_cond4 i v144 = 1#1), 128 ∣ (k0_mult6 v144).toNat) ∧
  (∀ (k0_h1 : k0_cond1 i = 1#1), ∀ (k0_h4 : k0_cond4 i v144 = 1#1), ∀ a, (k0_off9 i v144) a + S1x512x1024.size a ≤ S3x2048x1024.size a) ∧
  (∀ (k0_h1 : k0_cond1 i = 1#1), ∀ (k0_h5 : k0_cond5 i v144 = 1#1), 128 ∣ (k0_mult8 v144).toNat) ∧
  (∀ (k0_h1 : k0_cond1 i = 1#1), ∀ (k0_h5 : k0_cond5 i v144 = 1#1), ∀ a, (k0_off12 i v144) a + S1x256x1024.size a ≤ S3x2048x1024.size a) ∧
  (∀ (k0_h1 : k0_cond1 i = 1#1), ∀ (k0_h6 : k0_cond6 i v144 = 1#1), 128 ∣ (k0_mult10 v144).toNat) ∧
  (∀ (k0_h1 : k0_cond1 i = 1#1), ∀ (k0_h6 : k0_cond6 i v144 = 1#1), ∀ a, (k0_off15 i v144) a + S1x128x1024.size a ≤ S3x2048x1024.size a)
theorem k0_mult4_dvd : ∀ (i : grid0.Coords) (v144 : BitVec 32) (k0_hw2 : k0_chk2 i v144), ∀ (k0_h1 : k0_cond1 i = 1#1), ∀ (k0_h3 : k0_cond3 i v144 = 1#1), 128 ∣ (k0_mult4 v144).toNat := fun i v144 k0_hw2 k0_h1 k0_h3 => k0_hw2.1 k0_h1 k0_h3
theorem k0_off6_inb : ∀ (i : grid0.Coords) (v144 : BitVec 32) (k0_hw2 : k0_chk2 i v144), ∀ (k0_h1 : k0_cond1 i = 1#1), ∀ (k0_h3 : k0_cond3 i v144 = 1#1), ∀ a, (k0_off6 i v144) a + S1x1024x1024.size a ≤ S3x2048x1024.size a := fun i v144 k0_hw2 k0_h1 k0_h3 => k0_hw2.2.1 k0_h1 k0_h3
theorem k0_mult6_dvd : ∀ (i : grid0.Coords) (v144 : BitVec 32) (k0_hw2 : k0_chk2 i v144), ∀ (k0_h1 : k0_cond1 i = 1#1), ∀ (k0_h4 : k0_cond4 i v144 = 1#1), 128 ∣ (k0_mult6 v144).toNat := fun i v144 k0_hw2 k0_h1 k0_h4 => k0_hw2.2.2.1 k0_h1 k0_h4
theorem k0_off9_inb : ∀ (i : grid0.Coords) (v144 : BitVec 32) (k0_hw2 : k0_chk2 i v144), ∀ (k0_h1 : k0_cond1 i = 1#1), ∀ (k0_h4 : k0_cond4 i v144 = 1#1), ∀ a, (k0_off9 i v144) a + S1x512x1024.size a ≤ S3x2048x1024.size a := fun i v144 k0_hw2 k0_h1 k0_h4 => k0_hw2.2.2.2.1 k0_h1 k0_h4
theorem k0_mult8_dvd : ∀ (i : grid0.Coords) (v144 : BitVec 32) (k0_hw2 : k0_chk2 i v144), ∀ (k0_h1 : k0_cond1 i = 1#1), ∀ (k0_h5 : k0_cond5 i v144 = 1#1), 128 ∣ (k0_mult8 v144).toNat := fun i v144 k0_hw2 k0_h1 k0_h5 => k0_hw2.2.2.2.2.1 k0_h1 k0_h5
theorem k0_off12_inb : ∀ (i : grid0.Coords) (v144 : BitVec 32) (k0_hw2 : k0_chk2 i v144), ∀ (k0_h1 : k0_cond1 i = 1#1), ∀ (k0_h5 : k0_cond5 i v144 = 1#1), ∀ a, (k0_off12 i v144) a + S1x256x1024.size a ≤ S3x2048x1024.size a := fun i v144 k0_hw2 k0_h1 k0_h5 => k0_hw2.2.2.2.2.2.1 k0_h1 k0_h5
theorem k0_mult10_dvd : ∀ (i : grid0.Coords) (v144 : BitVec 32) (k0_hw2 : k0_chk2 i v144), ∀ (k0_h1 : k0_cond1 i = 1#1), ∀ (k0_h6 : k0_cond6 i v144 = 1#1), 128 ∣ (k0_mult10 v144).toNat := fun i v144 k0_hw2 k0_h1 k0_h6 => k0_hw2.2.2.2.2.2.2.1 k0_h1 k0_h6
theorem k0_off15_inb : ∀ (i : grid0.Coords) (v144 : BitVec 32) (k0_hw2 : k0_chk2 i v144), ∀ (k0_h1 : k0_cond1 i = 1#1), ∀ (k0_h6 : k0_cond6 i v144 = 1#1), ∀ a, (k0_off15 i v144) a + S1x128x1024.size a ≤ S3x2048x1024.size a := fun i v144 k0_hw2 k0_h1 k0_h6 => k0_hw2.2.2.2.2.2.2.2 k0_h1 k0_h6

def k0_off16 (v144 : BitVec 32) (v147 : BitVec 32) : Fin 2 → Nat :=
  let c0_i32_110 : BitVec 32 := 0#32
  let c2048_i32_109 : BitVec 32 := 2048#32
  let v184 : BitVec 32 := Scalar.andi v144 c2048_i32_109
  let v185 : BitVec 32 := Scalar.addi c0_i32_110 v184
  let c1024_i32_111 : BitVec 32 := 1024#32
  let v186 : BitVec 32 := Scalar.andi v144 c1024_i32_111
  let v187 : BitVec 32 := Scalar.addi v185 v186
  let c512_i32_112 : BitVec 32 := 512#32
  let v188 : BitVec 32 := Scalar.andi v144 c512_i32_112
  let v189 : BitVec 32 := Scalar.addi v187 v188
  let c256_i32_113 : BitVec 32 := 256#32
  let v190 : BitVec 32 := Scalar.andi v144 c256_i32_113
  let v191 : BitVec 32 := Scalar.addi v189 v190
  let v255 : BitVec 32 := Scalar.addi v147 v191
  let v256 : BitVec 32 := v255
  let c0_i32_156 : BitVec 32 := 0#32
  ![v256.toNat, 0]

def k0_chk1 (i : grid0.Coords) (v144 : BitVec 32) (v147 : BitVec 32) : Prop :=
  (∀ (k0_h1 : k0_cond1 i = 1#1), ∀ (k0_h2 : k0_cond2 i v144 = 1#1), 128 ∣ (k0_mult1 v147).toNat) ∧
  (∀ (k0_h1 : k0_cond1 i = 1#1), ∀ (k0_h2 : k0_cond2 i v144 = 1#1), ∀ a, (k0_off4 v147) a + S2048x1024.size a ≤ S32768x1024.size a) ∧
  (∀ (k0_h1 : k0_cond1 i = 1#1), ∀ (k0_h3 : k0_cond3 i v144 = 1#1), 128 ∣ (k0_mult3 v144 v147).toNat) ∧
  (∀ (k0_h1 : k0_cond1 i = 1#1), ∀ (k0_h3 : k0_cond3 i v144 = 1#1), ∀ a, (k0_off7 v144 v147) a + S1024x1024.size a ≤ S32768x1024.size a) ∧
  (∀ (k0_h1 : k0_cond1 i = 1#1), ∀ (k0_h4 : k0_cond4 i v144 = 1#1), 128 ∣ (k0_mult5 v144 v147).toNat) ∧
  (∀ (k0_h1 : k0_cond1 i = 1#1), ∀ (k0_h4 : k0_cond4 i v144 = 1#1), ∀ a, (k0_off10 v144 v147) a + S512x1024.size a ≤ S32768x1024.size a) ∧
  (∀ (k0_h1 : k0_cond1 i = 1#1), ∀ (k0_h5 : k0_cond5 i v144 = 1#1), 128 ∣ (k0_mult7 v144 v147).toNat) ∧
  (∀ (k0_h1 : k0_cond1 i = 1#1), ∀ (k0_h5 : k0_cond5 i v144 = 1#1), ∀ a, (k0_off13 v144 v147) a + S256x1024.size a ≤ S32768x1024.size a) ∧
  (∀ (k0_h1 : k0_cond1 i = 1#1), ∀ (k0_h6 : k0_cond6 i v144 = 1#1), 128 ∣ (k0_mult9 v144 v147).toNat) ∧
  (∀ (k0_h1 : k0_cond1 i = 1#1), ∀ (k0_h6 : k0_cond6 i v144 = 1#1), ∀ a, (k0_off16 v144 v147) a + S128x1024.size a ≤ S32768x1024.size a)
theorem k0_mult1_dvd : ∀ (i : grid0.Coords) (v144 : BitVec 32) (v147 : BitVec 32) (k0_hw1 : k0_chk1 i v144 v147), ∀ (k0_h1 : k0_cond1 i = 1#1), ∀ (k0_h2 : k0_cond2 i v144 = 1#1), 128 ∣ (k0_mult1 v147).toNat := fun i v144 v147 k0_hw1 k0_h1 k0_h2 => k0_hw1.1 k0_h1 k0_h2
theorem k0_off4_inb : ∀ (i : grid0.Coords) (v144 : BitVec 32) (v147 : BitVec 32) (k0_hw1 : k0_chk1 i v144 v147), ∀ (k0_h1 : k0_cond1 i = 1#1), ∀ (k0_h2 : k0_cond2 i v144 = 1#1), ∀ a, (k0_off4 v147) a + S2048x1024.size a ≤ S32768x1024.size a := fun i v144 v147 k0_hw1 k0_h1 k0_h2 => k0_hw1.2.1 k0_h1 k0_h2
theorem k0_mult3_dvd : ∀ (i : grid0.Coords) (v144 : BitVec 32) (v147 : BitVec 32) (k0_hw1 : k0_chk1 i v144 v147), ∀ (k0_h1 : k0_cond1 i = 1#1), ∀ (k0_h3 : k0_cond3 i v144 = 1#1), 128 ∣ (k0_mult3 v144 v147).toNat := fun i v144 v147 k0_hw1 k0_h1 k0_h3 => k0_hw1.2.2.1 k0_h1 k0_h3
theorem k0_off7_inb : ∀ (i : grid0.Coords) (v144 : BitVec 32) (v147 : BitVec 32) (k0_hw1 : k0_chk1 i v144 v147), ∀ (k0_h1 : k0_cond1 i = 1#1), ∀ (k0_h3 : k0_cond3 i v144 = 1#1), ∀ a, (k0_off7 v144 v147) a + S1024x1024.size a ≤ S32768x1024.size a := fun i v144 v147 k0_hw1 k0_h1 k0_h3 => k0_hw1.2.2.2.1 k0_h1 k0_h3
theorem k0_mult5_dvd : ∀ (i : grid0.Coords) (v144 : BitVec 32) (v147 : BitVec 32) (k0_hw1 : k0_chk1 i v144 v147), ∀ (k0_h1 : k0_cond1 i = 1#1), ∀ (k0_h4 : k0_cond4 i v144 = 1#1), 128 ∣ (k0_mult5 v144 v147).toNat := fun i v144 v147 k0_hw1 k0_h1 k0_h4 => k0_hw1.2.2.2.2.1 k0_h1 k0_h4
theorem k0_off10_inb : ∀ (i : grid0.Coords) (v144 : BitVec 32) (v147 : BitVec 32) (k0_hw1 : k0_chk1 i v144 v147), ∀ (k0_h1 : k0_cond1 i = 1#1), ∀ (k0_h4 : k0_cond4 i v144 = 1#1), ∀ a, (k0_off10 v144 v147) a + S512x1024.size a ≤ S32768x1024.size a := fun i v144 v147 k0_hw1 k0_h1 k0_h4 => k0_hw1.2.2.2.2.2.1 k0_h1 k0_h4
theorem k0_mult7_dvd : ∀ (i : grid0.Coords) (v144 : BitVec 32) (v147 : BitVec 32) (k0_hw1 : k0_chk1 i v144 v147), ∀ (k0_h1 : k0_cond1 i = 1#1), ∀ (k0_h5 : k0_cond5 i v144 = 1#1), 128 ∣ (k0_mult7 v144 v147).toNat := fun i v144 v147 k0_hw1 k0_h1 k0_h5 => k0_hw1.2.2.2.2.2.2.1 k0_h1 k0_h5
theorem k0_off13_inb : ∀ (i : grid0.Coords) (v144 : BitVec 32) (v147 : BitVec 32) (k0_hw1 : k0_chk1 i v144 v147), ∀ (k0_h1 : k0_cond1 i = 1#1), ∀ (k0_h5 : k0_cond5 i v144 = 1#1), ∀ a, (k0_off13 v144 v147) a + S256x1024.size a ≤ S32768x1024.size a := fun i v144 v147 k0_hw1 k0_h1 k0_h5 => k0_hw1.2.2.2.2.2.2.2.1 k0_h1 k0_h5
theorem k0_mult9_dvd : ∀ (i : grid0.Coords) (v144 : BitVec 32) (v147 : BitVec 32) (k0_hw1 : k0_chk1 i v144 v147), ∀ (k0_h1 : k0_cond1 i = 1#1), ∀ (k0_h6 : k0_cond6 i v144 = 1#1), 128 ∣ (k0_mult9 v144 v147).toNat := fun i v144 v147 k0_hw1 k0_h1 k0_h6 => k0_hw1.2.2.2.2.2.2.2.2.1 k0_h1 k0_h6
theorem k0_off16_inb : ∀ (i : grid0.Coords) (v144 : BitVec 32) (v147 : BitVec 32) (k0_hw1 : k0_chk1 i v144 v147), ∀ (k0_h1 : k0_cond1 i = 1#1), ∀ (k0_h6 : k0_cond6 i v144 = 1#1), ∀ a, (k0_off16 v144 v147) a + S128x1024.size a ≤ S32768x1024.size a := fun i v144 v147 k0_hw1 k0_h1 k0_h6 => k0_hw1.2.2.2.2.2.2.2.2.2 k0_h1 k0_h6

def k0_off17 (i : grid0.Coords) : Fin 1 → Nat :=
  let arg0 : BitVec 32 := BitVec.ofNat 32 (i 0).val
  let c1_i32 : BitVec 32 := 1#32
  let v198 : BitVec 32 := Scalar.addi arg0 c1_i32
  let c21_i32_118 : BitVec 32 := 21#32
  let v199 : BitVec 32 := Scalar.minsi v198 c21_i32_118
  let v200 : Index := Scalar.indexCast v199
  ![v200.toNat]
def k0_mult11 (v204 : BitVec 32) : BitVec 32 :=
  let c0_i32_123 : BitVec 32 := 0#32
  let v255 : BitVec 32 := Scalar.addi v204 c0_i32_123
  v255
def k0_cond7 (i : grid0.Coords) (v201 : BitVec 32) : BitVec 1 :=
  let arg0 : BitVec 32 := BitVec.ofNat 32 (i 0).val
  let c1_i32 : BitVec 32 := 1#32
  let v198 : BitVec 32 := Scalar.addi arg0 c1_i32
  let c22_i32_122 : BitVec 32 := 22#32
  let v207 : BitVec 1 := Scalar.cmpi .slt v198 c22_i32_122
  let c2048_i32_120 : BitVec 32 := 2048#32
  let v205 : BitVec 32 := Scalar.andi v201 c2048_i32_120
  let c0_i32_121 : BitVec 32 := 0#32
  let v206 : BitVec 1 := Scalar.cmpi .ne v205 c0_i32_121
  let v208 : BitVec 1 := Scalar.andi v207 v206
  let v209 : BitVec 32 := Scalar.extui v208
  let c0_i32_124 : BitVec 32 := 0#32
  let v210 : BitVec 1 := Scalar.cmpi .ne v209 c0_i32_124
  v210

def k0_mult12 : BitVec 32 :=
  let c0_i32_123 : BitVec 32 := 0#32
  c0_i32_123
def k0_off18 (i : grid0.Coords) : Fin 1 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  ![v202.toNat]
def k0_off19 (i : grid0.Coords) : Fin 3 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  let c0_i32_123 : BitVec 32 := 0#32
  let v257 : BitVec 32 := c0_i32_123
  let c0_i32_155 : BitVec 32 := 0#32
  ![v202.toNat, 0, 0]
def k0_off20 (v204 : BitVec 32) : Fin 2 → Nat :=
  let c0_i32_123 : BitVec 32 := 0#32
  let v255 : BitVec 32 := Scalar.addi v204 c0_i32_123
  let v256 : BitVec 32 := v255
  let c0_i32_156 : BitVec 32 := 0#32
  ![v256.toNat, 0]
def k0_mult13 (v201 : BitVec 32) (v204 : BitVec 32) : BitVec 32 :=
  let c0_i32_126 : BitVec 32 := 0#32
  let c2048_i32_125 : BitVec 32 := 2048#32
  let v211 : BitVec 32 := Scalar.andi v201 c2048_i32_125
  let v212 : BitVec 32 := Scalar.addi c0_i32_126 v211
  let v255 : BitVec 32 := Scalar.addi v204 v212
  v255
def k0_cond8 (i : grid0.Coords) (v201 : BitVec 32) : BitVec 1 :=
  let arg0 : BitVec 32 := BitVec.ofNat 32 (i 0).val
  let c1_i32 : BitVec 32 := 1#32
  let v198 : BitVec 32 := Scalar.addi arg0 c1_i32
  let c22_i32_129 : BitVec 32 := 22#32
  let v215 : BitVec 1 := Scalar.cmpi .slt v198 c22_i32_129
  let c1024_i32_127 : BitVec 32 := 1024#32
  let v213 : BitVec 32 := Scalar.andi v201 c1024_i32_127
  let c0_i32_128 : BitVec 32 := 0#32
  let v214 : BitVec 1 := Scalar.cmpi .ne v213 c0_i32_128
  let v216 : BitVec 1 := Scalar.andi v215 v214
  let v217 : BitVec 32 := Scalar.extui v216
  let c0_i32_130 : BitVec 32 := 0#32
  let v218 : BitVec 1 := Scalar.cmpi .ne v217 c0_i32_130
  v218

def k0_mult14 (v201 : BitVec 32) : BitVec 32 :=
  let c0_i32_126 : BitVec 32 := 0#32
  let c2048_i32_125 : BitVec 32 := 2048#32
  let v211 : BitVec 32 := Scalar.andi v201 c2048_i32_125
  let v212 : BitVec 32 := Scalar.addi c0_i32_126 v211
  v212

def k0_off21 (i : grid0.Coords) : Fin 1 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  ![v202.toNat]
def k0_off22 (i : grid0.Coords) (v201 : BitVec 32) : Fin 3 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  let c0_i32_126 : BitVec 32 := 0#32
  let c2048_i32_125 : BitVec 32 := 2048#32
  let v211 : BitVec 32 := Scalar.andi v201 c2048_i32_125
  let v212 : BitVec 32 := Scalar.addi c0_i32_126 v211
  let v257 : BitVec 32 := v212
  let c0_i32_155 : BitVec 32 := 0#32
  ![v202.toNat, v257.toNat, 0]
def k0_off23 (v201 : BitVec 32) (v204 : BitVec 32) : Fin 2 → Nat :=
  let c0_i32_126 : BitVec 32 := 0#32
  let c2048_i32_125 : BitVec 32 := 2048#32
  let v211 : BitVec 32 := Scalar.andi v201 c2048_i32_125
  let v212 : BitVec 32 := Scalar.addi c0_i32_126 v211
  let v255 : BitVec 32 := Scalar.addi v204 v212
  let v256 : BitVec 32 := v255
  let c0_i32_156 : BitVec 32 := 0#32
  ![v256.toNat, 0]
def k0_mult15 (v201 : BitVec 32) (v204 : BitVec 32) : BitVec 32 :=
  let c0_i32_132 : BitVec 32 := 0#32
  let c2048_i32_131 : BitVec 32 := 2048#32
  let v219 : BitVec 32 := Scalar.andi v201 c2048_i32_131
  let v220 : BitVec 32 := Scalar.addi c0_i32_132 v219
  let c1024_i32_133 : BitVec 32 := 1024#32
  let v221 : BitVec 32 := Scalar.andi v201 c1024_i32_133
  let v222 : BitVec 32 := Scalar.addi v220 v221
  let v255 : BitVec 32 := Scalar.addi v204 v222
  v255
def k0_cond9 (i : grid0.Coords) (v201 : BitVec 32) : BitVec 1 :=
  let arg0 : BitVec 32 := BitVec.ofNat 32 (i 0).val
  let c1_i32 : BitVec 32 := 1#32
  let v198 : BitVec 32 := Scalar.addi arg0 c1_i32
  let c22_i32_136 : BitVec 32 := 22#32
  let v225 : BitVec 1 := Scalar.cmpi .slt v198 c22_i32_136
  let c512_i32_134 : BitVec 32 := 512#32
  let v223 : BitVec 32 := Scalar.andi v201 c512_i32_134
  let c0_i32_135 : BitVec 32 := 0#32
  let v224 : BitVec 1 := Scalar.cmpi .ne v223 c0_i32_135
  let v226 : BitVec 1 := Scalar.andi v225 v224
  let v227 : BitVec 32 := Scalar.extui v226
  let c0_i32_137 : BitVec 32 := 0#32
  let v228 : BitVec 1 := Scalar.cmpi .ne v227 c0_i32_137
  v228

def k0_mult16 (v201 : BitVec 32) : BitVec 32 :=
  let c0_i32_132 : BitVec 32 := 0#32
  let c2048_i32_131 : BitVec 32 := 2048#32
  let v219 : BitVec 32 := Scalar.andi v201 c2048_i32_131
  let v220 : BitVec 32 := Scalar.addi c0_i32_132 v219
  let c1024_i32_133 : BitVec 32 := 1024#32
  let v221 : BitVec 32 := Scalar.andi v201 c1024_i32_133
  let v222 : BitVec 32 := Scalar.addi v220 v221
  v222
def k0_off24 (i : grid0.Coords) : Fin 1 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  ![v202.toNat]
def k0_off25 (i : grid0.Coords) (v201 : BitVec 32) : Fin 3 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  let c0_i32_132 : BitVec 32 := 0#32
  let c2048_i32_131 : BitVec 32 := 2048#32
  let v219 : BitVec 32 := Scalar.andi v201 c2048_i32_131
  let v220 : BitVec 32 := Scalar.addi c0_i32_132 v219
  let c1024_i32_133 : BitVec 32 := 1024#32
  let v221 : BitVec 32 := Scalar.andi v201 c1024_i32_133
  let v222 : BitVec 32 := Scalar.addi v220 v221
  let v257 : BitVec 32 := v222
  let c0_i32_155 : BitVec 32 := 0#32
  ![v202.toNat, v257.toNat, 0]
def k0_off26 (v201 : BitVec 32) (v204 : BitVec 32) : Fin 2 → Nat :=
  let c0_i32_132 : BitVec 32 := 0#32
  let c2048_i32_131 : BitVec 32 := 2048#32
  let v219 : BitVec 32 := Scalar.andi v201 c2048_i32_131
  let v220 : BitVec 32 := Scalar.addi c0_i32_132 v219
  let c1024_i32_133 : BitVec 32 := 1024#32
  let v221 : BitVec 32 := Scalar.andi v201 c1024_i32_133
  let v222 : BitVec 32 := Scalar.addi v220 v221
  let v255 : BitVec 32 := Scalar.addi v204 v222
  let v256 : BitVec 32 := v255
  let c0_i32_156 : BitVec 32 := 0#32
  ![v256.toNat, 0]
def k0_mult17 (v201 : BitVec 32) (v204 : BitVec 32) : BitVec 32 :=
  let c0_i32_139 : BitVec 32 := 0#32
  let c2048_i32_138 : BitVec 32 := 2048#32
  let v229 : BitVec 32 := Scalar.andi v201 c2048_i32_138
  let v230 : BitVec 32 := Scalar.addi c0_i32_139 v229
  let c1024_i32_140 : BitVec 32 := 1024#32
  let v231 : BitVec 32 := Scalar.andi v201 c1024_i32_140
  let v232 : BitVec 32 := Scalar.addi v230 v231
  let c512_i32_141 : BitVec 32 := 512#32
  let v233 : BitVec 32 := Scalar.andi v201 c512_i32_141
  let v234 : BitVec 32 := Scalar.addi v232 v233
  let v255 : BitVec 32 := Scalar.addi v204 v234
  v255
def k0_cond10 (i : grid0.Coords) (v201 : BitVec 32) : BitVec 1 :=
  let arg0 : BitVec 32 := BitVec.ofNat 32 (i 0).val
  let c1_i32 : BitVec 32 := 1#32
  let v198 : BitVec 32 := Scalar.addi arg0 c1_i32
  let c22_i32_144 : BitVec 32 := 22#32
  let v237 : BitVec 1 := Scalar.cmpi .slt v198 c22_i32_144
  let c256_i32_142 : BitVec 32 := 256#32
  let v235 : BitVec 32 := Scalar.andi v201 c256_i32_142
  let c0_i32_143 : BitVec 32 := 0#32
  let v236 : BitVec 1 := Scalar.cmpi .ne v235 c0_i32_143
  let v238 : BitVec 1 := Scalar.andi v237 v236
  let v239 : BitVec 32 := Scalar.extui v238
  let c0_i32_145 : BitVec 32 := 0#32
  let v240 : BitVec 1 := Scalar.cmpi .ne v239 c0_i32_145
  v240

def k0_mult18 (v201 : BitVec 32) : BitVec 32 :=
  let c0_i32_139 : BitVec 32 := 0#32
  let c2048_i32_138 : BitVec 32 := 2048#32
  let v229 : BitVec 32 := Scalar.andi v201 c2048_i32_138
  let v230 : BitVec 32 := Scalar.addi c0_i32_139 v229
  let c1024_i32_140 : BitVec 32 := 1024#32
  let v231 : BitVec 32 := Scalar.andi v201 c1024_i32_140
  let v232 : BitVec 32 := Scalar.addi v230 v231
  let c512_i32_141 : BitVec 32 := 512#32
  let v233 : BitVec 32 := Scalar.andi v201 c512_i32_141
  let v234 : BitVec 32 := Scalar.addi v232 v233
  v234
def k0_off27 (i : grid0.Coords) : Fin 1 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  ![v202.toNat]
def k0_off28 (i : grid0.Coords) (v201 : BitVec 32) : Fin 3 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  let c0_i32_139 : BitVec 32 := 0#32
  let c2048_i32_138 : BitVec 32 := 2048#32
  let v229 : BitVec 32 := Scalar.andi v201 c2048_i32_138
  let v230 : BitVec 32 := Scalar.addi c0_i32_139 v229
  let c1024_i32_140 : BitVec 32 := 1024#32
  let v231 : BitVec 32 := Scalar.andi v201 c1024_i32_140
  let v232 : BitVec 32 := Scalar.addi v230 v231
  let c512_i32_141 : BitVec 32 := 512#32
  let v233 : BitVec 32 := Scalar.andi v201 c512_i32_141
  let v234 : BitVec 32 := Scalar.addi v232 v233
  let v257 : BitVec 32 := v234
  let c0_i32_155 : BitVec 32 := 0#32
  ![v202.toNat, v257.toNat, 0]
def k0_off29 (v201 : BitVec 32) (v204 : BitVec 32) : Fin 2 → Nat :=
  let c0_i32_139 : BitVec 32 := 0#32
  let c2048_i32_138 : BitVec 32 := 2048#32
  let v229 : BitVec 32 := Scalar.andi v201 c2048_i32_138
  let v230 : BitVec 32 := Scalar.addi c0_i32_139 v229
  let c1024_i32_140 : BitVec 32 := 1024#32
  let v231 : BitVec 32 := Scalar.andi v201 c1024_i32_140
  let v232 : BitVec 32 := Scalar.addi v230 v231
  let c512_i32_141 : BitVec 32 := 512#32
  let v233 : BitVec 32 := Scalar.andi v201 c512_i32_141
  let v234 : BitVec 32 := Scalar.addi v232 v233
  let v255 : BitVec 32 := Scalar.addi v204 v234
  let v256 : BitVec 32 := v255
  let c0_i32_156 : BitVec 32 := 0#32
  ![v256.toNat, 0]
def k0_mult19 (v201 : BitVec 32) (v204 : BitVec 32) : BitVec 32 :=
  let c0_i32_147 : BitVec 32 := 0#32
  let c2048_i32_146 : BitVec 32 := 2048#32
  let v241 : BitVec 32 := Scalar.andi v201 c2048_i32_146
  let v242 : BitVec 32 := Scalar.addi c0_i32_147 v241
  let c1024_i32_148 : BitVec 32 := 1024#32
  let v243 : BitVec 32 := Scalar.andi v201 c1024_i32_148
  let v244 : BitVec 32 := Scalar.addi v242 v243
  let c512_i32_149 : BitVec 32 := 512#32
  let v245 : BitVec 32 := Scalar.andi v201 c512_i32_149
  let v246 : BitVec 32 := Scalar.addi v244 v245
  let c256_i32_150 : BitVec 32 := 256#32
  let v247 : BitVec 32 := Scalar.andi v201 c256_i32_150
  let v248 : BitVec 32 := Scalar.addi v246 v247
  let v255 : BitVec 32 := Scalar.addi v204 v248
  v255
def k0_cond11 (i : grid0.Coords) (v201 : BitVec 32) : BitVec 1 :=
  let arg0 : BitVec 32 := BitVec.ofNat 32 (i 0).val
  let c1_i32 : BitVec 32 := 1#32
  let v198 : BitVec 32 := Scalar.addi arg0 c1_i32
  let c22_i32_153 : BitVec 32 := 22#32
  let v251 : BitVec 1 := Scalar.cmpi .slt v198 c22_i32_153
  let c128_i32_151 : BitVec 32 := 128#32
  let v249 : BitVec 32 := Scalar.andi v201 c128_i32_151
  let c0_i32_152 : BitVec 32 := 0#32
  let v250 : BitVec 1 := Scalar.cmpi .ne v249 c0_i32_152
  let v252 : BitVec 1 := Scalar.andi v251 v250
  let v253 : BitVec 32 := Scalar.extui v252
  let c0_i32_154 : BitVec 32 := 0#32
  let v254 : BitVec 1 := Scalar.cmpi .ne v253 c0_i32_154
  v254

def k0_mult20 (v201 : BitVec 32) : BitVec 32 :=
  let c0_i32_147 : BitVec 32 := 0#32
  let c2048_i32_146 : BitVec 32 := 2048#32
  let v241 : BitVec 32 := Scalar.andi v201 c2048_i32_146
  let v242 : BitVec 32 := Scalar.addi c0_i32_147 v241
  let c1024_i32_148 : BitVec 32 := 1024#32
  let v243 : BitVec 32 := Scalar.andi v201 c1024_i32_148
  let v244 : BitVec 32 := Scalar.addi v242 v243
  let c512_i32_149 : BitVec 32 := 512#32
  let v245 : BitVec 32 := Scalar.andi v201 c512_i32_149
  let v246 : BitVec 32 := Scalar.addi v244 v245
  let c256_i32_150 : BitVec 32 := 256#32
  let v247 : BitVec 32 := Scalar.andi v201 c256_i32_150
  let v248 : BitVec 32 := Scalar.addi v246 v247
  v248
def k0_off30 (i : grid0.Coords) : Fin 1 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  ![v202.toNat]
def k0_off31 (i : grid0.Coords) (v201 : BitVec 32) : Fin 3 → Nat :=
  let arg0 : BitVec 32 := BitVec.ofNat 32 (i 0).val
  let c1_i32 : BitVec 32 := 1#32
  let v198 : BitVec 32 := Scalar.addi arg0 c1_i32
  let c3_i32_119 : BitVec 32 := 3#32
  let v202 : BitVec 32 := Scalar.remsi v198 c3_i32_119
  let c0_i32_147 : BitVec 32 := 0#32
  let c2048_i32_146 : BitVec 32 := 2048#32
  let v241 : BitVec 32 := Scalar.andi v201 c2048_i32_146
  let v242 : BitVec 32 := Scalar.addi c0_i32_147 v241
  let c1024_i32_148 : BitVec 32 := 1024#32
  let v243 : BitVec 32 := Scalar.andi v201 c1024_i32_148
  let v244 : BitVec 32 := Scalar.addi v242 v243
  let c512_i32_149 : BitVec 32 := 512#32
  let v245 : BitVec 32 := Scalar.andi v201 c512_i32_149
  let v246 : BitVec 32 := Scalar.addi v244 v245
  let c256_i32_150 : BitVec 32 := 256#32
  let v247 : BitVec 32 := Scalar.andi v201 c256_i32_150
  let v248 : BitVec 32 := Scalar.addi v246 v247
  let v257 : BitVec 32 := v248
  let c0_i32_155 : BitVec 32 := 0#32
  ![v202.toNat, v257.toNat, 0]

def k0_chk4 (i : grid0.Coords) (v201 : BitVec 32) : Prop :=
  (∀ (k0_h1 : k0_cond1 i = 1#1), ∀ (k0_h8 : k0_cond8 i v201 = 1#1), 128 ∣ (k0_mult14 v201).toNat) ∧
  (∀ (k0_h1 : k0_cond1 i = 1#1), ∀ (k0_h8 : k0_cond8 i v201 = 1#1), ∀ a, (k0_off22 i v201) a + S1x1024x1024.size a ≤ S3x2048x1024.size a) ∧
  (∀ (k0_h1 : k0_cond1 i = 1#1), ∀ (k0_h9 : k0_cond9 i v201 = 1#1), 128 ∣ (k0_mult16 v201).toNat) ∧
  (∀ (k0_h1 : k0_cond1 i = 1#1), ∀ (k0_h9 : k0_cond9 i v201 = 1#1), ∀ a, (k0_off25 i v201) a + S1x512x1024.size a ≤ S3x2048x1024.size a) ∧
  (∀ (k0_h1 : k0_cond1 i = 1#1), ∀ (k0_h10 : k0_cond10 i v201 = 1#1), 128 ∣ (k0_mult18 v201).toNat) ∧
  (∀ (k0_h1 : k0_cond1 i = 1#1), ∀ (k0_h10 : k0_cond10 i v201 = 1#1), ∀ a, (k0_off28 i v201) a + S1x256x1024.size a ≤ S3x2048x1024.size a) ∧
  (∀ (k0_h1 : k0_cond1 i = 1#1), ∀ (k0_h11 : k0_cond11 i v201 = 1#1), 128 ∣ (k0_mult20 v201).toNat) ∧
  (∀ (k0_h1 : k0_cond1 i = 1#1), ∀ (k0_h11 : k0_cond11 i v201 = 1#1), ∀ a, (k0_off31 i v201) a + S1x128x1024.size a ≤ S3x2048x1024.size a)
theorem k0_mult14_dvd : ∀ (i : grid0.Coords) (v201 : BitVec 32) (k0_hw4 : k0_chk4 i v201), ∀ (k0_h1 : k0_cond1 i = 1#1), ∀ (k0_h8 : k0_cond8 i v201 = 1#1), 128 ∣ (k0_mult14 v201).toNat := fun i v201 k0_hw4 k0_h1 k0_h8 => k0_hw4.1 k0_h1 k0_h8
theorem k0_off22_inb : ∀ (i : grid0.Coords) (v201 : BitVec 32) (k0_hw4 : k0_chk4 i v201), ∀ (k0_h1 : k0_cond1 i = 1#1), ∀ (k0_h8 : k0_cond8 i v201 = 1#1), ∀ a, (k0_off22 i v201) a + S1x1024x1024.size a ≤ S3x2048x1024.size a := fun i v201 k0_hw4 k0_h1 k0_h8 => k0_hw4.2.1 k0_h1 k0_h8
theorem k0_mult16_dvd : ∀ (i : grid0.Coords) (v201 : BitVec 32) (k0_hw4 : k0_chk4 i v201), ∀ (k0_h1 : k0_cond1 i = 1#1), ∀ (k0_h9 : k0_cond9 i v201 = 1#1), 128 ∣ (k0_mult16 v201).toNat := fun i v201 k0_hw4 k0_h1 k0_h9 => k0_hw4.2.2.1 k0_h1 k0_h9
theorem k0_off25_inb : ∀ (i : grid0.Coords) (v201 : BitVec 32) (k0_hw4 : k0_chk4 i v201), ∀ (k0_h1 : k0_cond1 i = 1#1), ∀ (k0_h9 : k0_cond9 i v201 = 1#1), ∀ a, (k0_off25 i v201) a + S1x512x1024.size a ≤ S3x2048x1024.size a := fun i v201 k0_hw4 k0_h1 k0_h9 => k0_hw4.2.2.2.1 k0_h1 k0_h9
theorem k0_mult18_dvd : ∀ (i : grid0.Coords) (v201 : BitVec 32) (k0_hw4 : k0_chk4 i v201), ∀ (k0_h1 : k0_cond1 i = 1#1), ∀ (k0_h10 : k0_cond10 i v201 = 1#1), 128 ∣ (k0_mult18 v201).toNat := fun i v201 k0_hw4 k0_h1 k0_h10 => k0_hw4.2.2.2.2.1 k0_h1 k0_h10
theorem k0_off28_inb : ∀ (i : grid0.Coords) (v201 : BitVec 32) (k0_hw4 : k0_chk4 i v201), ∀ (k0_h1 : k0_cond1 i = 1#1), ∀ (k0_h10 : k0_cond10 i v201 = 1#1), ∀ a, (k0_off28 i v201) a + S1x256x1024.size a ≤ S3x2048x1024.size a := fun i v201 k0_hw4 k0_h1 k0_h10 => k0_hw4.2.2.2.2.2.1 k0_h1 k0_h10
theorem k0_mult20_dvd : ∀ (i : grid0.Coords) (v201 : BitVec 32) (k0_hw4 : k0_chk4 i v201), ∀ (k0_h1 : k0_cond1 i = 1#1), ∀ (k0_h11 : k0_cond11 i v201 = 1#1), 128 ∣ (k0_mult20 v201).toNat := fun i v201 k0_hw4 k0_h1 k0_h11 => k0_hw4.2.2.2.2.2.2.1 k0_h1 k0_h11
theorem k0_off31_inb : ∀ (i : grid0.Coords) (v201 : BitVec 32) (k0_hw4 : k0_chk4 i v201), ∀ (k0_h1 : k0_cond1 i = 1#1), ∀ (k0_h11 : k0_cond11 i v201 = 1#1), ∀ a, (k0_off31 i v201) a + S1x128x1024.size a ≤ S3x2048x1024.size a := fun i v201 k0_hw4 k0_h1 k0_h11 => k0_hw4.2.2.2.2.2.2.2 k0_h1 k0_h11

def k0_off32 (v201 : BitVec 32) (v204 : BitVec 32) : Fin 2 → Nat :=
  let c0_i32_147 : BitVec 32 := 0#32
  let c2048_i32_146 : BitVec 32 := 2048#32
  let v241 : BitVec 32 := Scalar.andi v201 c2048_i32_146
  let v242 : BitVec 32 := Scalar.addi c0_i32_147 v241
  let c1024_i32_148 : BitVec 32 := 1024#32
  let v243 : BitVec 32 := Scalar.andi v201 c1024_i32_148
  let v244 : BitVec 32 := Scalar.addi v242 v243
  let c512_i32_149 : BitVec 32 := 512#32
  let v245 : BitVec 32 := Scalar.andi v201 c512_i32_149
  let v246 : BitVec 32 := Scalar.addi v244 v245
  let c256_i32_150 : BitVec 32 := 256#32
  let v247 : BitVec 32 := Scalar.andi v201 c256_i32_150
  let v248 : BitVec 32 := Scalar.addi v246 v247
  let v255 : BitVec 32 := Scalar.addi v204 v248
  let v256 : BitVec 32 := v255
  let c0_i32_156 : BitVec 32 := 0#32
  ![v256.toNat, 0]

def k0_chk3 (i : grid0.Coords) (v201 : BitVec 32) (v204 : BitVec 32) : Prop :=
  (∀ (k0_h1 : k0_cond1 i = 1#1), ∀ (k0_h7 : k0_cond7 i v201 = 1#1), 128 ∣ (k0_mult11 v204).toNat) ∧
  (∀ (k0_h1 : k0_cond1 i = 1#1), ∀ (k0_h7 : k0_cond7 i v201 = 1#1), ∀ a, (k0_off20 v204) a + S2048x1024.size a ≤ S32768x1024.size a) ∧
  (∀ (k0_h1 : k0_cond1 i = 1#1), ∀ (k0_h8 : k0_cond8 i v201 = 1#1), 128 ∣ (k0_mult13 v201 v204).toNat) ∧
  (∀ (k0_h1 : k0_cond1 i = 1#1), ∀ (k0_h8 : k0_cond8 i v201 = 1#1), ∀ a, (k0_off23 v201 v204) a + S1024x1024.size a ≤ S32768x1024.size a) ∧
  (∀ (k0_h1 : k0_cond1 i = 1#1), ∀ (k0_h9 : k0_cond9 i v201 = 1#1), 128 ∣ (k0_mult15 v201 v204).toNat) ∧
  (∀ (k0_h1 : k0_cond1 i = 1#1), ∀ (k0_h9 : k0_cond9 i v201 = 1#1), ∀ a, (k0_off26 v201 v204) a + S512x1024.size a ≤ S32768x1024.size a) ∧
  (∀ (k0_h1 : k0_cond1 i = 1#1), ∀ (k0_h10 : k0_cond10 i v201 = 1#1), 128 ∣ (k0_mult17 v201 v204).toNat) ∧
  (∀ (k0_h1 : k0_cond1 i = 1#1), ∀ (k0_h10 : k0_cond10 i v201 = 1#1), ∀ a, (k0_off29 v201 v204) a + S256x1024.size a ≤ S32768x1024.size a) ∧
  (∀ (k0_h1 : k0_cond1 i = 1#1), ∀ (k0_h11 : k0_cond11 i v201 = 1#1), 128 ∣ (k0_mult19 v201 v204).toNat) ∧
  (∀ (k0_h1 : k0_cond1 i = 1#1), ∀ (k0_h11 : k0_cond11 i v201 = 1#1), ∀ a, (k0_off32 v201 v204) a + S128x1024.size a ≤ S32768x1024.size a)
theorem k0_mult11_dvd : ∀ (i : grid0.Coords) (v201 : BitVec 32) (v204 : BitVec 32) (k0_hw3 : k0_chk3 i v201 v204), ∀ (k0_h1 : k0_cond1 i = 1#1), ∀ (k0_h7 : k0_cond7 i v201 = 1#1), 128 ∣ (k0_mult11 v204).toNat := fun i v201 v204 k0_hw3 k0_h1 k0_h7 => k0_hw3.1 k0_h1 k0_h7
theorem k0_off20_inb : ∀ (i : grid0.Coords) (v201 : BitVec 32) (v204 : BitVec 32) (k0_hw3 : k0_chk3 i v201 v204), ∀ (k0_h1 : k0_cond1 i = 1#1), ∀ (k0_h7 : k0_cond7 i v201 = 1#1), ∀ a, (k0_off20 v204) a + S2048x1024.size a ≤ S32768x1024.size a := fun i v201 v204 k0_hw3 k0_h1 k0_h7 => k0_hw3.2.1 k0_h1 k0_h7
theorem k0_mult13_dvd : ∀ (i : grid0.Coords) (v201 : BitVec 32) (v204 : BitVec 32) (k0_hw3 : k0_chk3 i v201 v204), ∀ (k0_h1 : k0_cond1 i = 1#1), ∀ (k0_h8 : k0_cond8 i v201 = 1#1), 128 ∣ (k0_mult13 v201 v204).toNat := fun i v201 v204 k0_hw3 k0_h1 k0_h8 => k0_hw3.2.2.1 k0_h1 k0_h8
theorem k0_off23_inb : ∀ (i : grid0.Coords) (v201 : BitVec 32) (v204 : BitVec 32) (k0_hw3 : k0_chk3 i v201 v204), ∀ (k0_h1 : k0_cond1 i = 1#1), ∀ (k0_h8 : k0_cond8 i v201 = 1#1), ∀ a, (k0_off23 v201 v204) a + S1024x1024.size a ≤ S32768x1024.size a := fun i v201 v204 k0_hw3 k0_h1 k0_h8 => k0_hw3.2.2.2.1 k0_h1 k0_h8
theorem k0_mult15_dvd : ∀ (i : grid0.Coords) (v201 : BitVec 32) (v204 : BitVec 32) (k0_hw3 : k0_chk3 i v201 v204), ∀ (k0_h1 : k0_cond1 i = 1#1), ∀ (k0_h9 : k0_cond9 i v201 = 1#1), 128 ∣ (k0_mult15 v201 v204).toNat := fun i v201 v204 k0_hw3 k0_h1 k0_h9 => k0_hw3.2.2.2.2.1 k0_h1 k0_h9
theorem k0_off26_inb : ∀ (i : grid0.Coords) (v201 : BitVec 32) (v204 : BitVec 32) (k0_hw3 : k0_chk3 i v201 v204), ∀ (k0_h1 : k0_cond1 i = 1#1), ∀ (k0_h9 : k0_cond9 i v201 = 1#1), ∀ a, (k0_off26 v201 v204) a + S512x1024.size a ≤ S32768x1024.size a := fun i v201 v204 k0_hw3 k0_h1 k0_h9 => k0_hw3.2.2.2.2.2.1 k0_h1 k0_h9
theorem k0_mult17_dvd : ∀ (i : grid0.Coords) (v201 : BitVec 32) (v204 : BitVec 32) (k0_hw3 : k0_chk3 i v201 v204), ∀ (k0_h1 : k0_cond1 i = 1#1), ∀ (k0_h10 : k0_cond10 i v201 = 1#1), 128 ∣ (k0_mult17 v201 v204).toNat := fun i v201 v204 k0_hw3 k0_h1 k0_h10 => k0_hw3.2.2.2.2.2.2.1 k0_h1 k0_h10
theorem k0_off29_inb : ∀ (i : grid0.Coords) (v201 : BitVec 32) (v204 : BitVec 32) (k0_hw3 : k0_chk3 i v201 v204), ∀ (k0_h1 : k0_cond1 i = 1#1), ∀ (k0_h10 : k0_cond10 i v201 = 1#1), ∀ a, (k0_off29 v201 v204) a + S256x1024.size a ≤ S32768x1024.size a := fun i v201 v204 k0_hw3 k0_h1 k0_h10 => k0_hw3.2.2.2.2.2.2.2.1 k0_h1 k0_h10
theorem k0_mult19_dvd : ∀ (i : grid0.Coords) (v201 : BitVec 32) (v204 : BitVec 32) (k0_hw3 : k0_chk3 i v201 v204), ∀ (k0_h1 : k0_cond1 i = 1#1), ∀ (k0_h11 : k0_cond11 i v201 = 1#1), 128 ∣ (k0_mult19 v201 v204).toNat := fun i v201 v204 k0_hw3 k0_h1 k0_h11 => k0_hw3.2.2.2.2.2.2.2.2.1 k0_h1 k0_h11
theorem k0_off32_inb : ∀ (i : grid0.Coords) (v201 : BitVec 32) (v204 : BitVec 32) (k0_hw3 : k0_chk3 i v201 v204), ∀ (k0_h1 : k0_cond1 i = 1#1), ∀ (k0_h11 : k0_cond11 i v201 = 1#1), ∀ a, (k0_off32 v201 v204) a + S128x1024.size a ≤ S32768x1024.size a := fun i v201 v204 k0_hw3 k0_h1 k0_h11 => k0_hw3.2.2.2.2.2.2.2.2.2 k0_h1 k0_h11

def k0_off33 (i : grid0.Coords) : Fin 1 → Nat :=
  let arg0 : BitVec 32 := BitVec.ofNat 32 (i 0).val
  let c2_i32 : BitVec 32 := 2#32
  let v3 : BitVec 32 := Scalar.addi arg0 c2_i32
  let c21_i32 : BitVec 32 := 21#32
  let v4 : BitVec 32 := Scalar.minsi v3 c21_i32
  let v5 : Index := Scalar.indexCast v4
  ![v5.toNat]
def k0_mult21 (v9 : BitVec 32) : BitVec 32 :=
  let c0_i32_2 : BitVec 32 := 0#32
  let v138 : BitVec 32 := Scalar.addi v9 c0_i32_2
  v138
def k0_cond12 (i : grid0.Coords) (v6 : BitVec 32) : BitVec 1 :=
  let arg0 : BitVec 32 := BitVec.ofNat 32 (i 0).val
  let c2_i32 : BitVec 32 := 2#32
  let v3 : BitVec 32 := Scalar.addi arg0 c2_i32
  let c22_i32 : BitVec 32 := 22#32
  let v12 : BitVec 1 := Scalar.cmpi .slt v3 c22_i32
  let c2048_i32 : BitVec 32 := 2048#32
  let v10 : BitVec 32 := Scalar.andi v6 c2048_i32
  let c0_i32_1 : BitVec 32 := 0#32
  let v11 : BitVec 1 := Scalar.cmpi .ne v10 c0_i32_1
  let v13 : BitVec 1 := Scalar.andi v12 v11
  let v14 : BitVec 32 := Scalar.extui v13
  let c0_i32_3 : BitVec 32 := 0#32
  let v15 : BitVec 1 := Scalar.cmpi .ne v14 c0_i32_3
  v15

def k0_mult22 : BitVec 32 :=
  let c0_i32_2 : BitVec 32 := 0#32
  c0_i32_2
def k0_off34 (i : grid0.Coords) : Fin 1 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  ![v7.toNat]
def k0_off35 (i : grid0.Coords) : Fin 3 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  let c0_i32_2 : BitVec 32 := 0#32
  let v140 : BitVec 32 := c0_i32_2
  let c0_i32_80 : BitVec 32 := 0#32
  ![v7.toNat, 0, 0]
def k0_off36 (v9 : BitVec 32) : Fin 2 → Nat :=
  let c0_i32_2 : BitVec 32 := 0#32
  let v138 : BitVec 32 := Scalar.addi v9 c0_i32_2
  let v139 : BitVec 32 := v138
  let c0_i32_81 : BitVec 32 := 0#32
  ![v139.toNat, 0]
def k0_mult23 (v6 : BitVec 32) (v9 : BitVec 32) : BitVec 32 :=
  let c0_i32_5 : BitVec 32 := 0#32
  let c2048_i32_4 : BitVec 32 := 2048#32
  let v16 : BitVec 32 := Scalar.andi v6 c2048_i32_4
  let v17 : BitVec 32 := Scalar.addi c0_i32_5 v16
  let v138 : BitVec 32 := Scalar.addi v9 v17
  v138
def k0_cond13 (i : grid0.Coords) (v6 : BitVec 32) : BitVec 1 :=
  let arg0 : BitVec 32 := BitVec.ofNat 32 (i 0).val
  let c2_i32 : BitVec 32 := 2#32
  let v3 : BitVec 32 := Scalar.addi arg0 c2_i32
  let c22_i32_7 : BitVec 32 := 22#32
  let v20 : BitVec 1 := Scalar.cmpi .slt v3 c22_i32_7
  let c1024_i32 : BitVec 32 := 1024#32
  let v18 : BitVec 32 := Scalar.andi v6 c1024_i32
  let c0_i32_6 : BitVec 32 := 0#32
  let v19 : BitVec 1 := Scalar.cmpi .ne v18 c0_i32_6
  let v21 : BitVec 1 := Scalar.andi v20 v19
  let v22 : BitVec 32 := Scalar.extui v21
  let c0_i32_8 : BitVec 32 := 0#32
  let v23 : BitVec 1 := Scalar.cmpi .ne v22 c0_i32_8
  v23

def k0_mult24 (v6 : BitVec 32) : BitVec 32 :=
  let c0_i32_5 : BitVec 32 := 0#32
  let c2048_i32_4 : BitVec 32 := 2048#32
  let v16 : BitVec 32 := Scalar.andi v6 c2048_i32_4
  let v17 : BitVec 32 := Scalar.addi c0_i32_5 v16
  v17

def k0_off37 (i : grid0.Coords) : Fin 1 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  ![v7.toNat]
def k0_off38 (i : grid0.Coords) (v6 : BitVec 32) : Fin 3 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  let c0_i32_5 : BitVec 32 := 0#32
  let c2048_i32_4 : BitVec 32 := 2048#32
  let v16 : BitVec 32 := Scalar.andi v6 c2048_i32_4
  let v17 : BitVec 32 := Scalar.addi c0_i32_5 v16
  let v140 : BitVec 32 := v17
  let c0_i32_80 : BitVec 32 := 0#32
  ![v7.toNat, v140.toNat, 0]
def k0_off39 (v6 : BitVec 32) (v9 : BitVec 32) : Fin 2 → Nat :=
  let c0_i32_5 : BitVec 32 := 0#32
  let c2048_i32_4 : BitVec 32 := 2048#32
  let v16 : BitVec 32 := Scalar.andi v6 c2048_i32_4
  let v17 : BitVec 32 := Scalar.addi c0_i32_5 v16
  let v138 : BitVec 32 := Scalar.addi v9 v17
  let v139 : BitVec 32 := v138
  let c0_i32_81 : BitVec 32 := 0#32
  ![v139.toNat, 0]
def k0_mult25 (v6 : BitVec 32) (v9 : BitVec 32) : BitVec 32 :=
  let c0_i32_10 : BitVec 32 := 0#32
  let c2048_i32_9 : BitVec 32 := 2048#32
  let v24 : BitVec 32 := Scalar.andi v6 c2048_i32_9
  let v25 : BitVec 32 := Scalar.addi c0_i32_10 v24
  let c1024_i32_11 : BitVec 32 := 1024#32
  let v26 : BitVec 32 := Scalar.andi v6 c1024_i32_11
  let v27 : BitVec 32 := Scalar.addi v25 v26
  let v138 : BitVec 32 := Scalar.addi v9 v27
  v138
def k0_cond14 (i : grid0.Coords) (v6 : BitVec 32) : BitVec 1 :=
  let arg0 : BitVec 32 := BitVec.ofNat 32 (i 0).val
  let c2_i32 : BitVec 32 := 2#32
  let v3 : BitVec 32 := Scalar.addi arg0 c2_i32
  let c22_i32_13 : BitVec 32 := 22#32
  let v30 : BitVec 1 := Scalar.cmpi .slt v3 c22_i32_13
  let c512_i32 : BitVec 32 := 512#32
  let v28 : BitVec 32 := Scalar.andi v6 c512_i32
  let c0_i32_12 : BitVec 32 := 0#32
  let v29 : BitVec 1 := Scalar.cmpi .ne v28 c0_i32_12
  let v31 : BitVec 1 := Scalar.andi v30 v29
  let v32 : BitVec 32 := Scalar.extui v31
  let c0_i32_14 : BitVec 32 := 0#32
  let v33 : BitVec 1 := Scalar.cmpi .ne v32 c0_i32_14
  v33

def k0_mult26 (v6 : BitVec 32) : BitVec 32 :=
  let c0_i32_10 : BitVec 32 := 0#32
  let c2048_i32_9 : BitVec 32 := 2048#32
  let v24 : BitVec 32 := Scalar.andi v6 c2048_i32_9
  let v25 : BitVec 32 := Scalar.addi c0_i32_10 v24
  let c1024_i32_11 : BitVec 32 := 1024#32
  let v26 : BitVec 32 := Scalar.andi v6 c1024_i32_11
  let v27 : BitVec 32 := Scalar.addi v25 v26
  v27
def k0_off40 (i : grid0.Coords) : Fin 1 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  ![v7.toNat]
def k0_off41 (i : grid0.Coords) (v6 : BitVec 32) : Fin 3 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  let c0_i32_10 : BitVec 32 := 0#32
  let c2048_i32_9 : BitVec 32 := 2048#32
  let v24 : BitVec 32 := Scalar.andi v6 c2048_i32_9
  let v25 : BitVec 32 := Scalar.addi c0_i32_10 v24
  let c1024_i32_11 : BitVec 32 := 1024#32
  let v26 : BitVec 32 := Scalar.andi v6 c1024_i32_11
  let v27 : BitVec 32 := Scalar.addi v25 v26
  let v140 : BitVec 32 := v27
  let c0_i32_80 : BitVec 32 := 0#32
  ![v7.toNat, v140.toNat, 0]
def k0_off42 (v6 : BitVec 32) (v9 : BitVec 32) : Fin 2 → Nat :=
  let c0_i32_10 : BitVec 32 := 0#32
  let c2048_i32_9 : BitVec 32 := 2048#32
  let v24 : BitVec 32 := Scalar.andi v6 c2048_i32_9
  let v25 : BitVec 32 := Scalar.addi c0_i32_10 v24
  let c1024_i32_11 : BitVec 32 := 1024#32
  let v26 : BitVec 32 := Scalar.andi v6 c1024_i32_11
  let v27 : BitVec 32 := Scalar.addi v25 v26
  let v138 : BitVec 32 := Scalar.addi v9 v27
  let v139 : BitVec 32 := v138
  let c0_i32_81 : BitVec 32 := 0#32
  ![v139.toNat, 0]
def k0_mult27 (v6 : BitVec 32) (v9 : BitVec 32) : BitVec 32 :=
  let c0_i32_16 : BitVec 32 := 0#32
  let c2048_i32_15 : BitVec 32 := 2048#32
  let v34 : BitVec 32 := Scalar.andi v6 c2048_i32_15
  let v35 : BitVec 32 := Scalar.addi c0_i32_16 v34
  let c1024_i32_17 : BitVec 32 := 1024#32
  let v36 : BitVec 32 := Scalar.andi v6 c1024_i32_17
  let v37 : BitVec 32 := Scalar.addi v35 v36
  let c512_i32_18 : BitVec 32 := 512#32
  let v38 : BitVec 32 := Scalar.andi v6 c512_i32_18
  let v39 : BitVec 32 := Scalar.addi v37 v38
  let v138 : BitVec 32 := Scalar.addi v9 v39
  v138
def k0_cond15 (i : grid0.Coords) (v6 : BitVec 32) : BitVec 1 :=
  let arg0 : BitVec 32 := BitVec.ofNat 32 (i 0).val
  let c2_i32 : BitVec 32 := 2#32
  let v3 : BitVec 32 := Scalar.addi arg0 c2_i32
  let c22_i32_20 : BitVec 32 := 22#32
  let v42 : BitVec 1 := Scalar.cmpi .slt v3 c22_i32_20
  let c256_i32 : BitVec 32 := 256#32
  let v40 : BitVec 32 := Scalar.andi v6 c256_i32
  let c0_i32_19 : BitVec 32 := 0#32
  let v41 : BitVec 1 := Scalar.cmpi .ne v40 c0_i32_19
  let v43 : BitVec 1 := Scalar.andi v42 v41
  let v44 : BitVec 32 := Scalar.extui v43
  let c0_i32_21 : BitVec 32 := 0#32
  let v45 : BitVec 1 := Scalar.cmpi .ne v44 c0_i32_21
  v45

def k0_mult28 (v6 : BitVec 32) : BitVec 32 :=
  let c0_i32_16 : BitVec 32 := 0#32
  let c2048_i32_15 : BitVec 32 := 2048#32
  let v34 : BitVec 32 := Scalar.andi v6 c2048_i32_15
  let v35 : BitVec 32 := Scalar.addi c0_i32_16 v34
  let c1024_i32_17 : BitVec 32 := 1024#32
  let v36 : BitVec 32 := Scalar.andi v6 c1024_i32_17
  let v37 : BitVec 32 := Scalar.addi v35 v36
  let c512_i32_18 : BitVec 32 := 512#32
  let v38 : BitVec 32 := Scalar.andi v6 c512_i32_18
  let v39 : BitVec 32 := Scalar.addi v37 v38
  v39
def k0_off43 (i : grid0.Coords) : Fin 1 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  ![v7.toNat]
def k0_off44 (i : grid0.Coords) (v6 : BitVec 32) : Fin 3 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  let c0_i32_16 : BitVec 32 := 0#32
  let c2048_i32_15 : BitVec 32 := 2048#32
  let v34 : BitVec 32 := Scalar.andi v6 c2048_i32_15
  let v35 : BitVec 32 := Scalar.addi c0_i32_16 v34
  let c1024_i32_17 : BitVec 32 := 1024#32
  let v36 : BitVec 32 := Scalar.andi v6 c1024_i32_17
  let v37 : BitVec 32 := Scalar.addi v35 v36
  let c512_i32_18 : BitVec 32 := 512#32
  let v38 : BitVec 32 := Scalar.andi v6 c512_i32_18
  let v39 : BitVec 32 := Scalar.addi v37 v38
  let v140 : BitVec 32 := v39
  let c0_i32_80 : BitVec 32 := 0#32
  ![v7.toNat, v140.toNat, 0]
def k0_off45 (v6 : BitVec 32) (v9 : BitVec 32) : Fin 2 → Nat :=
  let c0_i32_16 : BitVec 32 := 0#32
  let c2048_i32_15 : BitVec 32 := 2048#32
  let v34 : BitVec 32 := Scalar.andi v6 c2048_i32_15
  let v35 : BitVec 32 := Scalar.addi c0_i32_16 v34
  let c1024_i32_17 : BitVec 32 := 1024#32
  let v36 : BitVec 32 := Scalar.andi v6 c1024_i32_17
  let v37 : BitVec 32 := Scalar.addi v35 v36
  let c512_i32_18 : BitVec 32 := 512#32
  let v38 : BitVec 32 := Scalar.andi v6 c512_i32_18
  let v39 : BitVec 32 := Scalar.addi v37 v38
  let v138 : BitVec 32 := Scalar.addi v9 v39
  let v139 : BitVec 32 := v138
  let c0_i32_81 : BitVec 32 := 0#32
  ![v139.toNat, 0]
def k0_mult29 (v6 : BitVec 32) (v9 : BitVec 32) : BitVec 32 :=
  let c0_i32_23 : BitVec 32 := 0#32
  let c2048_i32_22 : BitVec 32 := 2048#32
  let v46 : BitVec 32 := Scalar.andi v6 c2048_i32_22
  let v47 : BitVec 32 := Scalar.addi c0_i32_23 v46
  let c1024_i32_24 : BitVec 32 := 1024#32
  let v48 : BitVec 32 := Scalar.andi v6 c1024_i32_24
  let v49 : BitVec 32 := Scalar.addi v47 v48
  let c512_i32_25 : BitVec 32 := 512#32
  let v50 : BitVec 32 := Scalar.andi v6 c512_i32_25
  let v51 : BitVec 32 := Scalar.addi v49 v50
  let c256_i32_26 : BitVec 32 := 256#32
  let v52 : BitVec 32 := Scalar.andi v6 c256_i32_26
  let v53 : BitVec 32 := Scalar.addi v51 v52
  let v138 : BitVec 32 := Scalar.addi v9 v53
  v138
def k0_cond16 (i : grid0.Coords) (v6 : BitVec 32) : BitVec 1 :=
  let arg0 : BitVec 32 := BitVec.ofNat 32 (i 0).val
  let c2_i32 : BitVec 32 := 2#32
  let v3 : BitVec 32 := Scalar.addi arg0 c2_i32
  let c22_i32_28 : BitVec 32 := 22#32
  let v56 : BitVec 1 := Scalar.cmpi .slt v3 c22_i32_28
  let c128_i32 : BitVec 32 := 128#32
  let v54 : BitVec 32 := Scalar.andi v6 c128_i32
  let c0_i32_27 : BitVec 32 := 0#32
  let v55 : BitVec 1 := Scalar.cmpi .ne v54 c0_i32_27
  let v57 : BitVec 1 := Scalar.andi v56 v55
  let v58 : BitVec 32 := Scalar.extui v57
  let c0_i32_29 : BitVec 32 := 0#32
  let v59 : BitVec 1 := Scalar.cmpi .ne v58 c0_i32_29
  v59

def k0_mult30 (v6 : BitVec 32) : BitVec 32 :=
  let c0_i32_23 : BitVec 32 := 0#32
  let c2048_i32_22 : BitVec 32 := 2048#32
  let v46 : BitVec 32 := Scalar.andi v6 c2048_i32_22
  let v47 : BitVec 32 := Scalar.addi c0_i32_23 v46
  let c1024_i32_24 : BitVec 32 := 1024#32
  let v48 : BitVec 32 := Scalar.andi v6 c1024_i32_24
  let v49 : BitVec 32 := Scalar.addi v47 v48
  let c512_i32_25 : BitVec 32 := 512#32
  let v50 : BitVec 32 := Scalar.andi v6 c512_i32_25
  let v51 : BitVec 32 := Scalar.addi v49 v50
  let c256_i32_26 : BitVec 32 := 256#32
  let v52 : BitVec 32 := Scalar.andi v6 c256_i32_26
  let v53 : BitVec 32 := Scalar.addi v51 v52
  v53
def k0_off46 (i : grid0.Coords) : Fin 1 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  ![v7.toNat]
def k0_off47 (i : grid0.Coords) (v6 : BitVec 32) : Fin 3 → Nat :=
  let arg0 : BitVec 32 := BitVec.ofNat 32 (i 0).val
  let c2_i32 : BitVec 32 := 2#32
  let v3 : BitVec 32 := Scalar.addi arg0 c2_i32
  let c3_i32 : BitVec 32 := 3#32
  let v7 : BitVec 32 := Scalar.remsi v3 c3_i32
  let c0_i32_23 : BitVec 32 := 0#32
  let c2048_i32_22 : BitVec 32 := 2048#32
  let v46 : BitVec 32 := Scalar.andi v6 c2048_i32_22
  let v47 : BitVec 32 := Scalar.addi c0_i32_23 v46
  let c1024_i32_24 : BitVec 32 := 1024#32
  let v48 : BitVec 32 := Scalar.andi v6 c1024_i32_24
  let v49 : BitVec 32 := Scalar.addi v47 v48
  let c512_i32_25 : BitVec 32 := 512#32
  let v50 : BitVec 32 := Scalar.andi v6 c512_i32_25
  let v51 : BitVec 32 := Scalar.addi v49 v50
  let c256_i32_26 : BitVec 32 := 256#32
  let v52 : BitVec 32 := Scalar.andi v6 c256_i32_26
  let v53 : BitVec 32 := Scalar.addi v51 v52
  let v140 : BitVec 32 := v53
  let c0_i32_80 : BitVec 32 := 0#32
  ![v7.toNat, v140.toNat, 0]

def k0_chk6 (i : grid0.Coords) (v6 : BitVec 32) : Prop :=
  (∀ (k0_h13 : k0_cond13 i v6 = 1#1), 128 ∣ (k0_mult24 v6).toNat) ∧
  (∀ (k0_h13 : k0_cond13 i v6 = 1#1), ∀ a, (k0_off38 i v6) a + S1x1024x1024.size a ≤ S3x2048x1024.size a) ∧
  (∀ (k0_h14 : k0_cond14 i v6 = 1#1), 128 ∣ (k0_mult26 v6).toNat) ∧
  (∀ (k0_h14 : k0_cond14 i v6 = 1#1), ∀ a, (k0_off41 i v6) a + S1x512x1024.size a ≤ S3x2048x1024.size a) ∧
  (∀ (k0_h15 : k0_cond15 i v6 = 1#1), 128 ∣ (k0_mult28 v6).toNat) ∧
  (∀ (k0_h15 : k0_cond15 i v6 = 1#1), ∀ a, (k0_off44 i v6) a + S1x256x1024.size a ≤ S3x2048x1024.size a) ∧
  (∀ (k0_h16 : k0_cond16 i v6 = 1#1), 128 ∣ (k0_mult30 v6).toNat) ∧
  (∀ (k0_h16 : k0_cond16 i v6 = 1#1), ∀ a, (k0_off47 i v6) a + S1x128x1024.size a ≤ S3x2048x1024.size a)
theorem k0_mult24_dvd : ∀ (i : grid0.Coords) (v6 : BitVec 32) (k0_hw6 : k0_chk6 i v6), ∀ (k0_h13 : k0_cond13 i v6 = 1#1), 128 ∣ (k0_mult24 v6).toNat := fun i v6 k0_hw6 k0_h13 => k0_hw6.1 k0_h13
theorem k0_off38_inb : ∀ (i : grid0.Coords) (v6 : BitVec 32) (k0_hw6 : k0_chk6 i v6), ∀ (k0_h13 : k0_cond13 i v6 = 1#1), ∀ a, (k0_off38 i v6) a + S1x1024x1024.size a ≤ S3x2048x1024.size a := fun i v6 k0_hw6 k0_h13 => k0_hw6.2.1 k0_h13
theorem k0_mult26_dvd : ∀ (i : grid0.Coords) (v6 : BitVec 32) (k0_hw6 : k0_chk6 i v6), ∀ (k0_h14 : k0_cond14 i v6 = 1#1), 128 ∣ (k0_mult26 v6).toNat := fun i v6 k0_hw6 k0_h14 => k0_hw6.2.2.1 k0_h14
theorem k0_off41_inb : ∀ (i : grid0.Coords) (v6 : BitVec 32) (k0_hw6 : k0_chk6 i v6), ∀ (k0_h14 : k0_cond14 i v6 = 1#1), ∀ a, (k0_off41 i v6) a + S1x512x1024.size a ≤ S3x2048x1024.size a := fun i v6 k0_hw6 k0_h14 => k0_hw6.2.2.2.1 k0_h14
theorem k0_mult28_dvd : ∀ (i : grid0.Coords) (v6 : BitVec 32) (k0_hw6 : k0_chk6 i v6), ∀ (k0_h15 : k0_cond15 i v6 = 1#1), 128 ∣ (k0_mult28 v6).toNat := fun i v6 k0_hw6 k0_h15 => k0_hw6.2.2.2.2.1 k0_h15
theorem k0_off44_inb : ∀ (i : grid0.Coords) (v6 : BitVec 32) (k0_hw6 : k0_chk6 i v6), ∀ (k0_h15 : k0_cond15 i v6 = 1#1), ∀ a, (k0_off44 i v6) a + S1x256x1024.size a ≤ S3x2048x1024.size a := fun i v6 k0_hw6 k0_h15 => k0_hw6.2.2.2.2.2.1 k0_h15
theorem k0_mult30_dvd : ∀ (i : grid0.Coords) (v6 : BitVec 32) (k0_hw6 : k0_chk6 i v6), ∀ (k0_h16 : k0_cond16 i v6 = 1#1), 128 ∣ (k0_mult30 v6).toNat := fun i v6 k0_hw6 k0_h16 => k0_hw6.2.2.2.2.2.2.1 k0_h16
theorem k0_off47_inb : ∀ (i : grid0.Coords) (v6 : BitVec 32) (k0_hw6 : k0_chk6 i v6), ∀ (k0_h16 : k0_cond16 i v6 = 1#1), ∀ a, (k0_off47 i v6) a + S1x128x1024.size a ≤ S3x2048x1024.size a := fun i v6 k0_hw6 k0_h16 => k0_hw6.2.2.2.2.2.2.2 k0_h16

def k0_off48 (v6 : BitVec 32) (v9 : BitVec 32) : Fin 2 → Nat :=
  let c0_i32_23 : BitVec 32 := 0#32
  let c2048_i32_22 : BitVec 32 := 2048#32
  let v46 : BitVec 32 := Scalar.andi v6 c2048_i32_22
  let v47 : BitVec 32 := Scalar.addi c0_i32_23 v46
  let c1024_i32_24 : BitVec 32 := 1024#32
  let v48 : BitVec 32 := Scalar.andi v6 c1024_i32_24
  let v49 : BitVec 32 := Scalar.addi v47 v48
  let c512_i32_25 : BitVec 32 := 512#32
  let v50 : BitVec 32 := Scalar.andi v6 c512_i32_25
  let v51 : BitVec 32 := Scalar.addi v49 v50
  let c256_i32_26 : BitVec 32 := 256#32
  let v52 : BitVec 32 := Scalar.andi v6 c256_i32_26
  let v53 : BitVec 32 := Scalar.addi v51 v52
  let v138 : BitVec 32 := Scalar.addi v9 v53
  let v139 : BitVec 32 := v138
  let c0_i32_81 : BitVec 32 := 0#32
  ![v139.toNat, 0]

def k0_chk5 (i : grid0.Coords) (v6 : BitVec 32) (v9 : BitVec 32) : Prop :=
  (∀ (k0_h12 : k0_cond12 i v6 = 1#1), 128 ∣ (k0_mult21 v9).toNat) ∧
  (∀ (k0_h12 : k0_cond12 i v6 = 1#1), ∀ a, (k0_off36 v9) a + S2048x1024.size a ≤ S32768x1024.size a) ∧
  (∀ (k0_h13 : k0_cond13 i v6 = 1#1), 128 ∣ (k0_mult23 v6 v9).toNat) ∧
  (∀ (k0_h13 : k0_cond13 i v6 = 1#1), ∀ a, (k0_off39 v6 v9) a + S1024x1024.size a ≤ S32768x1024.size a) ∧
  (∀ (k0_h14 : k0_cond14 i v6 = 1#1), 128 ∣ (k0_mult25 v6 v9).toNat) ∧
  (∀ (k0_h14 : k0_cond14 i v6 = 1#1), ∀ a, (k0_off42 v6 v9) a + S512x1024.size a ≤ S32768x1024.size a) ∧
  (∀ (k0_h15 : k0_cond15 i v6 = 1#1), 128 ∣ (k0_mult27 v6 v9).toNat) ∧
  (∀ (k0_h15 : k0_cond15 i v6 = 1#1), ∀ a, (k0_off45 v6 v9) a + S256x1024.size a ≤ S32768x1024.size a) ∧
  (∀ (k0_h16 : k0_cond16 i v6 = 1#1), 128 ∣ (k0_mult29 v6 v9).toNat) ∧
  (∀ (k0_h16 : k0_cond16 i v6 = 1#1), ∀ a, (k0_off48 v6 v9) a + S128x1024.size a ≤ S32768x1024.size a)
theorem k0_mult21_dvd : ∀ (i : grid0.Coords) (v6 : BitVec 32) (v9 : BitVec 32) (k0_hw5 : k0_chk5 i v6 v9), ∀ (k0_h12 : k0_cond12 i v6 = 1#1), 128 ∣ (k0_mult21 v9).toNat := fun i v6 v9 k0_hw5 k0_h12 => k0_hw5.1 k0_h12
theorem k0_off36_inb : ∀ (i : grid0.Coords) (v6 : BitVec 32) (v9 : BitVec 32) (k0_hw5 : k0_chk5 i v6 v9), ∀ (k0_h12 : k0_cond12 i v6 = 1#1), ∀ a, (k0_off36 v9) a + S2048x1024.size a ≤ S32768x1024.size a := fun i v6 v9 k0_hw5 k0_h12 => k0_hw5.2.1 k0_h12
theorem k0_mult23_dvd : ∀ (i : grid0.Coords) (v6 : BitVec 32) (v9 : BitVec 32) (k0_hw5 : k0_chk5 i v6 v9), ∀ (k0_h13 : k0_cond13 i v6 = 1#1), 128 ∣ (k0_mult23 v6 v9).toNat := fun i v6 v9 k0_hw5 k0_h13 => k0_hw5.2.2.1 k0_h13
theorem k0_off39_inb : ∀ (i : grid0.Coords) (v6 : BitVec 32) (v9 : BitVec 32) (k0_hw5 : k0_chk5 i v6 v9), ∀ (k0_h13 : k0_cond13 i v6 = 1#1), ∀ a, (k0_off39 v6 v9) a + S1024x1024.size a ≤ S32768x1024.size a := fun i v6 v9 k0_hw5 k0_h13 => k0_hw5.2.2.2.1 k0_h13
theorem k0_mult25_dvd : ∀ (i : grid0.Coords) (v6 : BitVec 32) (v9 : BitVec 32) (k0_hw5 : k0_chk5 i v6 v9), ∀ (k0_h14 : k0_cond14 i v6 = 1#1), 128 ∣ (k0_mult25 v6 v9).toNat := fun i v6 v9 k0_hw5 k0_h14 => k0_hw5.2.2.2.2.1 k0_h14
theorem k0_off42_inb : ∀ (i : grid0.Coords) (v6 : BitVec 32) (v9 : BitVec 32) (k0_hw5 : k0_chk5 i v6 v9), ∀ (k0_h14 : k0_cond14 i v6 = 1#1), ∀ a, (k0_off42 v6 v9) a + S512x1024.size a ≤ S32768x1024.size a := fun i v6 v9 k0_hw5 k0_h14 => k0_hw5.2.2.2.2.2.1 k0_h14
theorem k0_mult27_dvd : ∀ (i : grid0.Coords) (v6 : BitVec 32) (v9 : BitVec 32) (k0_hw5 : k0_chk5 i v6 v9), ∀ (k0_h15 : k0_cond15 i v6 = 1#1), 128 ∣ (k0_mult27 v6 v9).toNat := fun i v6 v9 k0_hw5 k0_h15 => k0_hw5.2.2.2.2.2.2.1 k0_h15
theorem k0_off45_inb : ∀ (i : grid0.Coords) (v6 : BitVec 32) (v9 : BitVec 32) (k0_hw5 : k0_chk5 i v6 v9), ∀ (k0_h15 : k0_cond15 i v6 = 1#1), ∀ a, (k0_off45 v6 v9) a + S256x1024.size a ≤ S32768x1024.size a := fun i v6 v9 k0_hw5 k0_h15 => k0_hw5.2.2.2.2.2.2.2.1 k0_h15
theorem k0_mult29_dvd : ∀ (i : grid0.Coords) (v6 : BitVec 32) (v9 : BitVec 32) (k0_hw5 : k0_chk5 i v6 v9), ∀ (k0_h16 : k0_cond16 i v6 = 1#1), 128 ∣ (k0_mult29 v6 v9).toNat := fun i v6 v9 k0_hw5 k0_h16 => k0_hw5.2.2.2.2.2.2.2.2.1 k0_h16
theorem k0_off48_inb : ∀ (i : grid0.Coords) (v6 : BitVec 32) (v9 : BitVec 32) (k0_hw5 : k0_chk5 i v6 v9), ∀ (k0_h16 : k0_cond16 i v6 = 1#1), ∀ a, (k0_off48 v6 v9) a + S128x1024.size a ≤ S32768x1024.size a := fun i v6 v9 k0_hw5 k0_h16 => k0_hw5.2.2.2.2.2.2.2.2.2 k0_h16

def k0_cond17 (i : grid0.Coords) : BitVec 1 :=
  let arg0 : BitVec 32 := BitVec.ofNat 32 (i 0).val
  let c2_i32_31 : BitVec 32 := 2#32
  let v61 : BitVec 32 := Scalar.remsi arg0 c2_i32_31
  let c0_i32_32 : BitVec 32 := 0#32
  let v62 : BitVec 1 := Scalar.cmpi .eq v61 c0_i32_32
  let c2_i32_30 : BitVec 32 := 2#32
  let v60 : BitVec 32 := Scalar.divsi arg0 c2_i32_30
  let c10_i32 : BitVec 32 := 10#32
  let v63 : BitVec 1 := Scalar.cmpi .slt v60 c10_i32
  let v64 : BitVec 1 := Scalar.andi v62 v63
  let v65 : BitVec 32 := Scalar.extui v64
  let c0_i32_33 : BitVec 32 := 0#32
  let v66 : BitVec 1 := Scalar.cmpi .ne v65 c0_i32_33
  v66

def k0_off49 (i : grid0.Coords) : Fin 1 → Nat :=
  let arg0 : BitVec 32 := BitVec.ofNat 32 (i 0).val
  let c2_i32_30 : BitVec 32 := 2#32
  let v60 : BitVec 32 := Scalar.divsi arg0 c2_i32_30
  let c21_i32_80 : BitVec 32 := 21#32
  let v138 : BitVec 32 := Scalar.minsi v60 c21_i32_80
  let v139 : Index := Scalar.indexCast v138
  ![v139.toNat]
def k0_mult31 (v140 : BitVec 32) : BitVec 32 :=
  v140

def k0_off50 (v140 : BitVec 32) : Fin 2 → Nat :=
  let v141 : BitVec 32 := v140
  let c0_i32_81 : BitVec 32 := 0#32
  ![v141.toNat, 0]

def k0_chk7 (i : grid0.Coords) (v140 : BitVec 32) : Prop :=
  (∀ (k0_h17 : k0_cond17 i = 1#1), 2048 ∣ (k0_mult31 v140).toNat) ∧
  (∀ (k0_h17 : k0_cond17 i = 1#1), ∀ a, (k0_off50 v140) a + S2048x1024.size a ≤ S65536x1024.size a)
theorem k0_mult31_dvd : ∀ (i : grid0.Coords) (v140 : BitVec 32) (k0_hw7 : k0_chk7 i v140), ∀ (k0_h17 : k0_cond17 i = 1#1), 2048 ∣ (k0_mult31 v140).toNat := fun i v140 k0_hw7 k0_h17 => k0_hw7.1 k0_h17
theorem k0_off50_inb : ∀ (i : grid0.Coords) (v140 : BitVec 32) (k0_hw7 : k0_chk7 i v140), ∀ (k0_h17 : k0_cond17 i = 1#1), ∀ a, (k0_off50 v140) a + S2048x1024.size a ≤ S65536x1024.size a := fun i v140 k0_hw7 k0_h17 => k0_hw7.2 k0_h17

def k0_cond18 (i : grid0.Coords) : BitVec 1 :=
  let arg0 : BitVec 32 := BitVec.ofNat 32 (i 0).val
  let c3_i32_34 : BitVec 32 := 3#32
  let v67 : BitVec 1 := Scalar.cmpi .sge arg0 c3_i32_34
  let v68 : BitVec 32 := Scalar.extui v67
  let c0_i32_35 : BitVec 32 := 0#32
  let v69 : BitVec 1 := Scalar.cmpi .ne v68 c0_i32_35
  v69

def k0_off51 (i : grid0.Coords) : Fin 1 → Nat :=
  let arg0 : BitVec 32 := BitVec.ofNat 32 (i 0).val
  let c3_i32_80 : BitVec 32 := 3#32
  let v138 : BitVec 32 := Scalar.subi arg0 c3_i32_80
  let c21_i32_82 : BitVec 32 := 21#32
  let v140 : BitVec 32 := Scalar.minsi v138 c21_i32_82
  let v141 : Index := Scalar.indexCast v140
  ![v141.toNat]
def k0_mult32 (v142 : BitVec 32) : BitVec 32 :=
  v142

def k0_off52 (i : grid0.Coords) : Fin 1 → Nat :=
  let arg0 : BitVec 32 := BitVec.ofNat 32 (i 0).val
  let c3_i32_80 : BitVec 32 := 3#32
  let v138 : BitVec 32 := Scalar.subi arg0 c3_i32_80
  let c3_i32_81 : BitVec 32 := 3#32
  let v139 : BitVec 32 := Scalar.remsi v138 c3_i32_81
  ![v139.toNat]
def k0_off53 (v142 : BitVec 32) : Fin 2 → Nat :=
  let v143 : BitVec 32 := v142
  let c0_i32_83 : BitVec 32 := 0#32
  ![v143.toNat, 0]

def k0_chk8 (i : grid0.Coords) (v142 : BitVec 32) : Prop :=
  (∀ (k0_h18 : k0_cond18 i = 1#1), 2048 ∣ (k0_mult32 v142).toNat) ∧
  (∀ (k0_h18 : k0_cond18 i = 1#1), ∀ a, (k0_off53 v142) a + S2048x1024.size a ≤ S65536x1024.size a)
theorem k0_mult32_dvd : ∀ (i : grid0.Coords) (v142 : BitVec 32) (k0_hw8 : k0_chk8 i v142), ∀ (k0_h18 : k0_cond18 i = 1#1), 2048 ∣ (k0_mult32 v142).toNat := fun i v142 k0_hw8 k0_h18 => k0_hw8.1 k0_h18
theorem k0_off53_inb : ∀ (i : grid0.Coords) (v142 : BitVec 32) (k0_hw8 : k0_chk8 i v142), ∀ (k0_h18 : k0_cond18 i = 1#1), ∀ a, (k0_off53 v142) a + S2048x1024.size a ≤ S65536x1024.size a := fun i v142 k0_hw8 k0_h18 => k0_hw8.2 k0_h18

def k0_off54 (i : grid0.Coords) : Fin 3 → Nat :=
  let arg0 : BitVec 32 := BitVec.ofNat 32 (i 0).val
  let c3_i32_80 : BitVec 32 := 3#32
  let v138 : BitVec 32 := Scalar.subi arg0 c3_i32_80
  let c3_i32_81 : BitVec 32 := 3#32
  let v139 : BitVec 32 := Scalar.remsi v138 c3_i32_81
  let c0_i32_84 : BitVec 32 := 0#32
  let c0_i32_85 : BitVec 32 := 0#32
  ![v139.toNat, 0, 0]
def k0_off55 (i : grid0.Coords) : Fin 1 → Nat :=
  let arg0 : BitVec 32 := BitVec.ofNat 32 (i 0).val
  let c21_i32_36 : BitVec 32 := 21#32
  let v70 : BitVec 32 := Scalar.minsi arg0 c21_i32_36
  let v71 : Index := Scalar.indexCast v70
  ![v71.toNat]
def k0_mult33 (v75 : BitVec 32) : BitVec 32 :=
  let c0_i32_40 : BitVec 32 := 0#32
  let v138 : BitVec 32 := Scalar.addi v75 c0_i32_40
  v138
def k0_cond19 (v72 : BitVec 32) : BitVec 1 :=
  let c2048_i32_38 : BitVec 32 := 2048#32
  let v76 : BitVec 32 := Scalar.andi v72 c2048_i32_38
  let c0_i32_39 : BitVec 32 := 0#32
  let v77 : BitVec 1 := Scalar.cmpi .ne v76 c0_i32_39
  let v78 : BitVec 32 := Scalar.extui v77
  let c0_i32_41 : BitVec 32 := 0#32
  let v79 : BitVec 1 := Scalar.cmpi .ne v78 c0_i32_41
  v79

def k0_mult34 : BitVec 32 :=
  let c0_i32_40 : BitVec 32 := 0#32
  c0_i32_40
def k0_off56 (i : grid0.Coords) : Fin 1 → Nat :=
  let arg0 : BitVec 32 := BitVec.ofNat 32 (i 0).val
  let c3_i32_37 : BitVec 32 := 3#32
  let v73 : BitVec 32 := Scalar.remsi arg0 c3_i32_37
  ![v73.toNat]
def k0_off57 (i : grid0.Coords) : Fin 3 → Nat :=
  let arg0 : BitVec 32 := BitVec.ofNat 32 (i 0).val
  let c3_i32_37 : BitVec 32 := 3#32
  let v73 : BitVec 32 := Scalar.remsi arg0 c3_i32_37
  let c0_i32_40 : BitVec 32 := 0#32
  let v140 : BitVec 32 := c0_i32_40
  let c0_i32_80 : BitVec 32 := 0#32
  ![v73.toNat, 0, 0]
def k0_off58 (v75 : BitVec 32) : Fin 2 → Nat :=
  let c0_i32_40 : BitVec 32 := 0#32
  let v138 : BitVec 32 := Scalar.addi v75 c0_i32_40
  let v139 : BitVec 32 := v138
  let c0_i32_81 : BitVec 32 := 0#32
  ![v139.toNat, 0]
def k0_mult35 (v72 : BitVec 32) (v75 : BitVec 32) : BitVec 32 :=
  let c0_i32_43 : BitVec 32 := 0#32
  let c2048_i32_42 : BitVec 32 := 2048#32
  let v80 : BitVec 32 := Scalar.andi v72 c2048_i32_42
  let v81 : BitVec 32 := Scalar.addi c0_i32_43 v80
  let v138 : BitVec 32 := Scalar.addi v75 v81
  v138
def k0_cond20 (v72 : BitVec 32) : BitVec 1 :=
  let c1024_i32_44 : BitVec 32 := 1024#32
  let v82 : BitVec 32 := Scalar.andi v72 c1024_i32_44
  let c0_i32_45 : BitVec 32 := 0#32
  let v83 : BitVec 1 := Scalar.cmpi .ne v82 c0_i32_45
  let v84 : BitVec 32 := Scalar.extui v83
  let c0_i32_46 : BitVec 32 := 0#32
  let v85 : BitVec 1 := Scalar.cmpi .ne v84 c0_i32_46
  v85

def k0_mult36 (v72 : BitVec 32) : BitVec 32 :=
  let c0_i32_43 : BitVec 32 := 0#32
  let c2048_i32_42 : BitVec 32 := 2048#32
  let v80 : BitVec 32 := Scalar.andi v72 c2048_i32_42
  let v81 : BitVec 32 := Scalar.addi c0_i32_43 v80
  v81

def k0_off59 (i : grid0.Coords) : Fin 1 → Nat :=
  let arg0 : BitVec 32 := BitVec.ofNat 32 (i 0).val
  let c3_i32_37 : BitVec 32 := 3#32
  let v73 : BitVec 32 := Scalar.remsi arg0 c3_i32_37
  ![v73.toNat]
def k0_off60 (i : grid0.Coords) (v72 : BitVec 32) : Fin 3 → Nat :=
  let arg0 : BitVec 32 := BitVec.ofNat 32 (i 0).val
  let c3_i32_37 : BitVec 32 := 3#32
  let v73 : BitVec 32 := Scalar.remsi arg0 c3_i32_37
  let c0_i32_43 : BitVec 32 := 0#32
  let c2048_i32_42 : BitVec 32 := 2048#32
  let v80 : BitVec 32 := Scalar.andi v72 c2048_i32_42
  let v81 : BitVec 32 := Scalar.addi c0_i32_43 v80
  let v140 : BitVec 32 := v81
  let c0_i32_80 : BitVec 32 := 0#32
  ![v73.toNat, v140.toNat, 0]
def k0_off61 (v72 : BitVec 32) (v75 : BitVec 32) : Fin 2 → Nat :=
  let c0_i32_43 : BitVec 32 := 0#32
  let c2048_i32_42 : BitVec 32 := 2048#32
  let v80 : BitVec 32 := Scalar.andi v72 c2048_i32_42
  let v81 : BitVec 32 := Scalar.addi c0_i32_43 v80
  let v138 : BitVec 32 := Scalar.addi v75 v81
  let v139 : BitVec 32 := v138
  let c0_i32_81 : BitVec 32 := 0#32
  ![v139.toNat, 0]
def k0_mult37 (v72 : BitVec 32) (v75 : BitVec 32) : BitVec 32 :=
  let c0_i32_48 : BitVec 32 := 0#32
  let c2048_i32_47 : BitVec 32 := 2048#32
  let v86 : BitVec 32 := Scalar.andi v72 c2048_i32_47
  let v87 : BitVec 32 := Scalar.addi c0_i32_48 v86
  let c1024_i32_49 : BitVec 32 := 1024#32
  let v88 : BitVec 32 := Scalar.andi v72 c1024_i32_49
  let v89 : BitVec 32 := Scalar.addi v87 v88
  let v138 : BitVec 32 := Scalar.addi v75 v89
  v138
def k0_cond21 (v72 : BitVec 32) : BitVec 1 :=
  let c512_i32_50 : BitVec 32 := 512#32
  let v90 : BitVec 32 := Scalar.andi v72 c512_i32_50
  let c0_i32_51 : BitVec 32 := 0#32
  let v91 : BitVec 1 := Scalar.cmpi .ne v90 c0_i32_51
  let v92 : BitVec 32 := Scalar.extui v91
  let c0_i32_52 : BitVec 32 := 0#32
  let v93 : BitVec 1 := Scalar.cmpi .ne v92 c0_i32_52
  v93

def k0_mult38 (v72 : BitVec 32) : BitVec 32 :=
  let c0_i32_48 : BitVec 32 := 0#32
  let c2048_i32_47 : BitVec 32 := 2048#32
  let v86 : BitVec 32 := Scalar.andi v72 c2048_i32_47
  let v87 : BitVec 32 := Scalar.addi c0_i32_48 v86
  let c1024_i32_49 : BitVec 32 := 1024#32
  let v88 : BitVec 32 := Scalar.andi v72 c1024_i32_49
  let v89 : BitVec 32 := Scalar.addi v87 v88
  v89
def k0_off62 (i : grid0.Coords) : Fin 1 → Nat :=
  let arg0 : BitVec 32 := BitVec.ofNat 32 (i 0).val
  let c3_i32_37 : BitVec 32 := 3#32
  let v73 : BitVec 32 := Scalar.remsi arg0 c3_i32_37
  ![v73.toNat]
def k0_off63 (i : grid0.Coords) (v72 : BitVec 32) : Fin 3 → Nat :=
  let arg0 : BitVec 32 := BitVec.ofNat 32 (i 0).val
  let c3_i32_37 : BitVec 32 := 3#32
  let v73 : BitVec 32 := Scalar.remsi arg0 c3_i32_37
  let c0_i32_48 : BitVec 32 := 0#32
  let c2048_i32_47 : BitVec 32 := 2048#32
  let v86 : BitVec 32 := Scalar.andi v72 c2048_i32_47
  let v87 : BitVec 32 := Scalar.addi c0_i32_48 v86
  let c1024_i32_49 : BitVec 32 := 1024#32
  let v88 : BitVec 32 := Scalar.andi v72 c1024_i32_49
  let v89 : BitVec 32 := Scalar.addi v87 v88
  let v140 : BitVec 32 := v89
  let c0_i32_80 : BitVec 32 := 0#32
  ![v73.toNat, v140.toNat, 0]
def k0_off64 (v72 : BitVec 32) (v75 : BitVec 32) : Fin 2 → Nat :=
  let c0_i32_48 : BitVec 32 := 0#32
  let c2048_i32_47 : BitVec 32 := 2048#32
  let v86 : BitVec 32 := Scalar.andi v72 c2048_i32_47
  let v87 : BitVec 32 := Scalar.addi c0_i32_48 v86
  let c1024_i32_49 : BitVec 32 := 1024#32
  let v88 : BitVec 32 := Scalar.andi v72 c1024_i32_49
  let v89 : BitVec 32 := Scalar.addi v87 v88
  let v138 : BitVec 32 := Scalar.addi v75 v89
  let v139 : BitVec 32 := v138
  let c0_i32_81 : BitVec 32 := 0#32
  ![v139.toNat, 0]
def k0_mult39 (v72 : BitVec 32) (v75 : BitVec 32) : BitVec 32 :=
  let c0_i32_54 : BitVec 32 := 0#32
  let c2048_i32_53 : BitVec 32 := 2048#32
  let v94 : BitVec 32 := Scalar.andi v72 c2048_i32_53
  let v95 : BitVec 32 := Scalar.addi c0_i32_54 v94
  let c1024_i32_55 : BitVec 32 := 1024#32
  let v96 : BitVec 32 := Scalar.andi v72 c1024_i32_55
  let v97 : BitVec 32 := Scalar.addi v95 v96
  let c512_i32_56 : BitVec 32 := 512#32
  let v98 : BitVec 32 := Scalar.andi v72 c512_i32_56
  let v99 : BitVec 32 := Scalar.addi v97 v98
  let v138 : BitVec 32 := Scalar.addi v75 v99
  v138
def k0_cond22 (v72 : BitVec 32) : BitVec 1 :=
  let c256_i32_57 : BitVec 32 := 256#32
  let v100 : BitVec 32 := Scalar.andi v72 c256_i32_57
  let c0_i32_58 : BitVec 32 := 0#32
  let v101 : BitVec 1 := Scalar.cmpi .ne v100 c0_i32_58
  let v102 : BitVec 32 := Scalar.extui v101
  let c0_i32_59 : BitVec 32 := 0#32
  let v103 : BitVec 1 := Scalar.cmpi .ne v102 c0_i32_59
  v103

def k0_mult40 (v72 : BitVec 32) : BitVec 32 :=
  let c0_i32_54 : BitVec 32 := 0#32
  let c2048_i32_53 : BitVec 32 := 2048#32
  let v94 : BitVec 32 := Scalar.andi v72 c2048_i32_53
  let v95 : BitVec 32 := Scalar.addi c0_i32_54 v94
  let c1024_i32_55 : BitVec 32 := 1024#32
  let v96 : BitVec 32 := Scalar.andi v72 c1024_i32_55
  let v97 : BitVec 32 := Scalar.addi v95 v96
  let c512_i32_56 : BitVec 32 := 512#32
  let v98 : BitVec 32 := Scalar.andi v72 c512_i32_56
  let v99 : BitVec 32 := Scalar.addi v97 v98
  v99
def k0_off65 (i : grid0.Coords) : Fin 1 → Nat :=
  let arg0 : BitVec 32 := BitVec.ofNat 32 (i 0).val
  let c3_i32_37 : BitVec 32 := 3#32
  let v73 : BitVec 32 := Scalar.remsi arg0 c3_i32_37
  ![v73.toNat]
def k0_off66 (i : grid0.Coords) (v72 : BitVec 32) : Fin 3 → Nat :=
  let arg0 : BitVec 32 := BitVec.ofNat 32 (i 0).val
  let c3_i32_37 : BitVec 32 := 3#32
  let v73 : BitVec 32 := Scalar.remsi arg0 c3_i32_37
  let c0_i32_54 : BitVec 32 := 0#32
  let c2048_i32_53 : BitVec 32 := 2048#32
  let v94 : BitVec 32 := Scalar.andi v72 c2048_i32_53
  let v95 : BitVec 32 := Scalar.addi c0_i32_54 v94
  let c1024_i32_55 : BitVec 32 := 1024#32
  let v96 : BitVec 32 := Scalar.andi v72 c1024_i32_55
  let v97 : BitVec 32 := Scalar.addi v95 v96
  let c512_i32_56 : BitVec 32 := 512#32
  let v98 : BitVec 32 := Scalar.andi v72 c512_i32_56
  let v99 : BitVec 32 := Scalar.addi v97 v98
  let v140 : BitVec 32 := v99
  let c0_i32_80 : BitVec 32 := 0#32
  ![v73.toNat, v140.toNat, 0]
def k0_off67 (v72 : BitVec 32) (v75 : BitVec 32) : Fin 2 → Nat :=
  let c0_i32_54 : BitVec 32 := 0#32
  let c2048_i32_53 : BitVec 32 := 2048#32
  let v94 : BitVec 32 := Scalar.andi v72 c2048_i32_53
  let v95 : BitVec 32 := Scalar.addi c0_i32_54 v94
  let c1024_i32_55 : BitVec 32 := 1024#32
  let v96 : BitVec 32 := Scalar.andi v72 c1024_i32_55
  let v97 : BitVec 32 := Scalar.addi v95 v96
  let c512_i32_56 : BitVec 32 := 512#32
  let v98 : BitVec 32 := Scalar.andi v72 c512_i32_56
  let v99 : BitVec 32 := Scalar.addi v97 v98
  let v138 : BitVec 32 := Scalar.addi v75 v99
  let v139 : BitVec 32 := v138
  let c0_i32_81 : BitVec 32 := 0#32
  ![v139.toNat, 0]
def k0_mult41 (v72 : BitVec 32) (v75 : BitVec 32) : BitVec 32 :=
  let c0_i32_61 : BitVec 32 := 0#32
  let c2048_i32_60 : BitVec 32 := 2048#32
  let v104 : BitVec 32 := Scalar.andi v72 c2048_i32_60
  let v105 : BitVec 32 := Scalar.addi c0_i32_61 v104
  let c1024_i32_62 : BitVec 32 := 1024#32
  let v106 : BitVec 32 := Scalar.andi v72 c1024_i32_62
  let v107 : BitVec 32 := Scalar.addi v105 v106
  let c512_i32_63 : BitVec 32 := 512#32
  let v108 : BitVec 32 := Scalar.andi v72 c512_i32_63
  let v109 : BitVec 32 := Scalar.addi v107 v108
  let c256_i32_64 : BitVec 32 := 256#32
  let v110 : BitVec 32 := Scalar.andi v72 c256_i32_64
  let v111 : BitVec 32 := Scalar.addi v109 v110
  let v138 : BitVec 32 := Scalar.addi v75 v111
  v138
def k0_cond23 (v72 : BitVec 32) : BitVec 1 :=
  let c128_i32_65 : BitVec 32 := 128#32
  let v112 : BitVec 32 := Scalar.andi v72 c128_i32_65
  let c0_i32_66 : BitVec 32 := 0#32
  let v113 : BitVec 1 := Scalar.cmpi .ne v112 c0_i32_66
  let v114 : BitVec 32 := Scalar.extui v113
  let c0_i32_67 : BitVec 32 := 0#32
  let v115 : BitVec 1 := Scalar.cmpi .ne v114 c0_i32_67
  v115

def k0_mult42 (v72 : BitVec 32) : BitVec 32 :=
  let c0_i32_61 : BitVec 32 := 0#32
  let c2048_i32_60 : BitVec 32 := 2048#32
  let v104 : BitVec 32 := Scalar.andi v72 c2048_i32_60
  let v105 : BitVec 32 := Scalar.addi c0_i32_61 v104
  let c1024_i32_62 : BitVec 32 := 1024#32
  let v106 : BitVec 32 := Scalar.andi v72 c1024_i32_62
  let v107 : BitVec 32 := Scalar.addi v105 v106
  let c512_i32_63 : BitVec 32 := 512#32
  let v108 : BitVec 32 := Scalar.andi v72 c512_i32_63
  let v109 : BitVec 32 := Scalar.addi v107 v108
  let c256_i32_64 : BitVec 32 := 256#32
  let v110 : BitVec 32 := Scalar.andi v72 c256_i32_64
  let v111 : BitVec 32 := Scalar.addi v109 v110
  v111
def k0_off68 (i : grid0.Coords) : Fin 1 → Nat :=
  let arg0 : BitVec 32 := BitVec.ofNat 32 (i 0).val
  let c3_i32_37 : BitVec 32 := 3#32
  let v73 : BitVec 32 := Scalar.remsi arg0 c3_i32_37
  ![v73.toNat]
def k0_off69 (i : grid0.Coords) (v72 : BitVec 32) : Fin 3 → Nat :=
  let arg0 : BitVec 32 := BitVec.ofNat 32 (i 0).val
  let c3_i32_37 : BitVec 32 := 3#32
  let v73 : BitVec 32 := Scalar.remsi arg0 c3_i32_37
  let c0_i32_61 : BitVec 32 := 0#32
  let c2048_i32_60 : BitVec 32 := 2048#32
  let v104 : BitVec 32 := Scalar.andi v72 c2048_i32_60
  let v105 : BitVec 32 := Scalar.addi c0_i32_61 v104
  let c1024_i32_62 : BitVec 32 := 1024#32
  let v106 : BitVec 32 := Scalar.andi v72 c1024_i32_62
  let v107 : BitVec 32 := Scalar.addi v105 v106
  let c512_i32_63 : BitVec 32 := 512#32
  let v108 : BitVec 32 := Scalar.andi v72 c512_i32_63
  let v109 : BitVec 32 := Scalar.addi v107 v108
  let c256_i32_64 : BitVec 32 := 256#32
  let v110 : BitVec 32 := Scalar.andi v72 c256_i32_64
  let v111 : BitVec 32 := Scalar.addi v109 v110
  let v140 : BitVec 32 := v111
  let c0_i32_80 : BitVec 32 := 0#32
  ![v73.toNat, v140.toNat, 0]

def k0_chk10 (i : grid0.Coords) (v72 : BitVec 32) : Prop :=
  (∀ (k0_h20 : k0_cond20 v72 = 1#1), 128 ∣ (k0_mult36 v72).toNat) ∧
  (∀ (k0_h20 : k0_cond20 v72 = 1#1), ∀ a, (k0_off60 i v72) a + S1x1024x1024.size a ≤ S3x2048x1024.size a) ∧
  (∀ (k0_h21 : k0_cond21 v72 = 1#1), 128 ∣ (k0_mult38 v72).toNat) ∧
  (∀ (k0_h21 : k0_cond21 v72 = 1#1), ∀ a, (k0_off63 i v72) a + S1x512x1024.size a ≤ S3x2048x1024.size a) ∧
  (∀ (k0_h22 : k0_cond22 v72 = 1#1), 128 ∣ (k0_mult40 v72).toNat) ∧
  (∀ (k0_h22 : k0_cond22 v72 = 1#1), ∀ a, (k0_off66 i v72) a + S1x256x1024.size a ≤ S3x2048x1024.size a) ∧
  (∀ (k0_h23 : k0_cond23 v72 = 1#1), 128 ∣ (k0_mult42 v72).toNat) ∧
  (∀ (k0_h23 : k0_cond23 v72 = 1#1), ∀ a, (k0_off69 i v72) a + S1x128x1024.size a ≤ S3x2048x1024.size a)
theorem k0_mult36_dvd : ∀ (i : grid0.Coords) (v72 : BitVec 32) (k0_hw10 : k0_chk10 i v72), ∀ (k0_h20 : k0_cond20 v72 = 1#1), 128 ∣ (k0_mult36 v72).toNat := fun i v72 k0_hw10 k0_h20 => k0_hw10.1 k0_h20
theorem k0_off60_inb : ∀ (i : grid0.Coords) (v72 : BitVec 32) (k0_hw10 : k0_chk10 i v72), ∀ (k0_h20 : k0_cond20 v72 = 1#1), ∀ a, (k0_off60 i v72) a + S1x1024x1024.size a ≤ S3x2048x1024.size a := fun i v72 k0_hw10 k0_h20 => k0_hw10.2.1 k0_h20
theorem k0_mult38_dvd : ∀ (i : grid0.Coords) (v72 : BitVec 32) (k0_hw10 : k0_chk10 i v72), ∀ (k0_h21 : k0_cond21 v72 = 1#1), 128 ∣ (k0_mult38 v72).toNat := fun i v72 k0_hw10 k0_h21 => k0_hw10.2.2.1 k0_h21
theorem k0_off63_inb : ∀ (i : grid0.Coords) (v72 : BitVec 32) (k0_hw10 : k0_chk10 i v72), ∀ (k0_h21 : k0_cond21 v72 = 1#1), ∀ a, (k0_off63 i v72) a + S1x512x1024.size a ≤ S3x2048x1024.size a := fun i v72 k0_hw10 k0_h21 => k0_hw10.2.2.2.1 k0_h21
theorem k0_mult40_dvd : ∀ (i : grid0.Coords) (v72 : BitVec 32) (k0_hw10 : k0_chk10 i v72), ∀ (k0_h22 : k0_cond22 v72 = 1#1), 128 ∣ (k0_mult40 v72).toNat := fun i v72 k0_hw10 k0_h22 => k0_hw10.2.2.2.2.1 k0_h22
theorem k0_off66_inb : ∀ (i : grid0.Coords) (v72 : BitVec 32) (k0_hw10 : k0_chk10 i v72), ∀ (k0_h22 : k0_cond22 v72 = 1#1), ∀ a, (k0_off66 i v72) a + S1x256x1024.size a ≤ S3x2048x1024.size a := fun i v72 k0_hw10 k0_h22 => k0_hw10.2.2.2.2.2.1 k0_h22
theorem k0_mult42_dvd : ∀ (i : grid0.Coords) (v72 : BitVec 32) (k0_hw10 : k0_chk10 i v72), ∀ (k0_h23 : k0_cond23 v72 = 1#1), 128 ∣ (k0_mult42 v72).toNat := fun i v72 k0_hw10 k0_h23 => k0_hw10.2.2.2.2.2.2.1 k0_h23
theorem k0_off69_inb : ∀ (i : grid0.Coords) (v72 : BitVec 32) (k0_hw10 : k0_chk10 i v72), ∀ (k0_h23 : k0_cond23 v72 = 1#1), ∀ a, (k0_off69 i v72) a + S1x128x1024.size a ≤ S3x2048x1024.size a := fun i v72 k0_hw10 k0_h23 => k0_hw10.2.2.2.2.2.2.2 k0_h23

def k0_off70 (v72 : BitVec 32) (v75 : BitVec 32) : Fin 2 → Nat :=
  let c0_i32_61 : BitVec 32 := 0#32
  let c2048_i32_60 : BitVec 32 := 2048#32
  let v104 : BitVec 32 := Scalar.andi v72 c2048_i32_60
  let v105 : BitVec 32 := Scalar.addi c0_i32_61 v104
  let c1024_i32_62 : BitVec 32 := 1024#32
  let v106 : BitVec 32 := Scalar.andi v72 c1024_i32_62
  let v107 : BitVec 32 := Scalar.addi v105 v106
  let c512_i32_63 : BitVec 32 := 512#32
  let v108 : BitVec 32 := Scalar.andi v72 c512_i32_63
  let v109 : BitVec 32 := Scalar.addi v107 v108
  let c256_i32_64 : BitVec 32 := 256#32
  let v110 : BitVec 32 := Scalar.andi v72 c256_i32_64
  let v111 : BitVec 32 := Scalar.addi v109 v110
  let v138 : BitVec 32 := Scalar.addi v75 v111
  let v139 : BitVec 32 := v138
  let c0_i32_81 : BitVec 32 := 0#32
  ![v139.toNat, 0]

def k0_chk9 (v72 : BitVec 32) (v75 : BitVec 32) : Prop :=
  (∀ (k0_h19 : k0_cond19 v72 = 1#1), 128 ∣ (k0_mult33 v75).toNat) ∧
  (∀ (k0_h19 : k0_cond19 v72 = 1#1), ∀ a, (k0_off58 v75) a + S2048x1024.size a ≤ S32768x1024.size a) ∧
  (∀ (k0_h20 : k0_cond20 v72 = 1#1), 128 ∣ (k0_mult35 v72 v75).toNat) ∧
  (∀ (k0_h20 : k0_cond20 v72 = 1#1), ∀ a, (k0_off61 v72 v75) a + S1024x1024.size a ≤ S32768x1024.size a) ∧
  (∀ (k0_h21 : k0_cond21 v72 = 1#1), 128 ∣ (k0_mult37 v72 v75).toNat) ∧
  (∀ (k0_h21 : k0_cond21 v72 = 1#1), ∀ a, (k0_off64 v72 v75) a + S512x1024.size a ≤ S32768x1024.size a) ∧
  (∀ (k0_h22 : k0_cond22 v72 = 1#1), 128 ∣ (k0_mult39 v72 v75).toNat) ∧
  (∀ (k0_h22 : k0_cond22 v72 = 1#1), ∀ a, (k0_off67 v72 v75) a + S256x1024.size a ≤ S32768x1024.size a) ∧
  (∀ (k0_h23 : k0_cond23 v72 = 1#1), 128 ∣ (k0_mult41 v72 v75).toNat) ∧
  (∀ (k0_h23 : k0_cond23 v72 = 1#1), ∀ a, (k0_off70 v72 v75) a + S128x1024.size a ≤ S32768x1024.size a)
theorem k0_mult33_dvd : ∀ (v72 : BitVec 32) (v75 : BitVec 32) (k0_hw9 : k0_chk9 v72 v75), ∀ (k0_h19 : k0_cond19 v72 = 1#1), 128 ∣ (k0_mult33 v75).toNat := fun v72 v75 k0_hw9 k0_h19 => k0_hw9.1 k0_h19
theorem k0_off58_inb : ∀ (v72 : BitVec 32) (v75 : BitVec 32) (k0_hw9 : k0_chk9 v72 v75), ∀ (k0_h19 : k0_cond19 v72 = 1#1), ∀ a, (k0_off58 v75) a + S2048x1024.size a ≤ S32768x1024.size a := fun v72 v75 k0_hw9 k0_h19 => k0_hw9.2.1 k0_h19
theorem k0_mult35_dvd : ∀ (v72 : BitVec 32) (v75 : BitVec 32) (k0_hw9 : k0_chk9 v72 v75), ∀ (k0_h20 : k0_cond20 v72 = 1#1), 128 ∣ (k0_mult35 v72 v75).toNat := fun v72 v75 k0_hw9 k0_h20 => k0_hw9.2.2.1 k0_h20
theorem k0_off61_inb : ∀ (v72 : BitVec 32) (v75 : BitVec 32) (k0_hw9 : k0_chk9 v72 v75), ∀ (k0_h20 : k0_cond20 v72 = 1#1), ∀ a, (k0_off61 v72 v75) a + S1024x1024.size a ≤ S32768x1024.size a := fun v72 v75 k0_hw9 k0_h20 => k0_hw9.2.2.2.1 k0_h20
theorem k0_mult37_dvd : ∀ (v72 : BitVec 32) (v75 : BitVec 32) (k0_hw9 : k0_chk9 v72 v75), ∀ (k0_h21 : k0_cond21 v72 = 1#1), 128 ∣ (k0_mult37 v72 v75).toNat := fun v72 v75 k0_hw9 k0_h21 => k0_hw9.2.2.2.2.1 k0_h21
theorem k0_off64_inb : ∀ (v72 : BitVec 32) (v75 : BitVec 32) (k0_hw9 : k0_chk9 v72 v75), ∀ (k0_h21 : k0_cond21 v72 = 1#1), ∀ a, (k0_off64 v72 v75) a + S512x1024.size a ≤ S32768x1024.size a := fun v72 v75 k0_hw9 k0_h21 => k0_hw9.2.2.2.2.2.1 k0_h21
theorem k0_mult39_dvd : ∀ (v72 : BitVec 32) (v75 : BitVec 32) (k0_hw9 : k0_chk9 v72 v75), ∀ (k0_h22 : k0_cond22 v72 = 1#1), 128 ∣ (k0_mult39 v72 v75).toNat := fun v72 v75 k0_hw9 k0_h22 => k0_hw9.2.2.2.2.2.2.1 k0_h22
theorem k0_off67_inb : ∀ (v72 : BitVec 32) (v75 : BitVec 32) (k0_hw9 : k0_chk9 v72 v75), ∀ (k0_h22 : k0_cond22 v72 = 1#1), ∀ a, (k0_off67 v72 v75) a + S256x1024.size a ≤ S32768x1024.size a := fun v72 v75 k0_hw9 k0_h22 => k0_hw9.2.2.2.2.2.2.2.1 k0_h22
theorem k0_mult41_dvd : ∀ (v72 : BitVec 32) (v75 : BitVec 32) (k0_hw9 : k0_chk9 v72 v75), ∀ (k0_h23 : k0_cond23 v72 = 1#1), 128 ∣ (k0_mult41 v72 v75).toNat := fun v72 v75 k0_hw9 k0_h23 => k0_hw9.2.2.2.2.2.2.2.2.1 k0_h23
theorem k0_off70_inb : ∀ (v72 : BitVec 32) (v75 : BitVec 32) (k0_hw9 : k0_chk9 v72 v75), ∀ (k0_h23 : k0_cond23 v72 = 1#1), ∀ a, (k0_off70 v72 v75) a + S128x1024.size a ≤ S32768x1024.size a := fun v72 v75 k0_hw9 k0_h23 => k0_hw9.2.2.2.2.2.2.2.2.2 k0_h23

def k0_off71 (i : grid0.Coords) : Fin 1 → Nat :=
  let arg0 : BitVec 32 := BitVec.ofNat 32 (i 0).val
  let v116 : Index := Scalar.indexCast arg0
  ![v116.toNat]
def k0_off72 (i : grid0.Coords) : Fin 3 → Nat :=
  let arg0 : BitVec 32 := BitVec.ofNat 32 (i 0).val
  let c3_i32_80 : BitVec 32 := 3#32
  let v138 : BitVec 32 := Scalar.remsi arg0 c3_i32_80
  let v139 : Index := Scalar.indexCast v138
  let c0 : Index := 0#32
  let c0_81 : Index := 0#32
  ![v139.toNat, 0, 0]
def k0_off73 (i : grid0.Coords) : Fin 3 → Nat :=
  let arg0 : BitVec 32 := BitVec.ofNat 32 (i 0).val
  let c3_i32_80 : BitVec 32 := 3#32
  let v138 : BitVec 32 := Scalar.remsi arg0 c3_i32_80
  let v139 : Index := Scalar.indexCast v138
  let c0 : Index := 0#32
  let c0_81 : Index := 0#32
  ![v139.toNat, 0, 0]
def k0_off74 (i : grid0.Coords) : Fin 1 → Nat :=
  let arg0 : BitVec 32 := BitVec.ofNat 32 (i 0).val
  let c21_i32_74 : BitVec 32 := 21#32
  let v126 : BitVec 32 := Scalar.minsi arg0 c21_i32_74
  let v127 : Index := Scalar.indexCast v126
  ![v127.toNat]
def k0_mult43 (v128 : BitVec 32) : BitVec 32 :=
  v128

def k0_off75 (i : grid0.Coords) : Fin 1 → Nat :=
  let arg0 : BitVec 32 := BitVec.ofNat 32 (i 0).val
  let c3_i32_73 : BitVec 32 := 3#32
  let v125 : BitVec 32 := Scalar.remsi arg0 c3_i32_73
  ![v125.toNat]
def k0_off76 (v128 : BitVec 32) : Fin 2 → Nat :=
  let v129 : BitVec 32 := v128
  let c0_i32_75 : BitVec 32 := 0#32
  ![v129.toNat, 0]

def k0_chk11 (v128 : BitVec 32) : Prop :=
  (2048 ∣ (k0_mult43 v128).toNat) ∧
  (∀ a, (k0_off76 v128) a + S2048x1024.size a ≤ S65536x1024.size a)
theorem k0_mult43_dvd : ∀ (v128 : BitVec 32) (k0_hw11 : k0_chk11 v128), 2048 ∣ (k0_mult43 v128).toNat := fun v128 k0_hw11 => k0_hw11.1
theorem k0_off76_inb : ∀ (v128 : BitVec 32) (k0_hw11 : k0_chk11 v128), ∀ a, (k0_off76 v128) a + S2048x1024.size a ≤ S65536x1024.size a := fun v128 k0_hw11 => k0_hw11.2

def k0_off77 (i : grid0.Coords) : Fin 3 → Nat :=
  let arg0 : BitVec 32 := BitVec.ofNat 32 (i 0).val
  let c3_i32_73 : BitVec 32 := 3#32
  let v125 : BitVec 32 := Scalar.remsi arg0 c3_i32_73
  let c0_i32_76 : BitVec 32 := 0#32
  let c0_i32_77 : BitVec 32 := 0#32
  ![v125.toNat, 0, 0]
def k0_cond26 (i : grid0.Coords) : BitVec 1 :=
  let arg0 : BitVec 32 := BitVec.ofNat 32 (i 0).val
  let c21_i32_78 : BitVec 32 := 21#32
  let v135 : BitVec 1 := Scalar.cmpi .eq arg0 c21_i32_78
  let v136 : BitVec 32 := Scalar.extui v135
  let c0_i32_79 : BitVec 32 := 0#32
  let v137 : BitVec 1 := Scalar.cmpi .ne v136 c0_i32_79
  v137

def k0_off78 (i : grid0.Coords) : Fin 1 → Nat :=
  let arg0 : BitVec 32 := BitVec.ofNat 32 (i 0).val
  let c2_i32_80 : BitVec 32 := 2#32
  let v138 : BitVec 32 := Scalar.subi arg0 c2_i32_80
  let c21_i32_82 : BitVec 32 := 21#32
  let v140 : BitVec 32 := Scalar.minsi v138 c21_i32_82
  let v141 : Index := Scalar.indexCast v140
  ![v141.toNat]
def k0_mult44 (v142 : BitVec 32) : BitVec 32 :=
  v142

def k0_off79 (i : grid0.Coords) : Fin 1 → Nat :=
  let arg0 : BitVec 32 := BitVec.ofNat 32 (i 0).val
  let c2_i32_80 : BitVec 32 := 2#32
  let v138 : BitVec 32 := Scalar.subi arg0 c2_i32_80
  let c3_i32_81 : BitVec 32 := 3#32
  let v139 : BitVec 32 := Scalar.remsi v138 c3_i32_81
  ![v139.toNat]
def k0_off80 (v142 : BitVec 32) : Fin 2 → Nat :=
  let v143 : BitVec 32 := v142
  let c0_i32_83 : BitVec 32 := 0#32
  ![v143.toNat, 0]

def k0_chk12 (i : grid0.Coords) (v142 : BitVec 32) : Prop :=
  (∀ (k0_h26 : k0_cond26 i = 1#1), 2048 ∣ (k0_mult44 v142).toNat) ∧
  (∀ (k0_h26 : k0_cond26 i = 1#1), ∀ a, (k0_off80 v142) a + S2048x1024.size a ≤ S65536x1024.size a)
theorem k0_mult44_dvd : ∀ (i : grid0.Coords) (v142 : BitVec 32) (k0_hw12 : k0_chk12 i v142), ∀ (k0_h26 : k0_cond26 i = 1#1), 2048 ∣ (k0_mult44 v142).toNat := fun i v142 k0_hw12 k0_h26 => k0_hw12.1 k0_h26
theorem k0_off80_inb : ∀ (i : grid0.Coords) (v142 : BitVec 32) (k0_hw12 : k0_chk12 i v142), ∀ (k0_h26 : k0_cond26 i = 1#1), ∀ a, (k0_off80 v142) a + S2048x1024.size a ≤ S65536x1024.size a := fun i v142 k0_hw12 k0_h26 => k0_hw12.2 k0_h26

def k0_off81 (i : grid0.Coords) : Fin 3 → Nat :=
  let arg0 : BitVec 32 := BitVec.ofNat 32 (i 0).val
  let c2_i32_80 : BitVec 32 := 2#32
  let v138 : BitVec 32 := Scalar.subi arg0 c2_i32_80
  let c3_i32_81 : BitVec 32 := 3#32
  let v139 : BitVec 32 := Scalar.remsi v138 c3_i32_81
  let c0_i32_84 : BitVec 32 := 0#32
  let c0_i32_85 : BitVec 32 := 0#32
  ![v139.toNat, 0, 0]
def k0_off82 (i : grid0.Coords) : Fin 1 → Nat :=
  let arg0 : BitVec 32 := BitVec.ofNat 32 (i 0).val
  let c1_i32 : BitVec 32 := 1#32
  let v149 : BitVec 32 := Scalar.subi arg0 c1_i32
  let c21_i32_87 : BitVec 32 := 21#32
  let v151 : BitVec 32 := Scalar.minsi v149 c21_i32_87
  let v152 : Index := Scalar.indexCast v151
  ![v152.toNat]
def k0_mult45 (v153 : BitVec 32) : BitVec 32 :=
  v153

def k0_off83 (i : grid0.Coords) : Fin 1 → Nat :=
  let arg0 : BitVec 32 := BitVec.ofNat 32 (i 0).val
  let c1_i32 : BitVec 32 := 1#32
  let v149 : BitVec 32 := Scalar.subi arg0 c1_i32
  let c3_i32_86 : BitVec 32 := 3#32
  let v150 : BitVec 32 := Scalar.remsi v149 c3_i32_86
  ![v150.toNat]
def k0_off84 (v153 : BitVec 32) : Fin 2 → Nat :=
  let v154 : BitVec 32 := v153
  let c0_i32_88 : BitVec 32 := 0#32
  ![v154.toNat, 0]

def k0_chk13 (i : grid0.Coords) (v153 : BitVec 32) : Prop :=
  (∀ (k0_h26 : k0_cond26 i = 1#1), 2048 ∣ (k0_mult45 v153).toNat) ∧
  (∀ (k0_h26 : k0_cond26 i = 1#1), ∀ a, (k0_off84 v153) a + S2048x1024.size a ≤ S65536x1024.size a)
theorem k0_mult45_dvd : ∀ (i : grid0.Coords) (v153 : BitVec 32) (k0_hw13 : k0_chk13 i v153), ∀ (k0_h26 : k0_cond26 i = 1#1), 2048 ∣ (k0_mult45 v153).toNat := fun i v153 k0_hw13 k0_h26 => k0_hw13.1 k0_h26
theorem k0_off84_inb : ∀ (i : grid0.Coords) (v153 : BitVec 32) (k0_hw13 : k0_chk13 i v153), ∀ (k0_h26 : k0_cond26 i = 1#1), ∀ a, (k0_off84 v153) a + S2048x1024.size a ≤ S65536x1024.size a := fun i v153 k0_hw13 k0_h26 => k0_hw13.2 k0_h26

def k0_off85 (i : grid0.Coords) : Fin 3 → Nat :=
  let arg0 : BitVec 32 := BitVec.ofNat 32 (i 0).val
  let c1_i32 : BitVec 32 := 1#32
  let v149 : BitVec 32 := Scalar.subi arg0 c1_i32
  let c3_i32_86 : BitVec 32 := 3#32
  let v150 : BitVec 32 := Scalar.remsi v149 c3_i32_86
  let c0_i32_89 : BitVec 32 := 0#32
  let c0_i32_90 : BitVec 32 := 0#32
  ![v150.toNat, 0, 0]
def k0_off86 (i : grid0.Coords) : Fin 1 → Nat :=
  let arg0 : BitVec 32 := BitVec.ofNat 32 (i 0).val
  let c21_i32_92 : BitVec 32 := 21#32
  let v161 : BitVec 32 := Scalar.minsi arg0 c21_i32_92
  let v162 : Index := Scalar.indexCast v161
  ![v162.toNat]
def k0_mult46 (v163 : BitVec 32) : BitVec 32 :=
  v163

def k0_off87 (i : grid0.Coords) : Fin 1 → Nat :=
  let arg0 : BitVec 32 := BitVec.ofNat 32 (i 0).val
  let c3_i32_91 : BitVec 32 := 3#32
  let v160 : BitVec 32 := Scalar.remsi arg0 c3_i32_91
  ![v160.toNat]
def k0_off88 (v163 : BitVec 32) : Fin 2 → Nat :=
  let v164 : BitVec 32 := v163
  let c0_i32_93 : BitVec 32 := 0#32
  ![v164.toNat, 0]

def k0_chk14 (i : grid0.Coords) (v163 : BitVec 32) : Prop :=
  (∀ (k0_h26 : k0_cond26 i = 1#1), 2048 ∣ (k0_mult46 v163).toNat) ∧
  (∀ (k0_h26 : k0_cond26 i = 1#1), ∀ a, (k0_off88 v163) a + S2048x1024.size a ≤ S65536x1024.size a)
theorem k0_mult46_dvd : ∀ (i : grid0.Coords) (v163 : BitVec 32) (k0_hw14 : k0_chk14 i v163), ∀ (k0_h26 : k0_cond26 i = 1#1), 2048 ∣ (k0_mult46 v163).toNat := fun i v163 k0_hw14 k0_h26 => k0_hw14.1 k0_h26
theorem k0_off88_inb : ∀ (i : grid0.Coords) (v163 : BitVec 32) (k0_hw14 : k0_chk14 i v163), ∀ (k0_h26 : k0_cond26 i = 1#1), ∀ a, (k0_off88 v163) a + S2048x1024.size a ≤ S65536x1024.size a := fun i v163 k0_hw14 k0_h26 => k0_hw14.2 k0_h26

def k0_off89 (i : grid0.Coords) : Fin 3 → Nat :=
  let arg0 : BitVec 32 := BitVec.ofNat 32 (i 0).val
  let c3_i32_91 : BitVec 32 := 3#32
  let v160 : BitVec 32 := Scalar.remsi arg0 c3_i32_91
  let c0_i32_94 : BitVec 32 := 0#32
  let c0_i32_95 : BitVec 32 := 0#32
  ![v160.toNat, 0, 0]
def k0_off90 (i : grid0.Coords) : Fin 1 → Nat :=
  let arg0 : BitVec 32 := BitVec.ofNat 32 (i 0).val
  let c21_i32_96 : BitVec 32 := 21#32
  let v170 : BitVec 32 := Scalar.minsi arg0 c21_i32_96
  let v171 : Index := Scalar.indexCast v170
  ![v171.toNat]
def k0_mult47 (v172 : BitVec 32) : BitVec 32 :=
  v172

def k0_off91 (v172 : BitVec 32) : Fin 2 → Nat :=
  let v173 : BitVec 32 := v172
  let c0_i32_97 : BitVec 32 := 0#32
  ![v173.toNat, 0]

def k0_chk15 (i : grid0.Coords) (v172 : BitVec 32) : Prop :=
  (∀ (k0_h26 : k0_cond26 i = 1#1), 2048 ∣ (k0_mult47 v172).toNat) ∧
  (∀ (k0_h26 : k0_cond26 i = 1#1), ∀ a, (k0_off91 v172) a + S2048x1024.size a ≤ S65536x1024.size a)
theorem k0_mult47_dvd : ∀ (i : grid0.Coords) (v172 : BitVec 32) (k0_hw15 : k0_chk15 i v172), ∀ (k0_h26 : k0_cond26 i = 1#1), 2048 ∣ (k0_mult47 v172).toNat := fun i v172 k0_hw15 k0_h26 => k0_hw15.1 k0_h26
theorem k0_off91_inb : ∀ (i : grid0.Coords) (v172 : BitVec 32) (k0_hw15 : k0_chk15 i v172), ∀ (k0_h26 : k0_cond26 i = 1#1), ∀ a, (k0_off91 v172) a + S2048x1024.size a ≤ S65536x1024.size a := fun i v172 k0_hw15 k0_h26 => k0_hw15.2 k0_h26

def k0_off92 (i : grid0.Coords) : Fin 1 → Nat :=
  let arg0 : BitVec 32 := BitVec.ofNat 32 (i 0).val
  let c21_i32_98 : BitVec 32 := 21#32
  let v175 : BitVec 32 := Scalar.minsi arg0 c21_i32_98
  let v176 : Index := Scalar.indexCast v175
  ![v176.toNat]
def k0_mult48 (v177 : BitVec 32) : BitVec 32 :=
  v177

def k0_off93 (v177 : BitVec 32) : Fin 2 → Nat :=
  let v178 : BitVec 32 := v177
  let c0_i32_99 : BitVec 32 := 0#32
  ![v178.toNat, 0]

def k0_chk16 (i : grid0.Coords) (v177 : BitVec 32) : Prop :=
  (∀ (k0_h26 : k0_cond26 i = 1#1), 2048 ∣ (k0_mult48 v177).toNat) ∧
  (∀ (k0_h26 : k0_cond26 i = 1#1), ∀ a, (k0_off93 v177) a + S2048x1024.size a ≤ S65536x1024.size a)
theorem k0_mult48_dvd : ∀ (i : grid0.Coords) (v177 : BitVec 32) (k0_hw16 : k0_chk16 i v177), ∀ (k0_h26 : k0_cond26 i = 1#1), 2048 ∣ (k0_mult48 v177).toNat := fun i v177 k0_hw16 k0_h26 => k0_hw16.1 k0_h26
theorem k0_off93_inb : ∀ (i : grid0.Coords) (v177 : BitVec 32) (k0_hw16 : k0_chk16 i v177), ∀ (k0_h26 : k0_cond26 i = 1#1), ∀ a, (k0_off93 v177) a + S2048x1024.size a ≤ S65536x1024.size a := fun i v177 k0_hw16 k0_h26 => k0_hw16.2 k0_h26

def k0_off94 (i : grid0.Coords) : Fin 1 → Nat :=
  let arg0 : BitVec 32 := BitVec.ofNat 32 (i 0).val
  let c21_i32_100 : BitVec 32 := 21#32
  let v180 : BitVec 32 := Scalar.minsi arg0 c21_i32_100
  let v181 : Index := Scalar.indexCast v180
  ![v181.toNat]
def k0_mult49 (v182 : BitVec 32) : BitVec 32 :=
  v182

def k0_off95 (v182 : BitVec 32) : Fin 2 → Nat :=
  let v183 : BitVec 32 := v182
  let c0_i32_101 : BitVec 32 := 0#32
  ![v183.toNat, 0]

def k0_chk17 (i : grid0.Coords) (v182 : BitVec 32) : Prop :=
  (∀ (k0_h26 : k0_cond26 i = 1#1), 2048 ∣ (k0_mult49 v182).toNat) ∧
  (∀ (k0_h26 : k0_cond26 i = 1#1), ∀ a, (k0_off95 v182) a + S2048x1024.size a ≤ S65536x1024.size a)
theorem k0_mult49_dvd : ∀ (i : grid0.Coords) (v182 : BitVec 32) (k0_hw17 : k0_chk17 i v182), ∀ (k0_h26 : k0_cond26 i = 1#1), 2048 ∣ (k0_mult49 v182).toNat := fun i v182 k0_hw17 k0_h26 => k0_hw17.1 k0_h26
theorem k0_off95_inb : ∀ (i : grid0.Coords) (v182 : BitVec 32) (k0_hw17 : k0_chk17 i v182), ∀ (k0_h26 : k0_cond26 i = 1#1), ∀ a, (k0_off95 v182) a + S2048x1024.size a ≤ S65536x1024.size a := fun i v182 k0_hw17 k0_h26 => k0_hw17.2 k0_h26

def k0_off96 (i : grid0.Coords) : Fin 1 → Nat :=
  let arg0 : BitVec 32 := BitVec.ofNat 32 (i 0).val
  let c21_i32_102 : BitVec 32 := 21#32
  let v185 : BitVec 32 := Scalar.minsi arg0 c21_i32_102
  let v186 : Index := Scalar.indexCast v185
  ![v186.toNat]
def k0_mult50 (v187 : BitVec 32) : BitVec 32 :=
  v187

def k0_off97 (v187 : BitVec 32) : Fin 2 → Nat :=
  let v188 : BitVec 32 := v187
  let c0_i32_103 : BitVec 32 := 0#32
  ![v188.toNat, 0]

def k0_chk18 (i : grid0.Coords) (v187 : BitVec 32) : Prop :=
  (∀ (k0_h26 : k0_cond26 i = 1#1), 2048 ∣ (k0_mult50 v187).toNat) ∧
  (∀ (k0_h26 : k0_cond26 i = 1#1), ∀ a, (k0_off97 v187) a + S2048x1024.size a ≤ S65536x1024.size a)
theorem k0_mult50_dvd : ∀ (i : grid0.Coords) (v187 : BitVec 32) (k0_hw18 : k0_chk18 i v187), ∀ (k0_h26 : k0_cond26 i = 1#1), 2048 ∣ (k0_mult50 v187).toNat := fun i v187 k0_hw18 k0_h26 => k0_hw18.1 k0_h26
theorem k0_off97_inb : ∀ (i : grid0.Coords) (v187 : BitVec 32) (k0_hw18 : k0_chk18 i v187), ∀ (k0_h26 : k0_cond26 i = 1#1), ∀ a, (k0_off97 v187) a + S2048x1024.size a ≤ S65536x1024.size a := fun i v187 k0_hw18 k0_h26 => k0_hw18.2 k0_h26

def k0_off98 (i : grid0.Coords) : Fin 1 → Nat :=
  let arg0 : BitVec 32 := BitVec.ofNat 32 (i 0).val
  let c21_i32_104 : BitVec 32 := 21#32
  let v190 : BitVec 32 := Scalar.minsi arg0 c21_i32_104
  let v191 : Index := Scalar.indexCast v190
  ![v191.toNat]
def k0_mult51 (v192 : BitVec 32) : BitVec 32 :=
  v192

def k0_off99 (v192 : BitVec 32) : Fin 2 → Nat :=
  let v193 : BitVec 32 := v192
  let c0_i32_105 : BitVec 32 := 0#32
  ![v193.toNat, 0]

def k0_chk19 (i : grid0.Coords) (v192 : BitVec 32) : Prop :=
  (∀ (k0_h26 : k0_cond26 i = 1#1), 2048 ∣ (k0_mult51 v192).toNat) ∧
  (∀ (k0_h26 : k0_cond26 i = 1#1), ∀ a, (k0_off99 v192) a + S2048x1024.size a ≤ S65536x1024.size a)
theorem k0_mult51_dvd : ∀ (i : grid0.Coords) (v192 : BitVec 32) (k0_hw19 : k0_chk19 i v192), ∀ (k0_h26 : k0_cond26 i = 1#1), 2048 ∣ (k0_mult51 v192).toNat := fun i v192 k0_hw19 k0_h26 => k0_hw19.1 k0_h26
theorem k0_off99_inb : ∀ (i : grid0.Coords) (v192 : BitVec 32) (k0_hw19 : k0_chk19 i v192), ∀ (k0_h26 : k0_cond26 i = 1#1), ∀ a, (k0_off99 v192) a + S2048x1024.size a ≤ S65536x1024.size a := fun i v192 k0_hw19 k0_h26 => k0_hw19.2 k0_h26

def k0_off100 (i : grid0.Coords) : Fin 1 → Nat :=
  let arg0 : BitVec 32 := BitVec.ofNat 32 (i 0).val
  let c21_i32_106 : BitVec 32 := 21#32
  let v195 : BitVec 32 := Scalar.minsi arg0 c21_i32_106
  let v196 : Index := Scalar.indexCast v195
  ![v196.toNat]
def k0_mult52 (v197 : BitVec 32) : BitVec 32 :=
  v197

def k0_off101 (v197 : BitVec 32) : Fin 2 → Nat :=
  let v198 : BitVec 32 := v197
  let c0_i32_107 : BitVec 32 := 0#32
  ![v198.toNat, 0]

def k0_chk20 (i : grid0.Coords) (v197 : BitVec 32) : Prop :=
  (∀ (k0_h26 : k0_cond26 i = 1#1), 2048 ∣ (k0_mult52 v197).toNat) ∧
  (∀ (k0_h26 : k0_cond26 i = 1#1), ∀ a, (k0_off101 v197) a + S2048x1024.size a ≤ S65536x1024.size a)
theorem k0_mult52_dvd : ∀ (i : grid0.Coords) (v197 : BitVec 32) (k0_hw20 : k0_chk20 i v197), ∀ (k0_h26 : k0_cond26 i = 1#1), 2048 ∣ (k0_mult52 v197).toNat := fun i v197 k0_hw20 k0_h26 => k0_hw20.1 k0_h26
theorem k0_off101_inb : ∀ (i : grid0.Coords) (v197 : BitVec 32) (k0_hw20 : k0_chk20 i v197), ∀ (k0_h26 : k0_cond26 i = 1#1), ∀ a, (k0_off101 v197) a + S2048x1024.size a ≤ S65536x1024.size a := fun i v197 k0_hw20 k0_h26 => k0_hw20.2 k0_h26

def k0_off102 (i : grid0.Coords) : Fin 1 → Nat :=
  let arg0 : BitVec 32 := BitVec.ofNat 32 (i 0).val
  let c21_i32_108 : BitVec 32 := 21#32
  let v200 : BitVec 32 := Scalar.minsi arg0 c21_i32_108
  let v201 : Index := Scalar.indexCast v200
  ![v201.toNat]
def k0_mult53 (v202 : BitVec 32) : BitVec 32 :=
  v202

def k0_off103 (v202 : BitVec 32) : Fin 2 → Nat :=
  let v203 : BitVec 32 := v202
  let c0_i32_109 : BitVec 32 := 0#32
  ![v203.toNat, 0]

def k0_chk21 (i : grid0.Coords) (v202 : BitVec 32) : Prop :=
  (∀ (k0_h26 : k0_cond26 i = 1#1), 2048 ∣ (k0_mult53 v202).toNat) ∧
  (∀ (k0_h26 : k0_cond26 i = 1#1), ∀ a, (k0_off103 v202) a + S2048x1024.size a ≤ S65536x1024.size a)
theorem k0_mult53_dvd : ∀ (i : grid0.Coords) (v202 : BitVec 32) (k0_hw21 : k0_chk21 i v202), ∀ (k0_h26 : k0_cond26 i = 1#1), 2048 ∣ (k0_mult53 v202).toNat := fun i v202 k0_hw21 k0_h26 => k0_hw21.1 k0_h26
theorem k0_off103_inb : ∀ (i : grid0.Coords) (v202 : BitVec 32) (k0_hw21 : k0_chk21 i v202), ∀ (k0_h26 : k0_cond26 i = 1#1), ∀ a, (k0_off103 v202) a + S2048x1024.size a ≤ S65536x1024.size a := fun i v202 k0_hw21 k0_h26 => k0_hw21.2 k0_h26

def k0_off104 (i : grid0.Coords) : Fin 1 → Nat :=
  let arg0 : BitVec 32 := BitVec.ofNat 32 (i 0).val
  let c21_i32_110 : BitVec 32 := 21#32
  let v205 : BitVec 32 := Scalar.minsi arg0 c21_i32_110
  let v206 : Index := Scalar.indexCast v205
  ![v206.toNat]
def k0_mult54 (v207 : BitVec 32) : BitVec 32 :=
  v207

def k0_off105 (v207 : BitVec 32) : Fin 2 → Nat :=
  let v208 : BitVec 32 := v207
  let c0_i32_111 : BitVec 32 := 0#32
  ![v208.toNat, 0]

def k0_chk22 (i : grid0.Coords) (v207 : BitVec 32) : Prop :=
  (∀ (k0_h26 : k0_cond26 i = 1#1), 2048 ∣ (k0_mult54 v207).toNat) ∧
  (∀ (k0_h26 : k0_cond26 i = 1#1), ∀ a, (k0_off105 v207) a + S2048x1024.size a ≤ S65536x1024.size a)
theorem k0_mult54_dvd : ∀ (i : grid0.Coords) (v207 : BitVec 32) (k0_hw22 : k0_chk22 i v207), ∀ (k0_h26 : k0_cond26 i = 1#1), 2048 ∣ (k0_mult54 v207).toNat := fun i v207 k0_hw22 k0_h26 => k0_hw22.1 k0_h26
theorem k0_off105_inb : ∀ (i : grid0.Coords) (v207 : BitVec 32) (k0_hw22 : k0_chk22 i v207), ∀ (k0_h26 : k0_cond26 i = 1#1), ∀ a, (k0_off105 v207) a + S2048x1024.size a ≤ S65536x1024.size a := fun i v207 k0_hw22 k0_h26 => k0_hw22.2 k0_h26

def k0_off106 (i : grid0.Coords) : Fin 1 → Nat :=
  let arg0 : BitVec 32 := BitVec.ofNat 32 (i 0).val
  let c21_i32_112 : BitVec 32 := 21#32
  let v210 : BitVec 32 := Scalar.minsi arg0 c21_i32_112
  let v211 : Index := Scalar.indexCast v210
  ![v211.toNat]
def k0_mult55 (v212 : BitVec 32) : BitVec 32 :=
  v212

def k0_off107 (v212 : BitVec 32) : Fin 2 → Nat :=
  let v213 : BitVec 32 := v212
  let c0_i32_113 : BitVec 32 := 0#32
  ![v213.toNat, 0]

def k0_chk23 (i : grid0.Coords) (v212 : BitVec 32) : Prop :=
  (∀ (k0_h26 : k0_cond26 i = 1#1), 2048 ∣ (k0_mult55 v212).toNat) ∧
  (∀ (k0_h26 : k0_cond26 i = 1#1), ∀ a, (k0_off107 v212) a + S2048x1024.size a ≤ S65536x1024.size a)
theorem k0_mult55_dvd : ∀ (i : grid0.Coords) (v212 : BitVec 32) (k0_hw23 : k0_chk23 i v212), ∀ (k0_h26 : k0_cond26 i = 1#1), 2048 ∣ (k0_mult55 v212).toNat := fun i v212 k0_hw23 k0_h26 => k0_hw23.1 k0_h26
theorem k0_off107_inb : ∀ (i : grid0.Coords) (v212 : BitVec 32) (k0_hw23 : k0_chk23 i v212), ∀ (k0_h26 : k0_cond26 i = 1#1), ∀ a, (k0_off107 v212) a + S2048x1024.size a ≤ S65536x1024.size a := fun i v212 k0_hw23 k0_h26 => k0_hw23.2 k0_h26

def k0_off108 (i : grid0.Coords) : Fin 1 → Nat :=
  let arg0 : BitVec 32 := BitVec.ofNat 32 (i 0).val
  let c21_i32_114 : BitVec 32 := 21#32
  let v215 : BitVec 32 := Scalar.minsi arg0 c21_i32_114
  let v216 : Index := Scalar.indexCast v215
  ![v216.toNat]
def k0_mult56 (v217 : BitVec 32) : BitVec 32 :=
  v217

def k0_off109 (v217 : BitVec 32) : Fin 2 → Nat :=
  let v218 : BitVec 32 := v217
  let c0_i32_115 : BitVec 32 := 0#32
  ![v218.toNat, 0]

def k0_chk24 (i : grid0.Coords) (v217 : BitVec 32) : Prop :=
  (∀ (k0_h26 : k0_cond26 i = 1#1), 2048 ∣ (k0_mult56 v217).toNat) ∧
  (∀ (k0_h26 : k0_cond26 i = 1#1), ∀ a, (k0_off109 v217) a + S2048x1024.size a ≤ S65536x1024.size a)
theorem k0_mult56_dvd : ∀ (i : grid0.Coords) (v217 : BitVec 32) (k0_hw24 : k0_chk24 i v217), ∀ (k0_h26 : k0_cond26 i = 1#1), 2048 ∣ (k0_mult56 v217).toNat := fun i v217 k0_hw24 k0_h26 => k0_hw24.1 k0_h26
theorem k0_off109_inb : ∀ (i : grid0.Coords) (v217 : BitVec 32) (k0_hw24 : k0_chk24 i v217), ∀ (k0_h26 : k0_cond26 i = 1#1), ∀ a, (k0_off109 v217) a + S2048x1024.size a ≤ S65536x1024.size a := fun i v217 k0_hw24 k0_h26 => k0_hw24.2 k0_h26
-- ==== ReferenceIdeal.lean ====
abbrev S32768x1024 : Shape := ⟨2, ![32768, 1024]⟩
abbrev S17 : Shape := ⟨1, ![17]⟩
abbrev S16 : Shape := ⟨1, ![16]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S16x4096x1024 : Shape := ⟨3, ![16, 4096, 1024]⟩
abbrev S32768x2 : Shape := ⟨2, ![32768, 2]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S16, .i32⟩
  | .hbm, ⟨3, _⟩ => ⟨S32768x1024, .f32⟩
  | .hbm, ⟨4, _⟩ => ⟨S16, .i32⟩
  | .hbm, ⟨5, _⟩ => ⟨S1, .i32⟩
  | .hbm, ⟨6, _⟩ => ⟨S15, .i32⟩
  | .hbm, ⟨7, _⟩ => ⟨S16, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S16, .i32⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S_, .i32⟩
  | .hbm, ⟨16, _⟩ => ⟨S32768, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S16x1, .i32⟩
  | .hbm, ⟨25, _⟩ => ⟨S_, .i32⟩
  | .hbm, ⟨26, _⟩ => ⟨S16, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S1, .i32⟩
  | .hbm, ⟨43, _⟩ => ⟨S_, .i32⟩
  | .hbm, ⟨44, _⟩ => ⟨S32768x1, .i32⟩
  | .hbm, ⟨45, _⟩ => ⟨S32768x1, .i1⟩
  | .hbm, ⟨46, _⟩ => ⟨S1x1, .i32⟩
  | .hbm, ⟨47, _⟩ => ⟨S32768x1, .i32⟩
  | .hbm, ⟨48, _⟩ => ⟨S32768x1, .i1⟩
  | .hbm, ⟨49, _⟩ => ⟨S32768x1, .i1⟩
  | .hbm, ⟨50, _⟩ => ⟨S_, .i1⟩
  | .hbm, ⟨51, _⟩ => ⟨S32768, .i1⟩
  | .hbm, ⟨52, _⟩ => ⟨S32768, .i32⟩
  | .hbm, ⟨53, _⟩ => ⟨S_, .i32⟩
  | .hbm, ⟨54, _⟩ => ⟨S32768, .i32⟩
  | .hbm, ⟨55, _⟩ => ⟨S32768, .i32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S32768, .i32⟩
  | .hbm, ⟨66, _⟩ => ⟨S32768, .i32⟩
  | .hbm, ⟨67, _⟩ => ⟨S_, .f32⟩
  | .hbm, ⟨68, _⟩ => ⟨S16x4096x1024, .f32⟩
  | .hbm, ⟨69, _⟩ => ⟨S_, .i32⟩
  | .hbm, ⟨70, _⟩ => ⟨S32768, .i32⟩
  | .hbm, ⟨71, _⟩ => ⟨S32768, .i1⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S32768, .i32⟩
  | .hbm, ⟨76, _⟩ => ⟨S_, .i32⟩
  | .hbm, ⟨77, _⟩ => ⟨S32768, .i32⟩
  | .hbm, ⟨78, _⟩ => ⟨S32768, .i1⟩
  | .hbm, ⟨79, _⟩ => ⟨S_, .i32⟩
  | .hbm, ⟨80, _⟩ => ⟨S32768, .i32⟩
  | .hbm, ⟨81, _⟩ => ⟨S32768, .i32⟩
  | .hbm, ⟨82, _⟩ => ⟨S32768, .i32⟩
  | .hbm, ⟨83, _⟩ => ⟨S32768x1, .i32⟩
  | .hbm, ⟨84, _⟩ => ⟨S32768x1, .i32⟩
  | .hbm, ⟨85, _⟩ => ⟨S32768x2, .i32⟩
  | .hbm, ⟨86, _⟩ => ⟨S16x4096x1024, .f32⟩
  | .hbm, ⟨87, _⟩ => ⟨S16x4096x1024, .f32⟩
  | .hbm, ⟨88, _⟩ => ⟨S16x4096x1024, .f32⟩
  | .hbm, ⟨89, _⟩ => ⟨S_, .f32⟩
  | .hbm, ⟨90, _⟩ => ⟨S16x4096x1024, .f32⟩
  | .hbm, ⟨91, _⟩ => ⟨S16x4096x1024, .f32⟩
  | .hbm, ⟨92, _⟩ => ⟨S_, .f32⟩
  | .hbm, ⟨93, _⟩ => ⟨S16x4096x1024, .f32⟩
  | .hbm, ⟨94, _⟩ => ⟨S16x4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_call1_call0_c : Ref sig .tc := ⟨.hbm, 12, rfl⟩
abbrev main_call1_call0_v0 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_c_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_call2_call0_c : Ref sig .tc := ⟨.hbm, 28, rfl⟩
abbrev main_call2_call0_v0 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v18 : Ref sig .tc := ⟨.hbm, 55, rfl⟩
abbrev main_v19 : Ref sig .tc := ⟨.hbm, 56, rfl⟩
abbrev main_c_7 : Ref sig .tc := ⟨.hbm, 57, rfl⟩
abbrev main_v20 : Ref sig .tc := ⟨.hbm, 58, rfl⟩
abbrev main_v21 : Ref sig .tc := ⟨.hbm, 59, rfl⟩
abbrev main_c_8 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst : Ref sig .tc := ⟨.hbm, 67, rfl⟩
abbrev main_v28 : Ref sig .tc := ⟨.hbm, 68, rfl⟩
abbrev main_c_9 : Ref sig .tc := ⟨.hbm, 69, rfl⟩
abbrev main_v29 : Ref sig .tc := ⟨.hbm, 70, rfl⟩
abbrev main_v30 : Ref sig .tc := ⟨.hbm, 71, rfl⟩
abbrev main_c_10 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_c_11 : Ref sig .tc := ⟨.hbm, 76, rfl⟩
abbrev main_v34 : Ref sig .tc := ⟨.hbm, 77, rfl⟩
abbrev main_v35 : Ref sig .tc := ⟨.hbm, 78, rfl⟩
abbrev main_c_12 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_13 : Ref sig .tc := ⟨.hbm, 89, rfl⟩
abbrev main_v45 : Ref sig .tc := ⟨.hbm, 90, rfl⟩
abbrev main_v46 : Ref sig .tc := ⟨.hbm, 91, rfl⟩
abbrev main_cst_14 : Ref sig .tc := ⟨.hbm, 92, rfl⟩
abbrev main_v47 : Ref sig .tc := ⟨.hbm, 93, rfl⟩
abbrev main_v48 : Ref sig .tc := ⟨.hbm, 94, rfl⟩

abbrev nD : Nat := 1
abbrev τ : Topo := Topo.v7x

variable {F : FTy → Type} [FloatOps F]
-- ==== Proof.Rows.lean ====
/-
  The buffers the kernel moves rows between, the sets of their rows, and what one copy leaves behind: a copy of
  `N` rows of the flat input lands in the rows of one slot of the staging ring, a copy of a slot of the result ring
  (or of the constant block) lands in one block of 2048 rows of the result.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The staging ring, the result ring, the constant block, the flat input and the result. -/
abbrev BUF : Memref sig .tc .vmem S3x2048x1024 .f32 := Memref.whole cc0_scratch0
abbrev OBF : Memref sig .tc .vmem S3x2048x1024 .f32 := Memref.whole cc0_scratch2
abbrev CBF : Memref sig .tc .vmem S2048x1024 .f32 := Memref.whole cc0_scratch4
abbrev FLT : Memref sig .tc .hbm S32768x1024 .f32 := Memref.whole main_arg0
abbrev OUT : Memref sig .tc .hbm S65536x1024 .f32 := Memref.whole main_v0

/-- Contents of the five buffers, as arrays. -/
abbrev Ring := S3x2048x1024.Idx → Elt F .f32
abbrev Flat := S32768x1024.Idx → Elt F .f32
abbrev Outc := S65536x1024.Idx → Elt F .f32
abbrev Blk := S2048x1024.Idx → Elt F .f32

/-- Rows `a … a+n` of slot `s` of a ring. -/
def bRows (s a n : ℕ) : Finset S3x2048x1024.Idx :=
  Finset.univ.filter fun i => (i 0).val = s ∧ a ≤ (i 1).val ∧ (i 1).val < a + n
/-- Rows `a … a+n` of the flat input. -/
def fRows (a n : ℕ) : Finset S32768x1024.Idx :=
  Finset.univ.filter fun i => a ≤ (i 0).val ∧ (i 0).val < a + n
/-- The 2048-row blocks of the result whose numbers lie in `B`. -/
def oBlk (B : Finset ℕ) : Finset S65536x1024.Idx :=
  Finset.univ.filter fun i => (i 0).val / 2048 ∈ B

theorem mem_bRows {s a n : ℕ} {i : S3x2048x1024.Idx} :
    i ∈ bRows s a n ↔ (i 0).val = s ∧ a ≤ (i 1).val ∧ (i 1).val < a + n := by simp [bRows]
theorem mem_fRows {a n : ℕ} {i : S32768x1024.Idx} : i ∈ fRows a n ↔ a ≤ (i 0).val ∧ (i 0).val < a + n := by simp [fRows]
theorem mem_oBlk {B : Finset ℕ} {i : S65536x1024.Idx} : i ∈ oBlk B ↔ (i 0).val / 2048 ∈ B := by simp [oBlk]

theorem bRows_split (s a n k : ℕ) (hk : k ≤ n) : bRows s a n = bRows s a k ∪ bRows s (a + k) (n - k) := by
  ext i; simp only [Finset.mem_union, mem_bRows]; omega
theorem bRows_disj (s a k n : ℕ) : Disjoint (bRows s a k) (bRows s (a + k) n) := by
  rw [Finset.disjoint_left]; intro i; simp only [mem_bRows]; omega
theorem fRows_split (a n k : ℕ) (hk : k ≤ n) : fRows a n = fRows a k ∪ fRows (a + k) (n - k) := by
  ext i; simp only [Finset.mem_union, mem_fRows]; omega
theorem fRows_disj (a k n : ℕ) : Disjoint (fRows a k) (fRows (a + k) n) := by
  rw [Finset.disjoint_left]; intro i; simp only [mem_fRows]; omega
theorem oBlk_insert (b : ℕ) (B : Finset ℕ) : oBlk (insert b B) = oBlk {b} ∪ oBlk B := by
  ext i; simp only [Finset.mem_union, mem_oBlk, Finset.mem_insert, Finset.mem_singleton]
theorem oBlk_disj (A B : Finset ℕ) (h : Disjoint A B) : Disjoint (oBlk A) (oBlk B) := by
  rw [Finset.disjoint_left]; intro i; simp only [mem_oBlk]; exact fun ha hb => Finset.disjoint_left.mp h ha hb
theorem oBlk_empty : oBlk ∅ = ∅ := by ext i; simp [mem_oBlk]
theorem fRows_zero (a : ℕ) : fRows a 0 = ∅ := by
  ext i; simp only [mem_fRows, Finset.notMem_empty, iff_false]; omega
theorem bRows_zero (s a : ℕ) : bRows s a 0 = ∅ := by
  ext i; simp only [mem_bRows, Finset.notMem_empty, iff_false]; omega

/-! ## A window of rows as the program names it -/

/-- `N` rows of slot of a ring, as the program slices and squeezes them. -/
abbrev rWin (M : Memref sig .tc .vmem S3x2048x1024 .f32) (N : ℕ) (o : Fin 3 → ℕ)
    (h : ∀ a, o a + (⟨3, ![1, N, 1024]⟩ : Shape).size a ≤ S3x2048x1024.size a)
    (hq : (⟨3, ![1, N, 1024]⟩ : Shape).Squeezes ⟨2, ![N, 1024]⟩) : Memref sig .tc .vmem ⟨2, ![N, 1024]⟩ .f32 :=
  (M.slice (Rect.unit (s := S3x2048x1024) o (⟨3, ![1, N, 1024]⟩ : Shape).size h) (fun _ => rfl)).squeeze ⟨2, ![N, 1024]⟩ hq
/-- `N` rows of the flat input, as the program slices them. -/
abbrev fWin (N : ℕ) (o : Fin 2 → ℕ) (h : ∀ a, o a + (⟨2, ![N, 1024]⟩ : Shape).size a ≤ S32768x1024.size a) :
    Memref sig .tc .hbm ⟨2, ![N, 1024]⟩ .f32 :=
  FLT.slice (Rect.unit (s := S32768x1024) o (⟨2, ![N, 1024]⟩ : Shape).size h) (fun _ => rfl)
/-- A block of 2048 rows of the result, as the program slices it. -/
abbrev oWin (o : Fin 2 → ℕ) (h : ∀ a, o a + S2048x1024.size a ≤ S65536x1024.size a) : Memref sig .tc .hbm S2048x1024 .f32 :=
  OUT.slice (Rect.unit (s := S65536x1024) o S2048x1024.size h) (fun _ => rfl)

theorem rWin_emb (M : Memref sig .tc .vmem S3x2048x1024 .f32) (N : ℕ) (o : Fin 3 → ℕ) (h) (hq) (y : (⟨2, ![N, 1024]⟩ : Shape).Idx) :
    (rWin M N o h hq).view.emb y
      = M.view.emb ((Rect.unit (s := S3x2048x1024) o (⟨3, ![1, N, 1024]⟩ : Shape).size h).emb (Fin.cons ⟨0, Nat.one_pos⟩ y)) := by
  have h1 : (rWin M N o h hq).view.emb y
      = M.view.emb ((Rect.unit (s := S3x2048x1024) o (⟨3, ![1, N, 1024]⟩ : Shape).size h).emb (Shape.reshapeEquiv hq.numel_eq y)) := rfl
  rw [h1, Shape.reshapeEquiv_cons_one]

theorem unit_set_ring (N s a : ℕ) (h : ∀ x, (![s, a, 0] : Fin 3 → ℕ) x + (⟨3, ![1, N, 1024]⟩ : Shape).size x ≤ S3x2048x1024.size x) :
    (Rect.unit (s := S3x2048x1024) ![s, a, 0] (⟨3, ![1, N, 1024]⟩ : Shape).size h).set = bRows s a N := by
  ext i
  rw [Rect.mem_set_unit, mem_bRows]
  constructor
  · intro H
    have h0 := H 0; have h1 := H 1
    simp at h0 h1; omega
  · intro H a
    have h2 : (i 2).val < 1024 := (i 2).isLt
    fin_cases a <;> simp <;> omega

theorem unit_set_flat (N a : ℕ) (h : ∀ x, (![a, 0] : Fin 2 → ℕ) x + (⟨2, ![N, 1024]⟩ : Shape).size x ≤ S32768x1024.size x) :
    (Rect.unit (s := S32768x1024) ![a, 0] (⟨2, ![N, 1024]⟩ : Shape).size h).set = fRows a N := by
  ext i
  rw [Rect.mem_set_unit, mem_fRows]
  constructor
  · intro H
    have h0 := H 0
    simp at h0; omega
  · intro H a
    have h2 : (i 1).val < 1024 := (i 1).isLt
    fin_cases a <;> simp <;> omega

theorem unit_set_out (b : ℕ) (h : ∀ x, (![2048 * b, 0] : Fin 2 → ℕ) x + S2048x1024.size x ≤ S65536x1024.size x) :
    (Rect.unit (s := S65536x1024) ![2048 * b, 0] S2048x1024.size h).set = oBlk {b} := by
  ext i
  rw [Rect.mem_set_unit, mem_oBlk]
  constructor
  · intro H
    have h0 := H 0
    simp at h0 ⊢; omega
  · intro H a
    have h2 : (i 1).val < 1024 := (i 1).isLt
    simp at H
    fin_cases a <;> simp <;> omega

theorem bWin_set (N s a : ℕ) (h) (hq) : (rWin BUF N ![s, a, 0] h hq).view.set = bRows s a N :=
  (View.set_reshape _ _).trans ((View.set_slice_whole _ _).trans (unit_set_ring N s a h))
theorem obWin_set (N s a : ℕ) (h) (hq) : (rWin OBF N ![s, a, 0] h hq).view.set = bRows s a N :=
  (View.set_reshape _ _).trans ((View.set_slice_whole _ _).trans (unit_set_ring N s a h))
theorem fWin_set (N a : ℕ) (h) : (fWin N ![a, 0] h).view.set = fRows a N :=
  (View.set_slice_whole _ _).trans (unit_set_flat N a h)
theorem oWin_set (b : ℕ) (h) : (oWin ![2048 * b, 0] h).view.set = oBlk {b} :=
  (View.set_slice_whole _ _).trans (unit_set_out b h)
theorem CBF_set : CBF.view.set = (Finset.univ : Finset S2048x1024.Idx) := View.set_whole _

/-! ## What a landed copy leaves -/

/-- The staging ring's contents once the rows starting at flat row `a` have landed, each at its own row number. -/
def landed (X : Flat (F := F)) (a : ℕ) : Ring (F := F) :=
  fun i => X (Fin.cons (Fin.ofNat 32768 (a + (i 1).val)) (Fin.cons (i 2) (fun x => x.elim0)))

/-- `N` rows of the flat input from row `a + o` on, copied into slot rows `o …`, leave those rows as `landed` says. -/
theorem landed_at (X : Flat (F := F)) (g : Ring (F := F)) (N s o a : ℕ) (ha : a + o + N ≤ 32768)
    (h) (hq) (h') (i : S3x2048x1024.Idx) (hi : i ∈ bRows s o N) :
    (rWin BUF N ![s, o, 0] h hq).view.write (Elt F) g
        (ReadAs.same.apply ((fWin N ![a + o, 0] h').view.read (Elt F) X)) Finset.univ i = landed X a i := by
  rw [← bWin_set N s o h hq] at hi
  obtain ⟨y, -, rfl⟩ := Finset.mem_map.mp hi
  refine (View.write_emb_of_mem _ _ (Finset.mem_univ y)).trans ?_
  rw [rWin_emb]
  show X ((fWin N ![a + o, 0] h').view.emb y) = _
  unfold landed
  congr 1
  funext x
  apply Fin.ext
  have hy : (y 0).val < N := (y 0).isLt
  match x with
  | ⟨0, _⟩ =>
    show a + o + 1 * (y 0).val = (a + (o + 1 * (y 0).val)) % 32768
    rw [Nat.mod_eq_of_lt (by omega)]; omega
  | ⟨1, _⟩ =>
    show 0 + 1 * (y 1).val = 0 + 1 * (y 1).val
    rfl

/-- The result once a 2048-row array `v` has been copied to the block at `o`. -/
abbrev putBlk (o : Fin 2 → ℕ) (h' : ∀ a, o a + S2048x1024.size a ≤ S65536x1024.size a) (g : (oWin o h').view.ty.Contents (Elt F)) (v : S2048x1024.Idx → Elt F .f32) :
    (oWin o h').view.ty.Contents (Elt F) :=
  (oWin o h').view.write (Elt F) g v Finset.univ

/-- Slot `s` of a result ring holding `w` row by row, copied to block `b` of the result, leaves the block as any `G`
    that agrees with `w` there. -/
theorem sent_at (w : Ring (F := F)) (g G : Outc (F := F)) (s b : ℕ) (h) (hq) (h' : ∀ a, (![2048 * b, 0] : Fin 2 → ℕ) a + S2048x1024.size a ≤ S65536x1024.size a)
    (hG : ∀ (r : Fin 2048) (c : Fin 1024) (s' : Fin 3) (R : Fin 65536), s'.val = s → R.val = 2048 * b + r.val →
      w (Fin.cons s' (Fin.cons r (Fin.cons c (fun x => x.elim0)))) = G (Fin.cons R (Fin.cons c (fun x => x.elim0))))
    (i : S65536x1024.Idx) (hi : i ∈ oBlk {b}) :
    putBlk (F := F) ![2048 * b, 0] h' g (ReadAs.same.apply ((rWin OBF 2048 ![s, 0, 0] h hq).view.read (Elt F) w)) i = G i := by
  rw [← oWin_set b h'] at hi
  obtain ⟨y, -, rfl⟩ := Finset.mem_map.mp hi
  refine (View.write_emb_of_mem _ _ (Finset.mem_univ y)).trans ?_
  show w ((rWin OBF 2048 ![s, 0, 0] h hq).view.emb y) = _
  rw [rWin_emb]
  have hs : s < 3 := by have := h 0; simp at this; omega
  have hb : 2048 * b + 2048 ≤ 65536 := by have := h' 0; simpa using this
  have hy : (y 0).val < 2048 := (y 0).isLt
  have := hG (y 0) (y 1) ⟨s, hs⟩ ⟨2048 * b + (y 0).val, by omega⟩ rfl rfl
  refine Eq.trans (congrArg w ?_) (this.trans (congrArg G ?_))
  · funext x; apply Fin.ext
    match x with
    | ⟨0, _⟩ => show s + 1 * 0 = s; omega
    | ⟨1, _⟩ => show 0 + 1 * (y 0).val = (y 0).val; omega
    | ⟨2, _⟩ => show 0 + 1 * (y 1).val = (y 1).val; omega
  · funext x; apply Fin.ext
    match x with
    | ⟨0, _⟩ => show 2048 * b + (y 0).val = 2048 * b + 1 * (y 0).val; omega
    | ⟨1, _⟩ => show (y 1).val = 0 + 1 * (y 1).val; omega

/-- The constant block, copied to block `b` of the result, leaves the block as any `G` constant there. -/
theorem filled_at (w : Blk (F := F)) (g G : Outc (F := F)) (b : ℕ) (h' : ∀ a, (![2048 * b, 0] : Fin 2 → ℕ) a + S2048x1024.size a ≤ S65536x1024.size a) (v : Elt F .f32) (hw : ∀ y, w y = v)
    (hG : ∀ i ∈ oBlk {b}, G i = v) (i : S65536x1024.Idx) (hi : i ∈ oBlk {b}) :
    putBlk (F := F) ![2048 * b, 0] h' g (ReadAs.same.apply (CBF.view.read (Elt F) w)) i = G i := by
  rw [hG i hi]
  rw [← oWin_set b h'] at hi
  obtain ⟨y, -, rfl⟩ := Finset.mem_map.mp hi
  refine (View.write_emb_of_mem _ _ (Finset.mem_univ y)).trans ?_
  exact hw y

end Cert.KernelIdeal.Hand

end
-- ==== Proof.Sched.lean ====
/-
  The kernel's plan as numbers: where each of the 22 data steps starts in the flat input, how many rows it has, which
  block of the result it writes, which blocks are padding, and how a step's rows split into the pieces of 2048, 1024,
  512, 256 and 128 rows that the bits of its row count name.
-/
module

public import Mathlib.Data.Finset.Basic
public import Mathlib.Algebra.BigOperators.Group.List.Basic
public import Mathlib.Tactic.IntervalCases

@[expose] public section

namespace Cert.KernelIdeal.Hand

/-- The first flat row of step `p`; past the last step, the end. -/
def stT (p : ℕ) : ℕ :=
  [0, 2048, 4096, 4608, 6656, 7680, 9728, 10752, 12288, 14336, 14848, 15616, 17664, 19712, 20992, 23040, 23936, 25984,
    27520, 29312, 31360, 31616].getD p 32768
/-- How many rows step `p` has; none past the last. -/
def ndT (p : ℕ) : ℕ :=
  [2048, 2048, 512, 2048, 1024, 2048, 1024, 1536, 2048, 512, 768, 2048, 2048, 1280, 2048, 896, 2048, 1536, 1792, 2048,
    256, 1152].getD p 0
/-- The block of the result step `p` writes. -/
def obT (p : ℕ) : ℕ :=
  [0, 1, 2, 4, 6, 8, 9, 10, 12, 13, 14, 16, 17, 18, 20, 22, 24, 25, 26, 28, 29, 30].getD p 0
/-- The padding blocks, in the order they are filled; the table repeats its last entry. -/
def flT (k : ℕ) : ℕ := [3, 5, 7, 11, 15, 19, 21, 23, 27, 31].getD k 31

/-- The sizes of the pieces, in issue order. -/
def szT (j : ℕ) : ℕ := [2048, 1024, 512, 256, 128].getD j 0
/-- Whether step `p` has a piece of the `j`-th size. -/
def has (p j : ℕ) : Bool := ndT p / szT j % 2 == 1
/-- The pieces of step `p`. -/
def sizes (p : ℕ) : List ℕ := [2048, 1024, 512, 256, 128].filter fun z => ndT p / z % 2 == 1
/-- How many pieces step `p` has. -/
def nT (p : ℕ) : ℕ := (sizes p).length
/-- The size of piece `k` of step `p`. -/
def siz (p k : ℕ) : ℕ := (sizes p).getD k 0
/-- How many of step `p`'s pieces are of the first `j` sizes. -/
def rk (p j : ℕ) : ℕ := (([2048, 1024, 512, 256, 128].take j).filter fun z => ndT p / z % 2 == 1).length
/-- The rows of step `p`'s first `k` pieces together. -/
def pre (p k : ℕ) : ℕ := ((sizes p).take k).sum

/-- The facts about pieces the transfers' rules ask for, of every step and two past the last. -/
theorem pieces : ∀ p : Fin 25, ∀ j : Fin 5,
    (has p j = true → rk p j < nT p ∧ siz p (rk p j) = szT j ∧ rk p (j + 1) = rk p j + 1
        ∧ pre p (rk p j + 1) = pre p (rk p j) + szT j ∧ pre p (rk p j) + szT j ≤ ndT p)
      ∧ (has p j = false → rk p (j + 1) = rk p j) := by decide +kernel
theorem piece_pos : ∀ p : Fin 25, ∀ k : Fin 5, k.val < nT p → 0 < siz p k ∧ pre p (k + 1) = pre p k + siz p k := by decide +kernel
theorem nT_le : ∀ p : Fin 25, nT p ≤ 5 := by decide +kernel
theorem rk_zero (p : ℕ) : rk p 0 = 0 := rfl
theorem pre_zero (p : ℕ) : pre p 0 = 0 := rfl
theorem rk_five (p : ℕ) : rk p 5 = nT p := rfl
theorem pre_all : ∀ p : Fin 25, pre p (nT p) = ndT p ∧ ndT p ≤ 2048 ∧ stT p + ndT p = stT (p + 1) ∧ stT p + ndT p ≤ 32768 := by
  decide +kernel

end Cert.KernelIdeal.Hand
-- ==== Proof.State.lean ====
/-
  What the kernel holds between two operations: for each data step the pieces of its rows that are on their way into a
  slot of the staging ring, for each slot of the result ring the block on its way out, and the padding blocks that are
  being filled from the constant block. A step's transfers on one semaphore are of different sizes.
-/
module

public import proofs.«01_k».proof.Proof.Rows
public import proofs.«01_k».proof.Proof.Sched

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The counters' place in the proof's algebra. -/
abbrev EC : UEmb Counters 𝕄 := countersEmb (U := Pipeline.UD sig nD τ)

/-! ## Semaphores and amounts -/

/-- The cells: three of the staging ring, three of the result ring, one for the padding. -/
def semI (p : ℕ) : DmaSem sig := ⟨p % 3, by show p % 3 < 7; omega⟩
def semO (p : ℕ) : DmaSem sig := ⟨3 + p % 3, by show 3 + p % 3 < 7; omega⟩
def semF : DmaSem sig := ⟨6, by show 6 < 7; omega⟩

theorem ring_sem (base : ℕ) (hb : base + S3.numel ≤ 7) (s : ℕ) (hs : base + s < 7) (h) (hq : S1.Squeezes S_) :
    (((SemArray.consecutive (n := 7) base S3 hb).slice (Rect.unit (s := S3) ![s] S1.size h)).squeeze S_ hq).sem = ⟨base + s, hs⟩ := by
  apply Fin.ext
  have key : ∀ x : S1.Idx, base + (S3.rowMajor ((Rect.unit (s := S3) ![s] S1.size h).emb x)).val = base + s := by
    intro x
    rw [Shape.rowMajor_val_one]
    have hx : (x 0).val < 1 := (x 0).isLt
    show base + (s + 1 * (x 0).val) = base + s
    omega
  exact key _

theorem semI_eq (p : ℕ) (so : Fin 1 → ℕ) (hso : so = ![p % 3]) (h) (hq : S1.Squeezes S_) :
    ((cc0_scratch1.slice (Rect.unit (s := S3) so S1.size h)).squeeze S_ hq).sem = semI p := by
  subst hso
  refine (ring_sem 0 _ (p % 3) (by omega) h hq).trans (Fin.ext ?_)
  show 0 + p % 3 = p % 3
  omega
theorem semO_eq (p : ℕ) (so : Fin 1 → ℕ) (hso : so = ![p % 3]) (h) (hq : S1.Squeezes S_) :
    ((cc0_scratch3.slice (Rect.unit (s := S3) so S1.size h)).squeeze S_ hq).sem = semO p := by
  subst hso
  exact ring_sem 3 _ (p % 3) (by omega) h hq
theorem semF_eq : cc0_scratch5.sem = semF := by
  apply Fin.ext
  have : (S_.rowMajor fun i => i.elim0).val < S_.numel := (S_.rowMajor _).isLt
  have h1 : S_.numel = 1 := by decide
  show 6 + (S_.rowMajor fun i => i.elim0).val = 6
  omega

/-- What a copy of `n` rows into the staging ring credits. -/
def crI (n : ℕ) : ℕ := sig.dmaCredit .tc (Kind.table .tc .vmem) cc0_scratch0.idx ⟨2, ![n, 1024]⟩ .f32
/-- What a copy of a block into the result credits. -/
def crO : ℕ := sig.dmaCredit .tc (Kind.table .tc .hbm) main_v0.idx S2048x1024 .f32

theorem crI_pos (n : ℕ) (h : 0 < n) : 0 < crI n :=
  sig.dmaCredit_pos _ _ _ _ _ (by
    show 0 < ∏ a, (![n, 1024] : Fin 2 → ℕ) a
    simp [Fin.prod_univ_two]; omega)
theorem crO_pos : 0 < crO := sig.dmaCredit_pos _ _ _ _ _ (by decide)

/-! ## A step's rows on their way in -/

/-- The amounts of step `p`'s transfers. -/
def aI (p : ℕ) : Fin (nT p) → ℕ := fun k => crI (siz p k)

variable (c : Dev nD) (X : Flat (F := F))

/-- Piece `k` of step `p` once it has landed: its rows of the ring's slot, and its rows of the flat input back. -/
def chunk (p k : ℕ) : sProp 𝕄 :=
  iprop((BUF.view.loc (c : Thread nD τ) ↦[bRows (p % 3) (pre p k) (siz p k)]{fullShare} landed X (stT p))
    ∗ (FLT.view.loc (c : Thread nD τ) ↦[fRows (stT p + pre p k) (siz p k)]{fullShare} X))

instance chunk_storable (p k : ℕ) : Storable (upEmb : UEmb _ 𝕄) (chunk c X p k) := by
  unfold chunk; infer_instance

/-- Step `p` with its first `k` pieces started and `u` units waited for. -/
def bat (p k u : ℕ) : sProp 𝕄 :=
  Transfers.MixedBatch (EC (F := F)) (c : Thread nD τ) (.dma (semI p)) () (aI p) (fun k => chunk c X p k.val) k u

/-- Step `p` with its first `k` pieces started: the rest of the slot and the rest of its flat rows still in hand. -/
def inSt (p k : ℕ) : sProp 𝕄 :=
  iprop(bat c X p k 0
    ∗ (∃ g : Ring (F := F), BUF.view.loc (c : Thread nD τ) ↦[bRows (p % 3) (pre p k) (2048 - pre p k)]{fullShare} g)
    ∗ (FLT.view.loc (c : Thread nD τ) ↦[fRows (stT p + pre p k) (ndT p - pre p k)]{fullShare} X))

/-- A slot of the staging ring with nothing in flight. -/
def inFree (p : ℕ) : sProp 𝕄 :=
  iprop(semVal ((c : Thread nD τ), .dma (semI p)) 0
    ∗ ∃ g : Ring (F := F), BUF.view.loc (c : Thread nD τ) ↦[bRows (p % 3) 0 2048]{fullShare} g)

/-! ## A block on its way out -/

variable (G : Outc (F := F))

/-- Block `b` of the result written, and slot `p` of the result ring back. -/
def outD (p b : ℕ) : sProp 𝕄 :=
  iprop((OUT.view.loc (c : Thread nD τ) ↦[oBlk {b}]{fullShare} G)
    ∗ ∃ g : Ring (F := F), OBF.view.loc (c : Thread nD τ) ↦[bRows (p % 3) 0 2048]{fullShare} g)

instance outD_storable (p b : ℕ) : Storable (upEmb : UEmb _ 𝕄) (outD c G p b) := by
  unfold outD; infer_instance

def outBat (p k u : ℕ) : sProp 𝕄 :=
  Transfers.MixedBatch (EC (F := F)) (c : Thread nD τ) (.dma (semO p)) () (fun _ : Fin 1 => crO) (fun _ => outD c G p (obT p)) k u

/-- A slot of the result ring with nothing in flight. -/
def outFree (p : ℕ) : sProp 𝕄 :=
  iprop(semVal ((c : Thread nD τ), .dma (semO p)) 0
    ∗ ∃ g : Ring (F := F), OBF.view.loc (c : Thread nD τ) ↦[bRows (p % 3) 0 2048]{fullShare} g)

/-- The result ring's slot that step `q` will use: the block of step `q - 3` on its way out of it, if there was one. -/
def outSt (q : ℕ) : sProp 𝕄 := if q < 3 then outFree c q else outBat c G (q - 3) 1 0

/-! ## The padding -/

/-- The share of the constant block kept after `k` fills have borrowed from it, and what fill `k` borrows. -/
def shr : ℕ → PosShare TreeShare
  | 0 => fullShare
  | k + 1 => (shr k).left
def lent (k : ℕ) : PosShare TreeShare := (shr k).right

/-- The constant block's contents. -/
def halfBlk : Blk (F := F) := fun _ => Scalar.ofBits .f32 0x3F000000#32

/-- Padding block number `k` filled, and its share of the constant block back. -/
def fillD (k : ℕ) : sProp 𝕄 :=
  iprop((OUT.view.loc (c : Thread nD τ) ↦[oBlk {flT k}]{fullShare} G)
    ∗ (CBF.view.loc (c : Thread nD τ) ↦[Finset.univ]{lent k} (halfBlk (F := F))))

instance fillD_storable (k : ℕ) : Storable (upEmb : UEmb _ 𝕄) (fillD c G k) := by
  unfold fillD; infer_instance

/-- The padding with its first `k` blocks' fills started and `u` units waited for. -/
def fillBat (k u : ℕ) : sProp 𝕄 :=
  Transfers.MixedBatch (EC (F := F)) (c : Thread nD τ) (.dma semF) () (fun _ : Fin 10 => crO) (fun k => fillD c G k.val) k u

/-- What the core owes: nothing; which waits it has made is not kept. -/
def owe : sProp 𝕄 := iprop(∃ W : Waits sig Unit, owes (c : Thread nD τ) 0 W)

end Cert.KernelIdeal.Hand

end
-- ==== Proof.Steps.lean ====
/-
  One operation at a time: a data step's next piece started or skipped, waited for or skipped; a step's transfers
  allocated and collected. The program's conditions and offsets are hypotheses, so every place of the program that starts
  or waits for a piece cites the same lemma.
-/
module

public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A program's run at the region's definitions. -/
abbrev run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD) (X : Flat (F := F))

/-! ## Allocating and collecting -/

theorem in_alloc (p : ℕ) (hp : p < 25) :
    iprop(inFree (F := F) c p ∗ (FLT.view.loc (c : Thread nD τ) ↦[fRows (stT p) (ndT p)]{fullShare} X))
      ⊢ |={Set.univ}=> inSt c X p 0 := by
  unfold inFree inSt bat
  iintro ⟨⟨Hs, ⟨%g, Hg⟩⟩, Hf⟩
  imod (Transfers.mixedBatch_alloc' (Lvl := ℕ) (EC (F := F)) (c : Thread nD τ) () (aI p) (fun k => chunk c X p k.val)
    (sm := SemLoc.dma (semI p)) (E := Set.univ)) $$ Hs with HB
  imodintro
  rw [pre_zero]
  isplitl [HB]; · iexact HB
  isplitl [Hg]; · iexists g; iexact Hg
  iexact Hf

theorem chunk_eq (p k : ℕ) : chunk c X p k
    = iprop((BUF.view.loc (c : Thread nD τ) ↦[bRows (p % 3) (pre p k) (siz p k)]{fullShare} landed X (stT p))
      ∗ (FLT.view.loc (c : Thread nD τ) ↦[fRows (stT p + pre p k) (siz p k)]{fullShare} X)) := rfl

/-- The first `k` pieces' deliveries together are the slot's first rows landed and the flat rows back. -/
theorem chunks_join (p : ℕ) (hp : p < 25) : ∀ k : ℕ, k ≤ nT p →
    (bigSep ((Finset.univ : Finset (Fin (nT p))).filter fun x => x.val < k) (fun x => chunk c X p x.val) : sProp 𝕄)
      ⊢ iprop((BUF.view.loc (c : Thread nD τ) ↦[bRows (p % 3) 0 (pre p k)]{fullShare} landed X (stT p))
        ∗ (FLT.view.loc (c : Thread nD τ) ↦[fRows (stT p) (pre p k)]{fullShare} X)) := by
  intro k
  induction k with
  | zero =>
    intro _
    rw [pre_zero, bRows_zero, fRows_zero, pointsTo_empty, pointsTo_empty]
    rw [show ((Finset.univ : Finset (Fin (nT p))).filter fun x => x.val < 0) = ∅ from by ext x; simp, bigSep_empty]
    iintro _
    isplitl <;> iempintro
  | succ k ih =>
    intro hk
    have h5 : nT p ≤ 5 := nT_le ⟨p, hp⟩
    have hpp := (piece_pos ⟨p, hp⟩ ⟨k, by omega⟩ (by show k < nT p; omega)).2
    have hpp : pre p (k + 1) = pre p k + siz p k := hpp
    have hs : ((Finset.univ : Finset (Fin (nT p))).filter fun x => x.val < k + 1)
        = insert ⟨k, by omega⟩ ((Finset.univ : Finset (Fin (nT p))).filter fun x => x.val < k) := by
      ext x; simp only [Finset.mem_filter, Finset.mem_univ, true_and, Finset.mem_insert, Fin.ext_iff]; omega
    rw [hs, bigSep_insert (by simp)]
    have hb : bRows (p % 3) 0 (pre p (k + 1)) = bRows (p % 3) 0 (pre p k) ∪ bRows (p % 3) (pre p k) (siz p k) := by
      rw [hpp, bRows_split (p % 3) 0 (pre p k + siz p k) (pre p k) (by omega)]; congr 2 <;> omega
    have hbd : Disjoint (bRows (p % 3) 0 (pre p k)) (bRows (p % 3) (pre p k) (siz p k)) := by
      have := bRows_disj (p % 3) 0 (pre p k) (siz p k); rwa [Nat.zero_add] at this
    have hf : fRows (stT p) (pre p (k + 1)) = fRows (stT p) (pre p k) ∪ fRows (stT p + pre p k) (siz p k) := by
      rw [hpp, fRows_split (stT p) (pre p k + siz p k) (pre p k) (by omega)]; congr 2; omega
    rw [hb, hf]
    have ih' := ih (by omega)
    refine (BIClass.sep_mono (Entails.of_eq (chunk_eq c X p k)) ih').trans ?_
    iintro ⟨⟨Hb, Hf⟩, ⟨Hb', Hf'⟩⟩
    isplitl [Hb Hb']
    · iapply (pointsTo_union hbd).2
      isplitl [Hb'] <;> iassumption
    · iapply (pointsTo_union (fRows_disj (stT p) (pre p k) (siz p k))).2
      isplitl [Hf'] <;> iassumption

/-- All of a step's pieces waited for: its slot holds its rows, the flat rows are back and the semaphore is at zero. -/
theorem in_collect (p : ℕ) (hp : p < 25) :
    iprop(bat c X p (nT p) (Transfers.sumTo (aI p) (nT p))
        ∗ (∃ g : Ring (F := F), BUF.view.loc (c : Thread nD τ) ↦[bRows (p % 3) (ndT p) (2048 - ndT p)]{fullShare} g))
      ⊢ |={Set.univ}=> iprop(semVal ((c : Thread nD τ), .dma (semI p)) 0
        ∗ (∃ g : Ring (F := F), ⌜∀ i ∈ bRows (p % 3) 0 (ndT p), g i = landed X (stT p) i⌝
            ∗ (BUF.view.loc (c : Thread nD τ) ↦[bRows (p % 3) 0 2048]{fullShare} g))
        ∗ (FLT.view.loc (c : Thread nD τ) ↦[fRows (stT p) (ndT p)]{fullShare} X)) := by
  have h5 : nT p ≤ 5 := nT_le ⟨p, hp⟩
  obtain ⟨hpre, hnd, -, -⟩ := pre_all ⟨p, hp⟩
  have hpre : pre p (nT p) = ndT p := hpre
  have hnd : ndT p ≤ 2048 := hnd
  have hpos : ∀ k : Fin (nT p), 0 < aI p k := fun k =>
    crI_pos _ (piece_pos ⟨p, hp⟩ ⟨k.val, by omega⟩ k.isLt).1
  have hJ := chunks_join c X p hp (nT p) le_rfl
  rw [show ((Finset.univ : Finset (Fin (nT p))).filter fun x => x.val < nT p) = Finset.univ from by ext x; simp, hpre] at hJ
  unfold bat
  iintro ⟨HB, ⟨%g, Hg⟩⟩
  imod (Transfers.mixedBatch_collect' (Lvl := ℕ) (EC (F := F)) (c : Thread nD τ) hpos) $$ HB with ⟨HD, Hs⟩
  ihave HJ := hJ $$ HD
  icases HJ with ⟨Hb, Hf⟩
  imodintro
  isplitl [Hs]; · iexact Hs
  isplitl [Hb Hg]
  · have hd : Disjoint (bRows (p % 3) 0 (ndT p)) (bRows (p % 3) (ndT p) (2048 - ndT p)) := by
      have := bRows_disj (p % 3) 0 (ndT p) (2048 - ndT p); rwa [Nat.zero_add] at this
    have hu : bRows (p % 3) 0 2048 = bRows (p % 3) 0 (ndT p) ∪ bRows (p % 3) (ndT p) (2048 - ndT p) := by
      rw [bRows_split (p % 3) 0 2048 (ndT p) hnd]; congr 2; omega
    iexists ((bRows (p % 3) (ndT p) (2048 - ndT p)).piecewise g (landed X (stT p)))
    isplitr
    · ipureintro
      intro i hi
      exact Finset.piecewise_eq_of_notMem _ _ _ (Finset.disjoint_left.mp hd hi)
    · rw [hu]
      iapply (pointsTo_join hd)
      isplitl [Hb] <;> iassumption
  · iexact Hf

/-! ## A piece started, or not -/

/-- What a piece's copy delivers. -/
theorem piece_delivers (p k N : ℕ) (hN : siz p k = N) (hle : stT p + pre p k + N ≤ 32768) (g : Ring (F := F)) (i7) (i5)
    (hq : (⟨3, ![1, N, 1024]⟩ : Shape).Squeezes ⟨2, ![N, 1024]⟩) :
    iprop(((rWin BUF N ![p % 3, pre p k, 0] i7 hq).view.loc (c : Thread nD τ) ↦[bRows (p % 3) (pre p k) N]{fullShare}
        ((rWin BUF N ![p % 3, pre p k, 0] i7 hq).view.write (Elt F) g
          (ReadAs.same.apply ((fWin N ![stT p + pre p k, 0] i5).view.read (Elt F) X)) Finset.univ))
      ∗ ((fWin N ![stT p + pre p k, 0] i5).view.loc (c : Thread nD τ) ↦[(fWin N ![stT p + pre p k, 0] i5).view.set]{fullShare} X))
      ⊢ (chunk c X p k : sProp 𝕄) := by
  rw [chunk_eq, hN]
  refine BIClass.sep_mono (Entails.of_eq (pointsTo_congr (fun i hi => landed_at X g N (p % 3) (pre p k) (stT p) hle i7 hq i5 i hi)))
    (Entails.of_eq ?_)
  rw [fWin_set]

set_option maxHeartbeats 1000000 in
theorem start_piece (p j : ℕ) (hp : p < 25) (hj : j < 5) (hh : has p j = true) (N : ℕ) (hN : szT j = N)
    {sm : DmaSem sig} {o7 : Fin 3 → ℕ} {o5 : Fin 2 → ℕ} (hsm : sm = semI p) (h7 : o7 = ![p % 3, pre p (rk p j), 0])
    (h5 : o5 = ![stT p + pre p (rk p j), 0]) (i7) (i5) (hq : (⟨3, ![1, N, 1024]⟩ : Shape).Squeezes ⟨2, ![N, 1024]⟩)
    (hs) (hd) (ht)
    {α : Type} (k : PUnit → Prog (TpuEff nD τ sig (Elt F) Λ₀ .tc) α) (Q : α → sProp 𝕄) :
    (inSt c X p (rk p j) : sProp 𝕄)
      ⊢ iprop((inSt c X p (rk p (j + 1)) -∗ run c (k ⟨⟩) Q)
        -∗ run c (Prog.op (.enqueueDmaAs (fWin N o5 i5) (.here (rWin BUF N o7 i7 hq)) .same (.dma sm) hs hd ht) k) Q) := by
  subst h7 h5 hsm
  obtain ⟨hlt, hsz, hrk, hpre, hle⟩ := (pieces ⟨p, hp⟩ ⟨j, hj⟩).1 hh
  obtain ⟨-, hnd, -, hst⟩ := pre_all ⟨p, hp⟩
  replace hlt : rk p j < nT p := hlt
  replace hsz : siz p (rk p j) = szT j := hsz
  replace hrk : rk p (j + 1) = rk p j + 1 := hrk
  replace hpre : pre p (rk p j + 1) = pre p (rk p j) + szT j := hpre
  replace hle : pre p (rk p j) + szT j ≤ ndT p := hle
  replace hnd : ndT p ≤ 2048 := hnd
  replace hst : stT p + ndT p ≤ 32768 := hst
  rw [hrk]
  rw [hN] at hsz hpre hle
  clear hN hrk hh
  generalize rk p j = r at *
  unfold inSt
  rw [hpre]
  have hbs : bRows (p % 3) (pre p r) (2048 - pre p r) = bRows (p % 3) (pre p r) N ∪ bRows (p % 3) (pre p r + N) (2048 - (pre p r + N)) := by
    rw [bRows_split _ _ _ N (by omega)]; congr 2; omega
  have hfs : fRows (stT p + pre p r) (ndT p - pre p r)
      = fRows (stT p + pre p r) N ∪ fRows (stT p + (pre p r + N)) (ndT p - (pre p r + N)) := by
    rw [fRows_split _ _ N (by omega)]; congr 2 <;> omega
  have hfd : Disjoint (fRows (stT p + pre p r) N) (fRows (stT p + (pre p r + N)) (ndT p - (pre p r + N))) := by
    rw [← Nat.add_assoc]; exact fRows_disj _ _ _
  rw [hbs, hfs]
  iintro ⟨HB, ⟨%g, Hg⟩, Hf⟩ Hk
  ihave Hg' := (pointsTo_union (bRows_disj (p % 3) (pre p r) N (2048 - (pre p r + N)))).1 $$ Hg
  icases Hg' with ⟨Hg, Hgt⟩
  ihave Hf' := (pointsTo_union hfd).1 $$ Hf
  icases Hf' with ⟨Hf, Hft⟩
  unfold bat
  iapply (Transfers.wp_dmaMixedBatch (Lvl := ℕ) (EC (F := F)) Variants.none (c : Thread nD τ) none
    (src := fWin N ![stT p + pre p r, 0] i5) (via := ReadAs.same) (dst := rWin BUF N ![p % 3, pre p r, 0] i7 hq)
    (sm := SemLoc.dma (semI p)) (j := r) (u := 0) (q := fullShare) (fs := X) (fd := g)
    (Sd := bRows (p % 3) (pre p r) N) (D := fun k : Fin (nT p) => chunk c X p k.val)
    () (aI p) (by rw [bWin_set]) hlt (by show crI N = crI (siz p r); rw [hsz]) (Nat.zero_le _)
    (piece_delivers c X p r N hsz (by omega) g i7 i5 hq)) $$ [Hf Hg HB] [Hk Hgt Hft]
  · isplitl [Hf]
    · rw [fWin_set]; iexact Hf
    isplitl [Hg] <;> iassumption
  · iintro HB
    iapply Hk
    isplitl [HB]; · iexact HB
    isplitl [Hgt]
    · iexists g; iexact Hgt
    · iexact Hft

/-- A place of the program that starts step `p`'s piece of the `j`-th size if there is one. -/
theorem start_site (p j : ℕ) (hp : p < 25) (hj : j < 5) (N : ℕ) (hN : szT j = N) {cnd : Prop} [Decidable cnd]
    (hc : cnd ↔ has p j = true)
    {sm : DmaSem sig} {o7 : Fin 3 → ℕ} {o5 : Fin 2 → ℕ} (hsm : sm = semI p)
    (h7 : has p j = true → o7 = ![p % 3, pre p (rk p j), 0])
    (h5 : has p j = true → o5 = ![stT p + pre p (rk p j), 0]) (i7 : ∀ h : cnd, _) (i5 : ∀ h : cnd, _)
    (hq : (⟨3, ![1, N, 1024]⟩ : Shape).Squeezes ⟨2, ![N, 1024]⟩) (hs : ∀ h : cnd, _) (hd : ∀ h : cnd, _) (ht : ∀ h : cnd, _)
    {α : Type} (k : PUnit → Prog (TpuEff nD τ sig (Elt F) Λ₀ .tc) α) (Q : α → sProp 𝕄) :
    (inSt c X p (rk p j) : sProp 𝕄)
      ⊢ iprop((inSt c X p (rk p (j + 1)) -∗ run c (k ⟨⟩) Q)
        -∗ run c (dite cnd (fun h : cnd => Prog.lift (.enqueueDma (fWin N o5 (i5 h)) (.here (rWin BUF N o7 (i7 h) hq))
              (.dma sm) (hs h) (hd h) (ht h)) >>= fun _ => k ⟨⟩)
            (fun _ => k ⟨⟩)) Q) := by
  by_cases h : cnd
  · rw [dif_pos h]
    have hh := hc.mp h
    exact start_piece c X p j hp hj hh N hN hsm (h7 hh) (h5 hh) _ _ hq _ _ _ (fun _ => k ⟨⟩) Q
  · rw [dif_neg h]
    have hh : has p j = false := by simpa using mt hc.mpr h
    have hrk : rk p (j + 1) = rk p j := (pieces ⟨p, hp⟩ ⟨j, hj⟩).2 hh
    rw [hrk]
    iintro HS Hk
    iapply Hk; iexact HS

/-! ## A piece waited for, or not -/

/-- A place of the program that waits for step `p`'s piece of the `j`-th size if there is one. -/
theorem wait_site (p j : ℕ) (hp : p < 25) (hj : j < 5) (N : ℕ) (hN : szT j = N) {cnd : Prop} [Decidable cnd]
    (hc : cnd ↔ has p j = true)
    {sm : DmaSem sig} {o7 : Fin 3 → ℕ} {o5 : Fin 2 → ℕ} (hsm : sm = semI p) (i7 : ∀ h : cnd, _) (i5 : ∀ h : cnd, _)
    (hq : (⟨3, ![1, N, 1024]⟩ : Shape).Squeezes ⟨2, ![N, 1024]⟩) (hs : ∀ h : cnd, _) (hd : ∀ h : cnd, _)
    {α : Type} (k : PUnit → Prog (TpuEff nD τ sig (Elt F) Λ₀ .tc) α) (Q : α → sProp 𝕄) :
    (iprop(bat c X p (nT p) (Transfers.sumTo (aI p) (rk p j)) ∗ owe c) : sProp 𝕄)
      ⊢ iprop((iprop(bat c X p (nT p) (Transfers.sumTo (aI p) (rk p (j + 1))) ∗ owe c) -∗ run c (k ⟨⟩) Q)
        -∗ run c (dite cnd (fun h : cnd => Prog.lift (.waitDma2 sm (fWin N o5 (i5 h)) (rWin BUF N o7 (i7 h) hq)
              (hs h) (hd h)) >>= fun _ => k ⟨⟩)
            (fun _ => k ⟨⟩)) Q) := by
  subst hsm
  by_cases h : cnd
  · rw [dif_pos h]
    have hh := hc.mp h
    obtain ⟨hlt, hsz, hrk, -, -⟩ := (pieces ⟨p, hp⟩ ⟨j, hj⟩).1 hh
    replace hlt : rk p j < nT p := hlt
    replace hsz : siz p (rk p j) = szT j := hsz
    replace hrk : rk p (j + 1) = rk p j + 1 := hrk
    have hsum : Transfers.sumTo (aI p) (rk p (j + 1)) = Transfers.sumTo (aI p) (rk p j) + crI N := by
      rw [hrk, Transfers.sumTo_succ (aI p) hlt]; show _ + crI (siz p (rk p j)) = _; rw [hsz, hN]
    have hmono : Transfers.sumTo (aI p) (rk p j) + crI N ≤ Transfers.sumTo (aI p) (nT p) := by
      rw [← hsum, hrk]
      have : ∀ d, ∀ a, Transfers.sumTo (aI p) a ≤ Transfers.sumTo (aI p) (a + d) := by
        intro d; induction d with
        | zero => intro a; exact le_rfl
        | succ d ih => intro a; exact (ih a).trans (Nat.le_add_right _ _)
      have h := this (nT p - (rk p j + 1)) (rk p j + 1)
      rwa [Nat.add_sub_cancel' hlt] at h
    rw [hsum]
    unfold owe bat
    iintro ⟨HB, ⟨%W, HW⟩⟩ Hk
    iapply (Transfers.wp_waitMixedBatch (Lvl := ℕ) (EC (F := F)) Variants.none (c : Thread nD τ) none
      (sem := semI p) (srcw := fWin N o5 (i5 h)) (dstw := rWin BUF N o7 (i7 h) hq) (J := crI N) (k := fun _ => k ⟨⟩)
      () rfl hmono) $$ [HB HW] [Hk]
    · isplitl [HB] <;> iassumption
    · iintro ⟨HB, HW⟩
      iapply Hk
      isplitl [HB]; · iexact HB
      iexists _; iexact HW
  · rw [dif_neg h]
    have hh : has p j = false := by simpa using mt hc.mpr h
    have hrk : rk p (j + 1) = rk p j := (pieces ⟨p, hp⟩ ⟨j, hj⟩).2 hh
    rw [hrk]
    iintro HS Hk
    iapply Hk; iexact HS

end Cert.KernelIdeal.Hand

end
-- ==== Proof.Out.lean ====
/-
  The kernel's other operations, one at a time: a table's word read and checked, a block of the result sent and its
  sending waited for, a padding block filled and its filling waited for.
-/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (X : Flat (F := F)) (G : Outc (F := F))

/-! ## The tables -/

/-- The four tables' words. -/
def wS (n : ℕ) : BitVec 32 := lit0 (Fin.ofNat 22 n)
def wN (n : ℕ) : BitVec 32 := lit1 (Fin.ofNat 22 n)
def wO (n : ℕ) : BitVec 32 := lit2 (Fin.ofNat 22 n)
def wF (n : ℕ) : BitVec 32 := lit3 (Fin.ofNat 22 n)

/-- The contents `f` of table `T` are the words `w`. -/
def TabAt (T : Memref sig .tc .smem S22 .i32) (f : Buf (Elt F) (T.view.loc (c : Thread nD τ))) (w : ℕ → BitVec 32) : Prop :=
  ∀ (n : ℕ) (_ : n < 22) (h : ∀ a, (![n] : Fin 1 → ℕ) a + S1.size a ≤ S22.size a) (x : S1.Idx),
    (T.access (Rect.unit (s := S22) ![n] S1.size h)).read (Elt F) f x = w n

theorem cell_number (n : ℕ) (hn : n < 22) (h : ∀ a, (![n] : Fin 1 → ℕ) a + S1.size a ≤ S22.size a) (x : S1.Idx) :
    S22.rowMajor ((Rect.unit (s := S22) ![n] S1.size h).emb x) = Fin.ofNat 22 n := by
  apply Fin.ext
  rw [Shape.rowMajor_val_one]
  have hx : (x 0).val < 1 := (x 0).isLt
  show n + 1 * (x 0).val = n % 22
  omega

theorem tabS : TabAt (F := F) c (Memref.whole main_c) (fun i => lit0 (S22.rowMajor i)) wS := fun n hn h x =>
  congrArg lit0 (cell_number n hn h x)
theorem tabN : TabAt (F := F) c (Memref.whole main_c_0) (fun i => lit1 (S22.rowMajor i)) wN := fun n hn h x =>
  congrArg lit1 (cell_number n hn h x)
theorem tabO : TabAt (F := F) c (Memref.whole main_c_1) (fun i => lit2 (S22.rowMajor i)) wO := fun n hn h x =>
  congrArg lit2 (cell_number n hn h x)
theorem tabF : TabAt (F := F) c (Memref.whole main_c_2) (fun i => lit3 (S22.rowMajor i)) wF := fun n hn h x =>
  congrArg lit3 (cell_number n hn h x)

/-- A word of a table read. -/
theorem read_word (T : Memref sig .tc .smem S22 .i32) {f : Buf (Elt F) (T.view.loc (c : Thread nD τ))} {w : ℕ → BitVec 32}
    (hT : TabAt c T f w) {q : PosShare TreeShare} (n : ℕ) (hn : n < 22) {o : Fin 1 → ℕ} (ho : o = ![n])
    (h : ∀ a, o a + S1.size a ≤ S22.size a) (h1) (hp)
    {α : Type} (k : Elt F .i32 → Prog (TpuEff nD τ sig (Elt F) Λ₀ .tc) α) (Q : α → sProp 𝕄) :
    ((T.view.loc (c : Thread nD τ) ↦[Finset.univ]{q} f) : sProp 𝕄)
      ⊢ iprop(((T.view.loc (c : Thread nD τ) ↦[Finset.univ]{q} f) -∗ run c (k (w n)) Q)
        -∗ run c (smemLoad T (Rect.unit (s := S22) o S1.size h) h1 hp >>= k) Q) := by
  subst ho
  rw [← hT n hn h (Shape.Idx.first (h1.symm ▸ Nat.one_pos))]
  exact wp_smemLoadElt (defs := defs₀ (F := F)) Variants.none (c : Thread nD τ) none Set.univ (Q := Q) (m := T)
    (r := Rect.unit (s := S22) ![n] S1.size h) (hw := View.loads_smem_one hp h1)
    (x := Shape.Idx.first (h1.symm ▸ Nat.one_pos)) (k := k) (q := q) (f := f) (S := Finset.univ) (Finset.subset_univ _)

/-- A word of a table read and its side condition checked. -/
theorem read_site (T : Memref sig .tc .smem S22 .i32) {f : Buf (Elt F) (T.view.loc (c : Thread nD τ))} {w : ℕ → BitVec 32}
    (hT : TabAt c T f w) {q : PosShare TreeShare} (n : ℕ) (hn : n < 22) {o : Fin 1 → ℕ} (ho : o = ![n])
    (h : ∀ a, o a + S1.size a ≤ S22.size a) (h1) (hp) {P : Elt F .i32 → Prop} (d : ∀ v, Decidable (P v)) (hP : P (w n))
    {α : Type} (k : (v : Elt F .i32) → PLift (P v) → Prog (TpuEff nD τ sig (Elt F) Λ₀ .tc) α) (Q : α → sProp 𝕄) :
    ((T.view.loc (c : Thread nD τ) ↦[Finset.univ]{q} f) : sProp 𝕄)
      ⊢ iprop(((T.view.loc (c : Thread nD τ) ↦[Finset.univ]{q} f) -∗ run c (k (w n) ⟨hP⟩) Q)
        -∗ run c (smemLoad T (Rect.unit (s := S22) o S1.size h) h1 hp >>= fun v => Prog.lift (.assume (P v) (d v)) >>= fun a => k v a) Q) := by
  iintro HT Hk
  iapply (read_word c T hT n hn ho h h1 hp (fun v => Prog.lift (.assume (P v) (d v)) >>= fun a => k v a) Q) $$ HT
  iintro HT
  iapply (wp_assume (defs := defs₀ (F := F)) Variants.none (c : Thread nD τ) none Set.univ (k := fun a => k (w n) a) hP)
  iapply Hk; iexact HT

/-! ## A block sent -/

theorem out_start (p : ℕ) {sm : DmaSem sig} (hsm : sm = semO p) {o9 : Fin 3 → ℕ} {o6 : Fin 2 → ℕ}
    (h9 : o9 = ![p % 3, 0, 0]) (h6 : o6 = ![2048 * obT p, 0]) (i9) (i6 : ∀ a, o6 a + S2048x1024.size a ≤ S65536x1024.size a)
    (hq : (⟨3, ![1, 2048, 1024]⟩ : Shape).Squeezes ⟨2, ![2048, 1024]⟩) (hs) (hd) (ht) (w : Ring (F := F)) (g : Outc (F := F))
    (hG : ∀ (r : Fin 2048) (c : Fin 1024) (s' : Fin 3) (R : Fin 65536), s'.val = p % 3 → R.val = 2048 * obT p + r.val →
      w (Fin.cons s' (Fin.cons r (Fin.cons c (fun x => x.elim0)))) = G (Fin.cons R (Fin.cons c (fun x => x.elim0))))
    {α : Type} (k : PUnit → Prog (TpuEff nD τ sig (Elt F) Λ₀ .tc) α) (Q : α → sProp 𝕄) :
    (iprop(semVal ((c : Thread nD τ), .dma (semO p)) 0
        ∗ (OBF.view.loc (c : Thread nD τ) ↦[bRows (p % 3) 0 2048]{fullShare} w)
        ∗ (OUT.view.loc (c : Thread nD τ) ↦[oBlk {obT p}]{fullShare} g)) : sProp 𝕄)
      ⊢ iprop((outBat c G p 1 0 -∗ run c (k ⟨⟩) Q)
        -∗ run c (Prog.op (.enqueueDmaAs (rWin OBF 2048 o9 i9 hq) (.here (oWin o6 i6)) .same (.dma sm) hs hd ht) k) Q) := by
  subst h9 h6 hsm
  iintro ⟨Hs, Hw, Hg⟩ Hk
  unfold outBat
  imod (Transfers.mixedBatch_alloc' (Lvl := ℕ) (EC (F := F)) (c : Thread nD τ) () (fun _ : Fin 1 => crO) (fun _ => outD c G p (obT p))
    (sm := SemLoc.dma (semO p)) (E := Set.univ)) $$ Hs with HB
  have hD : iprop(((oWin ![2048 * obT p, 0] i6).view.loc (c : Thread nD τ) ↦[oBlk {obT p}]{fullShare}
        ((oWin ![2048 * obT p, 0] i6).view.write (Elt F) g
          (ReadAs.same.apply ((rWin OBF 2048 ![p % 3, 0, 0] i9 hq).view.read (Elt F) w)) Finset.univ))
      ∗ ((rWin OBF 2048 ![p % 3, 0, 0] i9 hq).view.loc (c : Thread nD τ) ↦[(rWin OBF 2048 ![p % 3, 0, 0] i9 hq).view.set]{fullShare} w))
      ⊢ (outD c G p (obT p) : sProp 𝕄) := by
    unfold outD
    rw [obWin_set]
    refine BIClass.sep_mono (Entails.of_eq (pointsTo_congr (fun i hi => sent_at w g G (p % 3) (obT p) i9 hq i6 hG i hi))) ?_
    iintro H; iexists w; iexact H
  iapply (Transfers.wp_dmaMixedBatch (Lvl := ℕ) (EC (F := F)) Variants.none (c : Thread nD τ) none
    (src := rWin OBF 2048 ![p % 3, 0, 0] i9 hq) (via := ReadAs.same) (dst := oWin ![2048 * obT p, 0] i6)
    (sm := SemLoc.dma (semO p)) (j := 0) (u := 0) (q := fullShare) (fs := w) (fd := g)
    (Sd := oBlk {obT p}) (D := fun _ : Fin 1 => outD c G p (obT p))
    () (fun _ : Fin 1 => crO) (by rw [oWin_set]) Nat.one_pos rfl (Nat.zero_le _) hD) $$ [Hw Hg HB] [Hk]
  · isplitl [Hw]
    · rw [obWin_set]; iexact Hw
    isplitl [Hg] <;> iassumption
  · iintro HB
    iapply Hk; iexact HB

theorem out_wait (p : ℕ) {sm : DmaSem sig} (hsm : sm = semO p) {o9 : Fin 3 → ℕ} {o6 : Fin 2 → ℕ} (i9) (i6 : ∀ a, o6 a + S2048x1024.size a ≤ S65536x1024.size a)
    (hq : (⟨3, ![1, 2048, 1024]⟩ : Shape).Squeezes ⟨2, ![2048, 1024]⟩) (hs) (hd)
    {α : Type} (k : PUnit → Prog (TpuEff nD τ sig (Elt F) Λ₀ .tc) α) (Q : α → sProp 𝕄) :
    (iprop(outBat c G p 1 0 ∗ owe c) : sProp 𝕄)
      ⊢ iprop((iprop(outFree c p ∗ (OUT.view.loc (c : Thread nD τ) ↦[oBlk {obT p}]{fullShare} G) ∗ owe c) -∗ run c (k ⟨⟩) Q)
        -∗ run c (Prog.op (.waitDma2 sm (rWin OBF 2048 o9 i9 hq) (oWin o6 i6) hs hd) k) Q) := by
  subst hsm
  have hsum : Transfers.sumTo (fun _ : Fin 1 => crO) 1 = crO := by rw [Transfers.sumTo_succ _ Nat.one_pos]; exact Nat.zero_add _
  have hcol := Transfers.mixedBatch_collect' (Lvl := ℕ) (EC (F := F)) (c : Thread nD τ) (ι := ()) (sm := SemLoc.dma (semO p))
    (A := fun _ : Fin 1 => crO) (fun _ => crO_pos) (D := fun _ : Fin 1 => outD c G p (obT p))
  rw [hsum] at hcol
  unfold outBat owe outFree
  iintro ⟨HB, ⟨%W, HW⟩⟩ Hk
  iapply (Transfers.wp_waitMixedBatch (Lvl := ℕ) (EC (F := F)) Variants.none (c : Thread nD τ) none
      (sem := semO p) (srcw := rWin OBF 2048 o9 i9 hq) (dstw := oWin o6 i6) (J := crO) (k := k)
      () rfl (by rw [hsum]; exact (Nat.zero_add _).le)) $$ [HB HW] [Hk]
  · isplitl [HB] <;> iassumption
  · rw [Nat.zero_add]
    iintro ⟨HB, HW⟩
    imod hcol $$ HB with ⟨HD, Hs⟩
    ihave HD := ((show (bigSep (Finset.univ : Finset (Fin 1)) (fun _ => outD c G p (obT p)) : sProp 𝕄) ⊢ outD c G p (obT p) from
      Entails.of_eq (BI.bigSep_singleton (i := (0 : Fin 1)) (Φ := fun _ => outD c G p (obT p))))) $$ HD
    unfold outD
    icases HD with ⟨HO, Hg⟩
    iapply Hk
    isplitl [Hs Hg]
    · isplitl [Hs] <;> iassumption
    isplitl [HO]; · iexact HO
    iexists _; iexact HW

/-! ## A padding block filled -/

theorem fill_start (n : ℕ) (hn : n < 10) {sm : DmaSem sig} (hsm : sm = semF) {o6 : Fin 2 → ℕ}
    (h6 : o6 = ![2048 * flT n, 0]) (i6 : ∀ a, o6 a + S2048x1024.size a ≤ S65536x1024.size a) (hs) (hd) (ht) (g : Outc (F := F))
    (hG : ∀ i ∈ oBlk {flT n}, G i = Scalar.ofBits .f32 0x3F000000#32)
    {α : Type} (k : PUnit → Prog (TpuEff nD τ sig (Elt F) Λ₀ .tc) α) (Q : α → sProp 𝕄) :
    (iprop(fillBat c G n 0 ∗ (CBF.view.loc (c : Thread nD τ) ↦[Finset.univ]{shr n} (halfBlk (F := F)))
        ∗ (OUT.view.loc (c : Thread nD τ) ↦[oBlk {flT n}]{fullShare} g)) : sProp 𝕄)
      ⊢ iprop((iprop(fillBat c G (n + 1) 0 ∗ (CBF.view.loc (c : Thread nD τ) ↦[Finset.univ]{shr (n + 1)} (halfBlk (F := F)))) -∗ run c (k ⟨⟩) Q)
        -∗ run c (Prog.op (.enqueueDmaAs CBF (.here (oWin o6 i6)) .same (.dma sm) hs hd ht) k) Q) := by
  subst h6 hsm
  iintro ⟨HB, Hw, Hg⟩ Hk
  ihave Hw' := (pointsTo_share (PosShare.mem_left_op_right (shr n))).1 $$ Hw
  icases Hw' with ⟨Hl, Hr⟩
  unfold fillBat
  have hD : iprop(((oWin ![2048 * flT n, 0] i6).view.loc (c : Thread nD τ) ↦[oBlk {flT n}]{fullShare}
        ((oWin ![2048 * flT n, 0] i6).view.write (Elt F) g
          (ReadAs.same.apply (CBF.view.read (Elt F) (halfBlk (F := F)))) Finset.univ))
      ∗ (CBF.view.loc (c : Thread nD τ) ↦[CBF.view.set]{lent n} (halfBlk (F := F))))
      ⊢ (fillD c G n : sProp 𝕄) := by
    unfold fillD
    rw [CBF_set]
    exact BIClass.sep_mono (Entails.of_eq (pointsTo_congr (fun i hi => filled_at (halfBlk (F := F)) g G (flT n) i6 _ (fun _ => rfl) hG i hi))) .rfl
  iapply (Transfers.wp_dmaMixedBatch (Lvl := ℕ) (EC (F := F)) Variants.none (c : Thread nD τ) none
    (src := CBF) (via := ReadAs.same) (dst := oWin ![2048 * flT n, 0] i6)
    (sm := SemLoc.dma semF) (j := n) (u := 0) (q := lent n) (fs := halfBlk (F := F)) (fd := g)
    (Sd := oBlk {flT n}) (D := fun k : Fin 10 => fillD c G k.val)
    () (fun _ : Fin 10 => crO) (by rw [oWin_set]) hn rfl (Nat.zero_le _) hD) $$ [Hr Hg HB] [Hk Hl]
  · isplitl [Hr]
    · rw [CBF_set]; iexact Hr
    isplitl [Hg] <;> iassumption
  · iintro HB
    iapply Hk
    isplitl [HB]; · iexact HB
    iexact Hl

theorem fill_wait (n : ℕ) (hn : n < 10) {sm : DmaSem sig} (hsm : sm = semF) {o6 : Fin 2 → ℕ}
    (i6 : ∀ a, o6 a + S2048x1024.size a ≤ S65536x1024.size a) (hs) (hd)
    {α : Type} (k : PUnit → Prog (TpuEff nD τ sig (Elt F) Λ₀ .tc) α) (Q : α → sProp 𝕄) :
    (iprop(fillBat c G 10 (n * crO) ∗ owe c) : sProp 𝕄)
      ⊢ iprop((iprop(fillBat c G 10 ((n + 1) * crO) ∗ owe c) -∗ run c (k ⟨⟩) Q)
        -∗ run c (Prog.op (.waitDma2 sm CBF (oWin o6 i6) hs hd) k) Q) := by
  subst hsm
  have hsum : Transfers.sumTo (fun _ : Fin 10 => crO) 10 = 10 * crO := Transfers.sumTo_const _ le_rfl
  have hle : n * crO + crO ≤ Transfers.sumTo (fun _ : Fin 10 => crO) 10 := by
    rw [hsum, ← Nat.succ_mul]; exact Nat.mul_le_mul_right _ hn
  rw [Nat.succ_mul]
  unfold fillBat owe
  iintro ⟨HB, ⟨%W, HW⟩⟩ Hk
  iapply (Transfers.wp_waitMixedBatch (Lvl := ℕ) (EC (F := F)) Variants.none (c : Thread nD τ) none
      (sem := semF) (srcw := CBF) (dstw := oWin o6 i6) (J := crO) (k := k)
      () rfl (hle)) $$ [HB HW] [Hk]
  · isplitl [HB] <;> iassumption
  · iintro ⟨HB, HW⟩
    iapply Hk
    isplitl [HB]; · iexact HB
    iexists _; iexact HW

/-! ## The padding's collection -/

theorem fills_join (n : ℕ) (hn : n ≤ 10) :
    (iprop(bigSep ((Finset.univ : Finset (Fin 10)).filter fun x => x.val < n) (fun x => fillD c G x.val)
      ∗ (CBF.view.loc (c : Thread nD τ) ↦[Finset.univ]{shr n} (halfBlk (F := F)))) : sProp 𝕄)
    ⊢ iprop((OUT.view.loc (c : Thread nD τ) ↦[oBlk ((Finset.range n).image flT)]{fullShare} G)
      ∗ (CBF.view.loc (c : Thread nD τ) ↦[Finset.univ]{fullShare} (halfBlk (F := F)))) := by
  induction n with
  | zero =>
    iintro ⟨-, H⟩
    isplitr
    · rw [Finset.range_zero, Finset.image_empty, oBlk_empty, pointsTo_empty]; iempintro
    · iexact H
  | succ n ih =>
    have hs : ((Finset.univ : Finset (Fin 10)).filter fun x => x.val < n + 1)
        = insert ⟨n, hn⟩ ((Finset.univ : Finset (Fin 10)).filter fun x => x.val < n) := by
      ext x; simp only [Finset.mem_insert, Finset.mem_filter, Finset.mem_univ, true_and, Fin.ext_iff]; omega
    have hb : oBlk ((Finset.range (n + 1)).image flT) = oBlk {flT n} ∪ oBlk ((Finset.range n).image flT) := by
      rw [Finset.range_add_one, Finset.image_insert, oBlk_insert]
    have hd : Disjoint (oBlk {flT n}) (oBlk ((Finset.range n).image flT)) :=
      oBlk_disj _ _ ((by decide +kernel : ∀ n : Fin 10, Disjoint {flT n} ((Finset.range n).image flT)) ⟨n, hn⟩)
    rw [hs, bigSep_insert (by simp), hb]
    show iprop((fillD c G n ∗ bigSep _ _) ∗ _) ⊢ _
    unfold fillD
    have hsh : (iprop((CBF.view.loc (c : Thread nD τ) ↦[Finset.univ]{shr (n + 1)} (halfBlk (F := F)))
        ∗ (CBF.view.loc (c : Thread nD τ) ↦[Finset.univ]{lent n} (halfBlk (F := F)))) : sProp 𝕄)
        ⊢ (CBF.view.loc (c : Thread nD τ) ↦[Finset.univ]{shr n} (halfBlk (F := F))) :=
      (pointsTo_share (PosShare.mem_left_op_right (shr n))).2
    have ih := ih (by omega)
    unfold fillD at ih
    iintro ⟨⟨⟨HO, Hl⟩, Hr⟩, Hs⟩
    icombine Hs Hl as Hs
    ihave Hs := hsh $$ Hs
    icombine Hr Hs as Hs
    ihave H := ih $$ Hs
    icases H with ⟨HO', HC⟩
    isplitl [HO HO']
    · iapply (pointsTo_union hd).2
      isplitl [HO] <;> iassumption
    · iexact HC

/-- Every fill waited for: the padding blocks hold the padding's value, and the constant block is whole again. -/
theorem fill_collect :
    (iprop(fillBat c G 10 (10 * crO) ∗ (CBF.view.loc (c : Thread nD τ) ↦[Finset.univ]{shr 10} (halfBlk (F := F)))) : sProp 𝕄)
      ⊢ |={Set.univ}=> iprop(semVal ((c : Thread nD τ), .dma semF) 0
        ∗ (OUT.view.loc (c : Thread nD τ) ↦[oBlk ((Finset.range 10).image flT)]{fullShare} G)
        ∗ (CBF.view.loc (c : Thread nD τ) ↦[Finset.univ]{fullShare} (halfBlk (F := F)))) := by
  have hsum : Transfers.sumTo (fun _ : Fin 10 => crO) 10 = 10 * crO := Transfers.sumTo_const _ le_rfl
  have hcol := Transfers.mixedBatch_collect' (Lvl := ℕ) (EC (F := F)) (c : Thread nD τ) (ι := ()) (sm := SemLoc.dma semF)
    (A := fun _ : Fin 10 => crO) (fun _ => crO_pos) (D := fun k : Fin 10 => fillD c G k.val)
  rw [hsum] at hcol
  have hJ := fills_join c G 10 le_rfl
  rw [show ((Finset.univ : Finset (Fin 10)).filter fun x => x.val < 10) = Finset.univ from by ext x; simp] at hJ
  unfold fillBat
  iintro ⟨HB, HC⟩
  imod hcol $$ HB with ⟨HD, Hs⟩
  icombine HD HC as HD
  ihave H := hJ $$ HD
  icases H with ⟨HO, HC⟩
  imodintro
  isplitl [Hs]; · iexact Hs
  isplitl [HO] <;> iassumption

theorem fill_alloc : (semVal ((c : Thread nD τ), .dma semF) 0 : sProp 𝕄) ⊢ |={Set.univ}=> fillBat c G 0 0 := by
  unfold fillBat
  exact Transfers.mixedBatch_alloc' (Lvl := ℕ) (EC (F := F)) (c : Thread nD τ) () (fun _ : Fin 10 => crO) (fun k => fillD c G k.val)

end Cert.KernelIdeal.Hand

end
-- ==== Proof.Values.lean ====
/-
  What the kernel computes: the value of one entry, the contents of one block, and the array the blocks make up.
-/
module

public import proofs.«01_k».proof.Proof.Out
public import Idealize.ShloMosaic.Lib.Pipeline.Value
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (X : Flat (F := F))

/-- One half, as the kernel writes it. -/
def half : F .f32 := Scalar.ofBits .f32 0x3F000000#32
/-- The kernel's function of one entry: half plus half the tanh of half the entry's tanh. -/
def act (x : F .f32) : F .f32 :=
  FloatOps.addf half (FloatOps.mulf half (FloatOps.tanh (FloatOps.mulf half (FloatOps.tanh x))))

/-- The step that writes block `b`; 22 for the padding blocks. -/
def pOf (b : ℕ) : ℕ :=
  [0, 1, 2, 22, 3, 22, 4, 22, 5, 6, 7, 22, 8, 9, 10, 22, 11, 12, 13, 22, 14, 22, 15, 22, 16, 17, 18, 22, 19, 20, 21, 22].getD b 22

theorem pOf_ob : ∀ p : Fin 22, pOf (obT p) = p := by decide +kernel
theorem pOf_fl : ∀ k : Fin 10, pOf (flT k) = 22 := by decide +kernel

/-- The array the kernel leaves: a data row's entries through `act`, the padding's rows one half. -/
def gOut : Outc (F := F) := fun i =>
  if (i 0).val % 2048 < ndT (pOf ((i 0).val / 2048)) then
    act (X (Fin.cons (Fin.ofNat 32768 (stT (pOf ((i 0).val / 2048)) + (i 0).val % 2048)) (Fin.cons (i 1) (fun x => x.elim0))))
  else half

theorem gOut_fill (k : ℕ) (hk : k < 10) : ∀ i ∈ oBlk {flT k}, gOut X i = Scalar.ofBits .f32 0x3F000000#32 := by
  intro i hi
  have hb : (i 0).val / 2048 = flT k := by simpa [mem_oBlk] using hi
  unfold gOut
  rw [hb, pOf_fl ⟨k, hk⟩]
  rw [if_neg (by show ¬ _ < 0; omega)]
  rfl

theorem pay2_at (v : Vec F S1x2048x1024 .f32) (j : S1x2048x1024.Idx) : k0_pay2 v j = act (v j) := by
  have hj : (Fin.cons ⟨0, Nat.one_pos⟩ (fun a => j (Fin.succ a)) : S1x2048x1024.Idx) = j := by
    funext a
    refine Fin.cases ?_ (fun _ => rfl) a
    apply Fin.ext
    have h0 : (j 0).val < 1 := (j 0).isLt
    show 0 = (j 0).val
    omega
  unfold k0_pay2
  refine (shapeCast_addUnit_apply ![2048, 1024] _ shapeCasts_S2048x1024_S1x2048x1024 j).trans ?_
  show act (shapeCast S2048x1024 v shapeCasts_S1x2048x1024_S2048x1024 fun a => j a.succ) = _
  rw [show shapeCast S2048x1024 v shapeCasts_S1x2048x1024_S2048x1024 (fun a => j a.succ) = v j from
    (shapeCast_dropUnit_apply ![2048, 1024] v shapeCasts_S1x2048x1024_S2048x1024 (fun a => j a.succ)).trans (congrArg v hj)]

theorem pay3_at (n : ℕ) (hn : n ≤ 2048) (v : Vec F S1x2048x1024 .f32) (j : S1x2048x1024.Idx) :
    k0_pay3 (F := F) (BitVec.ofNat 32 n) v j = if (j 1).val < n then act (v j) else half := by
  have hj : (Fin.cons ⟨0, Nat.one_pos⟩ (fun a => j (Fin.succ a)) : S1x2048x1024.Idx) = j := by
    funext a
    refine Fin.cases ?_ (fun _ => rfl) a
    apply Fin.ext
    have h0 : (j 0).val < 1 := (j 0).isLt
    show 0 = (j 0).val
    omega
  unfold k0_pay3
  refine (shapeCast_addUnit_apply ![2048, 1024] _ shapeCasts_S2048x1024_S1x2048x1024 j).trans ?_
  have e1 : shapeCast S2048x1024 v shapeCasts_S1x2048x1024_S2048x1024 (fun a => j a.succ) = v j :=
    (shapeCast_dropUnit_apply ![2048, 1024] v shapeCasts_S1x2048x1024_S2048x1024 (fun a => j a.succ)).trans (congrArg v hj)
  have h1 : (j 1).val < 2048 := (j 1).isLt
  have e2 : cmpi .slt (iota .tc S2048x1024 32 [0] iota_S2048x1024_d0_w32) (broadcast S2048x1024 (BitVec.ofNat 32 n)) (fun a => j a.succ)
      = if (j 1).val < n then 1#1 else 0#1 := by
    show Scalar.cmpi .slt (iota .tc S2048x1024 32 [0] iota_S2048x1024_d0_w32 (fun a => j a.succ)) (BitVec.ofNat 32 n) = _
    rw [show iota .tc S2048x1024 32 [0] iota_S2048x1024_d0_w32 (fun a => j a.succ) = BitVec.ofNat 32 (j 1).val from
      iota_single_apply .tc S2048x1024 32 0 iota_S2048x1024_d0_w32 (fun a => j a.succ)]
    refine (WordCmp.cmpi_slt_ofNat (w := 32) (by omega) (by omega)).trans ?_
    by_cases h : (j 1).val < n <;> simp [h]
  show (if cmpi .slt (iota .tc S2048x1024 32 [0] iota_S2048x1024_d0_w32) (broadcast S2048x1024 (BitVec.ofNat 32 n)) (fun a => j a.succ) = 1#1
    then act (shapeCast S2048x1024 v shapeCasts_S1x2048x1024_S2048x1024 fun a => j a.succ) else half) = _
  rw [e1, e2]
  by_cases h : (j 1).val < n <;> simp [h]

/-- A result slot stored with the block of step `p`, whose rows the staging slot holds, is what block `obT p` of the
    result array is. -/
theorem block_at (p : ℕ) (hp : p < 22) (g f : Ring (F := F)) (o : Fin 3 → ℕ) (ho : o = ![p % 3, 0, 0])
    (h : ∀ a, o a + S1x2048x1024.size a ≤ S3x2048x1024.size a)
    (hg : ∀ i ∈ bRows (p % 3) 0 (ndT p), g i = landed X (stT p) i) (w : S1x2048x1024.Idx → F .f32)
    (hw : ∀ j, w j = if (j 1).val < ndT p then
        act ((BUF.access (Rect.unit (s := S3x2048x1024) o S1x2048x1024.size h)).read (Elt F) g j) else half)
    (r : Fin 2048) (q : Fin 1024) (s' : Fin 3) (R : Fin 65536) (hs : s'.val = p % 3) (hR : R.val = 2048 * obT p + r.val) :
    (OBF.access (Rect.unit (s := S3x2048x1024) o S1x2048x1024.size h)).write (Elt F) f w Finset.univ
        (Fin.cons s' (Fin.cons r (Fin.cons q (fun x => x.elim0)))) = gOut X (Fin.cons R (Fin.cons q (fun x => x.elim0))) := by
  subst ho
  let j : S1x2048x1024.Idx := Fin.cons ⟨0, Nat.one_pos⟩ (Fin.cons r (Fin.cons q (fun x => x.elim0)))
  have hj : (Rect.unit (s := S3x2048x1024) ![p % 3, 0, 0] S1x2048x1024.size h).emb j = Fin.cons s' (Fin.cons r (Fin.cons q (fun x => x.elim0))) := by
    funext a
    apply Fin.ext
    match a with
    | 0 => show p % 3 + 1 * 0 = s'.val; omega
    | 1 => show 0 + 1 * r.val = r.val; omega
    | 2 => show 0 + 1 * q.val = q.val; omega
  have hj' : (OBF.access (Rect.unit (s := S3x2048x1024) ![p % 3, 0, 0] S1x2048x1024.size h)).emb j
      = Fin.cons s' (Fin.cons r (Fin.cons q (fun x => x.elim0))) := hj
  rw [← hj']
  refine (View.write_emb_of_mem _ _ (Finset.mem_univ j)).trans ?_
  have hob : obT p < 32 := (by decide +kernel : ∀ p : Fin 22, obT p < 32) ⟨p, hp⟩
  have h1 : R.val / 2048 = obT p := by omega
  have h2 : R.val % 2048 = r.val := by omega
  have hG : gOut X (Fin.cons R (Fin.cons q (fun x => x.elim0)))
      = if r.val < ndT p then act (X (Fin.cons (Fin.ofNat 32768 (stT p + r.val)) (Fin.cons q (fun x => x.elim0)))) else half := by
    show (if R.val % 2048 < ndT (pOf (R.val / 2048)) then
      act (X (Fin.cons (Fin.ofNat 32768 (stT (pOf (R.val / 2048)) + R.val % 2048)) (Fin.cons q (fun x => x.elim0)))) else half) = _
    rw [h1, h2, pOf_ob ⟨p, hp⟩]
  rw [hG, hw j]
  show (if r.val < ndT p then act (g ((Rect.unit (s := S3x2048x1024) ![p % 3, 0, 0] S1x2048x1024.size h).emb j)) else half) = _
  by_cases hr : r.val < ndT p
  · rw [if_pos hr, if_pos hr, hj, hg _ (mem_bRows.mpr ⟨hs, Nat.zero_le _, by show r.val < 0 + ndT p; omega⟩)]
    rfl
  · rw [if_neg hr, if_neg hr]

end Cert.KernelIdeal.Hand

end
-- ==== Proof.Places.lean ====
/-
  The program's conditions, offsets and side conditions at every grid step, told by the schedule: each is an arithmetic
  expression of the step and of the tables' words, decided over the twenty-two steps.
-/
module

public import proofs.«01_k».proof.Proof.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The grid's index at step `t`. -/
def co (t : Fin 22) : grid0.Coords := fun a => ⟨t.val, by rw [Subsingleton.elim a 0]; exact t.isLt⟩

theorem coords_co : ∀ t : Fin grid0.N, ∀ h : t.val < 22, grid0.coords t = co ⟨t.val, h⟩ := by
  have : ∀ t : Fin grid0.N, (grid0.coords t 0).val = t.val := by decide +kernel
  intro t h
  funext a
  rw [Subsingleton.elim a 0]
  exact Fin.ext (this t)

/-- The table entry the step's prefetch reads. -/
def n2 (t : ℕ) : ℕ := min (t + 2) 21

/-- Step `p`'s piece of the `j`-th size is at these offsets of the semaphores, the ring and the flat input. -/
def AtPiece (p j : ℕ) (cnd : BitVec 1) (so : Fin 1 → ℕ) (o7 : Fin 3 → ℕ) (o5 : Fin 2 → ℕ) : Prop :=
  (cnd = 1#1 ↔ has p j = true) ∧ so = ![p % 3]
    ∧ (has p j = true → o7 = ![p % 3, pre p (rk p j), 0]) ∧ (has p j = true → o5 = ![stT p + pre p (rk p j), 0])
instance (p j : ℕ) (cnd : BitVec 1) (so : Fin 1 → ℕ) (o7 : Fin 3 → ℕ) (o5 : Fin 2 → ℕ) : Decidable (AtPiece p j cnd so o7 o5) := by
  unfold AtPiece; infer_instance

/-! ## The first step's own transfers -/

theorem first_cond : ∀ t : Fin 22, k0_cond1 (co t) = 1#1 ↔ t.val = 0 := by decide +kernel
theorem fst0 : AtPiece 0 0 (k0_cond2 (co 0) (wN 0)) (k0_off2 (co 0)) (k0_off3 (co 0)) (k0_off4 (wS 0)) := by decide +kernel
theorem fst1 : AtPiece 0 1 (k0_cond3 (co 0) (wN 0)) (k0_off5 (co 0)) (k0_off6 (co 0) (wN 0)) (k0_off7 (wN 0) (wS 0)) := by decide +kernel
theorem fst2 : AtPiece 0 2 (k0_cond4 (co 0) (wN 0)) (k0_off8 (co 0)) (k0_off9 (co 0) (wN 0)) (k0_off10 (wN 0) (wS 0)) := by decide +kernel
theorem fst3 : AtPiece 0 3 (k0_cond5 (co 0) (wN 0)) (k0_off11 (co 0)) (k0_off12 (co 0) (wN 0)) (k0_off13 (wN 0) (wS 0)) := by decide +kernel
theorem fst4 : AtPiece 0 4 (k0_cond6 (co 0) (wN 0)) (k0_off14 (co 0)) (k0_off15 (co 0) (wN 0)) (k0_off16 (wN 0) (wS 0)) := by decide +kernel
theorem fst_chk : k0_chk2 (co 0) (wN 0) ∧ k0_chk1 (co 0) (wN 0) (wS 0) ∧ k0_off1 (co 0) = ![0] := by decide +kernel
theorem snd0 : AtPiece 1 0 (k0_cond7 (co 0) (wN 1)) (k0_off18 (co 0)) (k0_off19 (co 0)) (k0_off20 (wS 1)) := by decide +kernel
theorem snd1 : AtPiece 1 1 (k0_cond8 (co 0) (wN 1)) (k0_off21 (co 0)) (k0_off22 (co 0) (wN 1)) (k0_off23 (wN 1) (wS 1)) := by decide +kernel
theorem snd2 : AtPiece 1 2 (k0_cond9 (co 0) (wN 1)) (k0_off24 (co 0)) (k0_off25 (co 0) (wN 1)) (k0_off26 (wN 1) (wS 1)) := by decide +kernel
theorem snd3 : AtPiece 1 3 (k0_cond10 (co 0) (wN 1)) (k0_off27 (co 0)) (k0_off28 (co 0) (wN 1)) (k0_off29 (wN 1) (wS 1)) := by decide +kernel
theorem snd4 : AtPiece 1 4 (k0_cond11 (co 0) (wN 1)) (k0_off30 (co 0)) (k0_off31 (co 0) (wN 1)) (k0_off32 (wN 1) (wS 1)) := by decide +kernel
theorem snd_chk : k0_chk4 (co 0) (wN 1) ∧ k0_chk3 (co 0) (wN 1) (wS 1) ∧ k0_off17 (co 0) = ![1] := by decide +kernel

/-! ## The prefetch of the step after next -/

theorem nxt0 : ∀ t : Fin 22, AtPiece (t.val + 2) 0 (k0_cond12 (co t) (wN (n2 t))) (k0_off34 (co t)) (k0_off35 (co t)) (k0_off36 (wS (n2 t))) := by decide +kernel
theorem nxt1 : ∀ t : Fin 22, AtPiece (t.val + 2) 1 (k0_cond13 (co t) (wN (n2 t))) (k0_off37 (co t)) (k0_off38 (co t) (wN (n2 t))) (k0_off39 (wN (n2 t)) (wS (n2 t))) := by decide +kernel
theorem nxt2 : ∀ t : Fin 22, AtPiece (t.val + 2) 2 (k0_cond14 (co t) (wN (n2 t))) (k0_off40 (co t)) (k0_off41 (co t) (wN (n2 t))) (k0_off42 (wN (n2 t)) (wS (n2 t))) := by decide +kernel
theorem nxt3 : ∀ t : Fin 22, AtPiece (t.val + 2) 3 (k0_cond15 (co t) (wN (n2 t))) (k0_off43 (co t)) (k0_off44 (co t) (wN (n2 t))) (k0_off45 (wN (n2 t)) (wS (n2 t))) := by decide +kernel
theorem nxt4 : ∀ t : Fin 22, AtPiece (t.val + 2) 4 (k0_cond16 (co t) (wN (n2 t))) (k0_off46 (co t)) (k0_off47 (co t) (wN (n2 t))) (k0_off48 (wN (n2 t)) (wS (n2 t))) := by decide +kernel
theorem nxt_chk : ∀ t : Fin 22, k0_chk6 (co t) (wN (n2 t)) ∧ k0_chk5 (co t) (wN (n2 t)) (wS (n2 t)) ∧ k0_off33 (co t) = ![n2 t] := by
  decide +kernel

/-! ## The padding's fills and the result's blocks -/

/-- How many fills have been started before step `t`. -/
def kf (t : ℕ) : ℕ := min 10 ((t + 1) / 2)

theorem fill_at : ∀ t : Fin 22, (k0_cond17 (co t) = 1#1 → kf t = t.val / 2 ∧ kf t < 10 ∧ kf (t.val + 1) = kf t + 1
      ∧ k0_off49 (co t) = ![kf t] ∧ k0_chk7 (co t) (wF (kf t)) ∧ k0_off50 (wF (kf t)) = ![2048 * flT (kf t), 0])
    ∧ (k0_cond17 (co t) ≠ 1#1 → kf (t.val + 1) = kf t) := by decide +kernel

theorem owait_at : ∀ t : Fin 22, (k0_cond18 (co t) = 1#1 ↔ 3 ≤ t.val)
    ∧ (k0_cond18 (co t) = 1#1 → k0_off51 (co t) = ![t.val - 3] ∧ k0_chk8 (co t) (wO (t.val - 3)) ∧ k0_off52 (co t) = ![(t.val - 3) % 3]) := by
  decide +kernel

theorem out_at : ∀ t : Fin 22, k0_off74 (co t) = ![t.val] ∧ k0_chk11 (wO t) ∧ k0_off75 (co t) = ![t.val % 3]
    ∧ k0_off76 (wO t) = ![2048 * obT t, 0] ∧ k0_off77 (co t) = ![t.val % 3, 0, 0] := by decide +kernel

/-! ## The step's own rows -/

theorem own_chk : ∀ t : Fin 22, k0_off55 (co t) = ![t.val] ∧ k0_chk10 (co t) (wN t) ∧ k0_chk9 (wN t) (wS t) ∧ k0_off71 (co t) = ![t.val]
    ∧ k0_off72 (co t) = ![t.val % 3, 0, 0] ∧ k0_off73 (co t) = ![t.val % 3, 0, 0] ∧ wN t = BitVec.ofNat 32 (ndT t) := by decide +kernel
theorem own_cond : ∀ t : Fin 22, (k0_cond19 (wN t) = 1#1 ↔ has t 0 = true) ∧ (k0_cond20 (wN t) = 1#1 ↔ has t 1 = true)
    ∧ (k0_cond21 (wN t) = 1#1 ↔ has t 2 = true) ∧ (k0_cond22 (wN t) = 1#1 ↔ has t 3 = true)
    ∧ (k0_cond23 (wN t) = 1#1 ↔ has t 4 = true) := by decide +kernel
theorem own_sem : ∀ t : Fin 22, k0_off56 (co t) = ![t.val % 3] ∧ k0_off59 (co t) = ![t.val % 3] ∧ k0_off62 (co t) = ![t.val % 3]
    ∧ k0_off65 (co t) = ![t.val % 3] ∧ k0_off68 (co t) = ![t.val % 3] := by decide +kernel
theorem own_full : ∀ t : Fin 22, (Scalar.cmpi .ne (Scalar.extui (Scalar.cmpi .eq (wN t) 2048#32) : BitVec 32) 0#32 = 1#1 ↔ ndT t = 2048)
    ∧ (Scalar.cmpi .ne (Scalar.extui (Scalar.cmpi .slt (wN t) 2048#32) : BitVec 32) 0#32 = 1#1 ↔ ndT t ≠ 2048) := by decide +kernel

/-! ## The last step's waits -/

theorem last_cond : ∀ t : Fin 22, k0_cond26 (co t) = 1#1 ↔ t.val = 21 := by decide +kernel
theorem last_out : (k0_off78 (co 21) = ![19] ∧ k0_chk12 (co 21) (wO 19) ∧ k0_off79 (co 21) = ![19 % 3])
    ∧ (k0_off82 (co 21) = ![20] ∧ k0_chk13 (co 21) (wO 20) ∧ k0_off83 (co 21) = ![20 % 3])
    ∧ (k0_off86 (co 21) = ![21] ∧ k0_chk14 (co 21) (wO 21) ∧ k0_off87 (co 21) = ![21 % 3]) := by decide +kernel
theorem last_fill : (k0_off90 (co 21) = ![21] ∧ k0_chk15 (co 21) (wF 21)) ∧ (k0_off92 (co 21) = ![21] ∧ k0_chk16 (co 21) (wF 21))
    ∧ (k0_off94 (co 21) = ![21] ∧ k0_chk17 (co 21) (wF 21)) ∧ (k0_off96 (co 21) = ![21] ∧ k0_chk18 (co 21) (wF 21))
    ∧ (k0_off98 (co 21) = ![21] ∧ k0_chk19 (co 21) (wF 21)) ∧ (k0_off100 (co 21) = ![21] ∧ k0_chk20 (co 21) (wF 21))
    ∧ (k0_off102 (co 21) = ![21] ∧ k0_chk21 (co 21) (wF 21)) ∧ (k0_off104 (co 21) = ![21] ∧ k0_chk22 (co 21) (wF 21))
    ∧ (k0_off106 (co 21) = ![21] ∧ k0_chk23 (co 21) (wF 21)) ∧ (k0_off108 (co 21) = ![21] ∧ k0_chk24 (co 21) (wF 21)) := by decide +kernel

end Cert.KernelIdeal.Hand

end
-- ==== Proof.Parts.lean ====
/-
  The body's first two parts, each run at a grid step: what it takes and what it hands on.
-/
module

public import proofs.«01_k».proof.Proof.Places

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (X : Flat (F := F))

/-! ## The tables -/

def ptS : sProp 𝕄 := iprop((Memref.whole main_c).view.loc (c : Thread nD τ) ↦[Finset.univ]{fullShare.right}
  (fun i => lit0 (S22.rowMajor i) : Buf (Elt F) ((Memref.whole main_c).view.loc (c : Thread nD τ))))
def ptN : sProp 𝕄 := iprop((Memref.whole main_c_0).view.loc (c : Thread nD τ) ↦[Finset.univ]{fullShare.right}
  (fun i => lit1 (S22.rowMajor i) : Buf (Elt F) ((Memref.whole main_c_0).view.loc (c : Thread nD τ))))
def ptO : sProp 𝕄 := iprop((Memref.whole main_c_1).view.loc (c : Thread nD τ) ↦[Finset.univ]{fullShare.right}
  (fun i => lit2 (S22.rowMajor i) : Buf (Elt F) ((Memref.whole main_c_1).view.loc (c : Thread nD τ))))
def ptF : sProp 𝕄 := iprop((Memref.whole main_c_2).view.loc (c : Thread nD τ) ↦[Finset.univ]{fullShare.right}
  (fun i => lit3 (S22.rowMajor i) : Buf (Elt F) ((Memref.whole main_c_2).view.loc (c : Thread nD τ))))

/-- The four tables, each at its words. -/
def tabs : sProp 𝕄 := iprop(ptS (F := F) c ∗ ptN (F := F) c ∗ ptO (F := F) c ∗ ptF (F := F) c)

/-- A table's word read, its side condition checked. -/
theorem read_S (n : ℕ) (hn : n < 22) {o : Fin 1 → ℕ} (ho : o = ![n])
    (h : ∀ a, o a + S1.size a ≤ S22.size a) (h1) (hp) {P : Elt F .i32 → Prop} (d : ∀ v, Decidable (P v)) (hP : P (wS n))
    {α : Type} (k : (v : Elt F .i32) → PLift (P v) → Prog (TpuEff nD τ sig (Elt F) Λ₀ .tc) α) (Q : α → sProp 𝕄) :
    (tabs c : sProp 𝕄) ⊢ iprop((tabs c -∗ run c (k (wS n) ⟨hP⟩) Q)
        -∗ run c (smemLoad (Memref.whole main_c) (Rect.unit (s := S22) o S1.size h) h1 hp >>= fun v => Prog.lift (.assume (P v) (d v)) >>= fun a => k v a) Q) := by
  unfold tabs ptS
  iintro ⟨H, H'⟩ Hk
  iapply (read_site c _ (tabS c) n hn ho h h1 hp d hP k Q) $$ H
  iintro H
  iapply Hk
  isplitl [H] <;> iassumption
theorem read_N (n : ℕ) (hn : n < 22) {o : Fin 1 → ℕ} (ho : o = ![n])
    (h : ∀ a, o a + S1.size a ≤ S22.size a) (h1) (hp) {P : Elt F .i32 → Prop} (d : ∀ v, Decidable (P v)) (hP : P (wN n))
    {α : Type} (k : (v : Elt F .i32) → PLift (P v) → Prog (TpuEff nD τ sig (Elt F) Λ₀ .tc) α) (Q : α → sProp 𝕄) :
    (tabs c : sProp 𝕄) ⊢ iprop((tabs c -∗ run c (k (wN n) ⟨hP⟩) Q)
        -∗ run c (smemLoad (Memref.whole main_c_0) (Rect.unit (s := S22) o S1.size h) h1 hp >>= fun v => Prog.lift (.assume (P v) (d v)) >>= fun a => k v a) Q) := by
  unfold tabs ptN
  iintro ⟨H', H, H''⟩ Hk
  iapply (read_site c _ (tabN c) n hn ho h h1 hp d hP k Q) $$ H
  iintro H
  iapply Hk
  isplitl [H']; · iexact H'
  isplitl [H] <;> iassumption
theorem read_O (n : ℕ) (hn : n < 22) {o : Fin 1 → ℕ} (ho : o = ![n])
    (h : ∀ a, o a + S1.size a ≤ S22.size a) (h1) (hp) {P : Elt F .i32 → Prop} (d : ∀ v, Decidable (P v)) (hP : P (wO n))
    {α : Type} (k : (v : Elt F .i32) → PLift (P v) → Prog (TpuEff nD τ sig (Elt F) Λ₀ .tc) α) (Q : α → sProp 𝕄) :
    (tabs c : sProp 𝕄) ⊢ iprop((tabs c -∗ run c (k (wO n) ⟨hP⟩) Q)
        -∗ run c (smemLoad (Memref.whole main_c_1) (Rect.unit (s := S22) o S1.size h) h1 hp >>= fun v => Prog.lift (.assume (P v) (d v)) >>= fun a => k v a) Q) := by
  unfold tabs ptO
  iintro ⟨H1, H2, H, H3⟩ Hk
  iapply (read_site c _ (tabO c) n hn ho h h1 hp d hP k Q) $$ H
  iintro H
  iapply Hk
  isplitl [H1]; · iexact H1
  isplitl [H2]; · iexact H2
  isplitl [H] <;> iassumption
theorem read_F (n : ℕ) (hn : n < 22) {o : Fin 1 → ℕ} (ho : o = ![n])
    (h : ∀ a, o a + S1.size a ≤ S22.size a) (h1) (hp) {P : Elt F .i32 → Prop} (d : ∀ v, Decidable (P v)) (hP : P (wF n))
    {α : Type} (k : (v : Elt F .i32) → PLift (P v) → Prog (TpuEff nD τ sig (Elt F) Λ₀ .tc) α) (Q : α → sProp 𝕄) :
    (tabs c : sProp 𝕄) ⊢ iprop((tabs c -∗ run c (k (wF n) ⟨hP⟩) Q)
        -∗ run c (smemLoad (Memref.whole main_c_2) (Rect.unit (s := S22) o S1.size h) h1 hp >>= fun v => Prog.lift (.assume (P v) (d v)) >>= fun a => k v a) Q) := by
  unfold tabs ptF
  iintro ⟨H1, H2, H3, H⟩ Hk
  iapply (read_site c _ (tabF c) n hn ho h h1 hp d hP k Q) $$ H
  iintro H
  iapply Hk
  isplitl [H1]; · iexact H1
  isplitl [H2]; · iexact H2
  isplitl [H3] <;> iassumption
theorem read_len (n : ℕ) (hn : n < 22) {o : Fin 1 → ℕ} (ho : o = ![n])
    (h : ∀ a, o a + S1.size a ≤ S22.size a) (h1) (hp)
    {α : Type} (k : Elt F .i32 → Prog (TpuEff nD τ sig (Elt F) Λ₀ .tc) α) (Q : α → sProp 𝕄) :
    (tabs c : sProp 𝕄) ⊢ iprop((tabs c -∗ run c (k (wN n)) Q)
        -∗ run c (smemLoad (Memref.whole main_c_0) (Rect.unit (s := S22) o S1.size h) h1 hp >>= k) Q) := by
  unfold tabs ptN
  iintro ⟨H', H, H''⟩ Hk
  iapply (read_word c _ (tabN c) n hn ho h h1 hp k Q) $$ H
  iintro H
  iapply Hk
  isplitl [H']; · iexact H'
  isplitl [H] <;> iassumption

theorem ret_site {α : Type} (v : α) (Q : α → sProp 𝕄) : Q v ⊢ run c (pure v) Q := fupd_intro

theorem bind_site {α β : Type} (p : Prog (TpuEff nD τ sig (Elt F) Λ₀ .tc) α) (k : α → Prog (TpuEff nD τ sig (Elt F) Λ₀ .tc) β) (Q : β → sProp 𝕄) :
    run c p (fun v => run c (k v) Q) ⊢ run c (p >>= k) Q := Entails.of_eq (wp_bind ..).symm

/-! ## One piece's start and wait -/

theorem start_at {p j : ℕ} {cnd : BitVec 1} {so : Fin 1 → ℕ} {o7 : Fin 3 → ℕ} {o5 : Fin 2 → ℕ} (h : AtPiece p j cnd so o7 o5)
    (hp : p < 25) (hj : j < 5) (N : ℕ) (hN : szT j = N) (is) (hsq) (i7 : ∀ h : cnd = 1#1, _) (i5 : ∀ h : cnd = 1#1, _)
    (hq : (⟨3, ![1, N, 1024]⟩ : Shape).Squeezes ⟨2, ![N, 1024]⟩) (hs : ∀ h : cnd = 1#1, _) (hd : ∀ h : cnd = 1#1, _) (ht : ∀ h : cnd = 1#1, _)
    {α : Type} (K : Prog (TpuEff nD τ sig (Elt F) Λ₀ .tc) α) (Q : α → sProp 𝕄) :
    (inSt c X p (rk p j) : sProp 𝕄)
      ⊢ iprop((inSt c X p (rk p (j + 1)) -∗ run c K Q)
        -∗ run c (dite (cnd = 1#1) (fun h : cnd = 1#1 => Prog.lift (.enqueueDma (fWin N o5 (i5 h)) (.here (rWin BUF N o7 (i7 h) hq))
              (.dma ((cc0_scratch1.slice (Rect.unit (s := S3) so S1.size is)).squeeze S_ hsq).sem) (hs h) (hd h) (ht h)) >>= fun _ : PUnit.{1} => K)
            (fun _ => K)) Q) :=
  start_site c X p j hp hj N hN h.1 (semI_eq p so h.2.1 is hsq) h.2.2.1 h.2.2.2 i7 i5 hq hs hd ht (fun _ : PUnit.{1} => K) Q

theorem wait_at (p j : ℕ) {cnd : BitVec 1} (h : cnd = 1#1 ↔ has p j = true) {so : Fin 1 → ℕ} (hso : so = ![p % 3]) {o7 : Fin 3 → ℕ} {o5 : Fin 2 → ℕ}
    (hp : p < 25) (hj : j < 5) (N : ℕ) (hN : szT j = N) (is) (hsq) (i7 : ∀ h : cnd = 1#1, _) (i5 : ∀ h : cnd = 1#1, _)
    (hq : (⟨3, ![1, N, 1024]⟩ : Shape).Squeezes ⟨2, ![N, 1024]⟩) (hs : ∀ h : cnd = 1#1, _) (hd : ∀ h : cnd = 1#1, _)
    {α : Type} (K : Prog (TpuEff nD τ sig (Elt F) Λ₀ .tc) α) (Q : α → sProp 𝕄) :
    (iprop(bat c X p (nT p) (Transfers.sumTo (aI p) (rk p j)) ∗ owe c) : sProp 𝕄)
      ⊢ iprop((iprop(bat c X p (nT p) (Transfers.sumTo (aI p) (rk p (j + 1))) ∗ owe c) -∗ run c K Q)
        -∗ run c (dite (cnd = 1#1) (fun h : cnd = 1#1 => Prog.lift (.waitDma2 ((cc0_scratch1.slice (Rect.unit (s := S3) so S1.size is)).squeeze S_ hsq).sem
              (fWin N o5 (i5 h)) (rWin BUF N o7 (i7 h) hq) (hs h) (hd h)) >>= fun _ : PUnit.{1} => K)
            (fun _ => K)) Q) :=
  wait_site c X p j hp hj N hN h (semI_eq p so hso is hsq) i7 i5 hq hs hd (fun _ : PUnit.{1} => K) Q

/-! ## The prefetch's later pieces -/

theorem part7 (t : Fin 22) (a1 a2 a3 a4 a5 a6 a7 a9 a11) (arg0 v3 : BitVec 32) (h6) (h5) (v27 : BitVec 32) (v31 : BitVec 1) (Q) :
    (inSt c X (t + 2) (rk (t + 2) 2) : sProp 𝕄) ⊢ iprop((∀ v60 v65 v33, inSt c X (t + 2) (nT (t + 2)) -∗ Q ⟨v60, v65, v33⟩)
      -∗ run c (k0_part7 (F := F) (co t) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 v3 (wN (n2 t)) h6 (wS (n2 t)) h5 v27 v31) Q) := by
  simp only [k0_part7_eq_skeleton]
  unfold k0_part7_skel
  dsimp only
  iintro H Hk
  iapply (start_at c X (nxt2 t) (by omega) (by omega) 512 rfl) $$ H; iintro H
  iapply (start_at c X (nxt3 t) (by omega) (by omega) 256 rfl) $$ H; iintro H
  iapply (start_at c X (nxt4 t) (by omega) (by omega) 128 rfl) $$ H; iintro H
  iapply (ret_site c)
  iapply Hk
  iexact H

/-! ## The first step's transfers -/

theorem const_written (f : Blk (F := F)) (h) :
    (CBF.access (Rect.unit (s := S2048x1024) ![0, 0] S2048x1024.size h)).write (Elt F) f (k0_pay1 (F := F)) Finset.univ = halfBlk (F := F) := by
  funext i
  have hi : (CBF.access (Rect.unit (s := S2048x1024) ![0, 0] S2048x1024.size h)).emb i = i := by
    funext a
    apply Fin.ext
    show (![0, 0] : Fin 2 → ℕ) a + 1 * (i a).val = (i a).val
    match a with
    | 0 => show 0 + 1 * _ = _; omega
    | 1 => show 0 + 1 * _ = _; omega
  exact (congrArg _ hi.symm).trans (View.write_emb_of_mem _ _ (Finset.mem_univ i))

theorem part1 (a1 a2 a3 a4 a5 a6 a7 a9 a11) (arg0) (h1) (Q) :
    (iprop(tabs c ∗ inSt c X 0 (rk 0 0) ∗ ∃ f : Blk (F := F), CBF.view.loc (c : Thread nD τ) ↦[Finset.univ]{fullShare} f) : sProp 𝕄)
      ⊢ iprop((∀ v165 v170, iprop(tabs c ∗ inSt c X 0 (rk 0 2) ∗ (CBF.view.loc (c : Thread nD τ) ↦[Finset.univ]{fullShare} (halfBlk (F := F))))
          -∗ Q ⟨wN 0, fst_chk.1, wS 0, fst_chk.2.1, v165, v170⟩)
      -∗ run c (k0_part1 (F := F) (co 0) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 h1) Q) := by
  simp only [k0_part1_eq_skeleton]
  unfold k0_part1_skel
  dsimp only
  iintro ⟨HT, H, ⟨%f, Hc⟩⟩ Hk
  iapply (wp_load_rect (defs := defs₀ (F := F)) Variants.none (c : Thread nD τ) none Set.univ (m := CBF)
    (r := Rect.unit (s := S2048x1024) ![0, 0] S2048x1024.size inb_S2048x1024_S2048x1024_0_0) (Finset.subset_univ _)) $$ Hc; iintro Hc
  iapply (wp_store (defs := defs₀ (F := F)) Variants.none (c : Thread nD τ) none Set.univ (m := CBF)
    (r := Rect.unit (s := S2048x1024) ![0, 0] S2048x1024.size inb_S2048x1024_S2048x1024_0_0) (Mk := Finset.univ) (Finset.subset_univ _)) $$ Hc; iintro Hc
  rw [const_written]
  iapply (read_N c 0 (by omega) fst_chk.2.2 _ numel1_S1 rfl _ (hP := fst_chk.1)) $$ HT; iintro HT
  iapply (read_S c 0 (by omega) fst_chk.2.2 _ numel1_S1 rfl _ (hP := fst_chk.2.1)) $$ HT; iintro HT
  iapply (start_at c X fst0 (by omega) (by omega) 2048 rfl) $$ H; iintro H
  iapply (start_at c X fst1 (by omega) (by omega) 1024 rfl) $$ H; iintro H
  iapply (ret_site c)
  iapply Hk
  isplitl [HT]; · iexact HT
  isplitl [H] <;> iassumption

theorem part2 (a1 a2 a3 a4 a5 a6 a7 a9 a11) (arg0) (h1) (h2 h1' v165 v170) (Q) :
    (iprop(tabs c ∗ inSt c X 0 (rk 0 2)) : sProp 𝕄)
      ⊢ iprop((∀ v198, iprop(tabs c ∗ inSt c X 0 (nT 0)) -∗ Q ⟨v198, wN 1, snd_chk.1, wS 1, snd_chk.2.1⟩)
      -∗ run c (k0_part2 (F := F) (co 0) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 h1 (wN 0) h2 (wS 0) h1' v165 v170) Q) := by
  simp only [k0_part2_eq_skeleton]
  unfold k0_part2_skel
  dsimp only
  iintro ⟨HT, H⟩ Hk
  iapply (start_at c X fst2 (by omega) (by omega) 512 rfl) $$ H; iintro H
  iapply (start_at c X fst3 (by omega) (by omega) 256 rfl) $$ H; iintro H
  iapply (start_at c X fst4 (by omega) (by omega) 128 rfl) $$ H; iintro H
  iapply (read_N c 1 (by omega) snd_chk.2.2 _ numel1_S1 rfl _ (hP := snd_chk.1)) $$ HT; iintro HT
  iapply (read_S c 1 (by omega) snd_chk.2.2 _ numel1_S1 rfl _ (hP := snd_chk.2.1)) $$ HT; iintro HT
  iapply (ret_site c)
  iapply Hk
  isplitl [HT]; · iexact HT
  iexact H

theorem part3 (a1 a2 a3 a4 a5 a6 a7 a9 a11) (h1) (v198) (h4 h3) (Q) :
    (inSt c X 1 (rk 1 0) : sProp 𝕄)
      ⊢ iprop((∀ v234 v236 v, inSt c X 1 (rk 1 3) -∗ Q ⟨v234, v236, v⟩)
      -∗ run c (k0_part3 (F := F) (co 0) (Memref.whole main_c) a1 (Memref.whole main_c_0) a2
      (Memref.whole main_c_1) a3 (Memref.whole main_c_2) a4 FLT a5 OUT a6 BUF a7 cc0_scratch1 OBF a9 cc0_scratch3
      CBF a11 cc0_scratch5 h1 v198 (wN 1) h4 (wS 1) h3) Q) := by
  simp only [k0_part3_eq_skeleton]
  unfold k0_part3_skel
  dsimp only
  iintro H Hk
  iapply (start_at c X snd0 (by omega) (by omega) 2048 rfl) $$ H; iintro H
  iapply (start_at c X snd1 (by omega) (by omega) 1024 rfl) $$ H; iintro H
  iapply (start_at c X snd2 (by omega) (by omega) 512 rfl) $$ H; iintro H
  iapply (ret_site c)
  iapply Hk
  iexact H

/-- What the first step's opening takes and what it leaves; the other steps' opening does nothing. -/
def ini (t : ℕ) : sProp 𝕄 :=
  if t = 0 then iprop(inSt c X 0 (rk 0 0) ∗ inSt c X 1 (rk 1 0) ∗ ∃ f : Blk (F := F), CBF.view.loc (c : Thread nD τ) ↦[Finset.univ]{fullShare} f)
  else iprop(inSt c X t (nT t) ∗ inSt c X (t + 1) (nT (t + 1)) ∗ (CBF.view.loc (c : Thread nD τ) ↦[Finset.univ]{shr (kf t)} (halfBlk (F := F))))
def rdy (t : ℕ) : sProp 𝕄 :=
  iprop(inSt c X t (nT t) ∗ inSt c X (t + 1) (nT (t + 1)) ∗ (CBF.view.loc (c : Thread nD τ) ↦[Finset.univ]{shr (kf t)} (halfBlk (F := F))))

theorem part6 (t : Fin 22) (a1 a2 a3 a4 a5 a6 a7 a9 a11) (Q) :
    (iprop(tabs c ∗ ini c X t ∗ inSt c X (t + 2) (rk (t + 2) 0)) : sProp 𝕄)
      ⊢ iprop((∀ arg0 v3 v27 v31, iprop(tabs c ∗ rdy c X t ∗ inSt c X (t + 2) (rk (t + 2) 2))
          -∗ Q ⟨arg0, v3, wN (n2 t), (nxt_chk t).1, wS (n2 t), (nxt_chk t).2.1, v27, v31⟩)
      -∗ run c (k0_part6 (F := F) (co t) (Memref.whole main_c) a1 (Memref.whole main_c_0) a2
      (Memref.whole main_c_1) a3 (Memref.whole main_c_2) a4 FLT a5 OUT a6 BUF a7 cc0_scratch1 OBF a9 cc0_scratch3
      CBF a11 cc0_scratch5) Q) := by
  simp only [k0_part6_eq_skeleton]
  unfold k0_part6_skel
  dsimp only
  have hn : n2 t < 22 := by unfold n2; omega
  by_cases h0 : t.val = 0
  · obtain rfl : t = 0 := Fin.ext h0
    have hc1 := (first_cond 0).2 rfl
    rw [dif_pos hc1]
    unfold ini
    rw [if_pos h0]
    iintro ⟨HT, ⟨H0, H1, Hc⟩, H⟩ Hk
    icombine HT H0 Hc as HP
    iapply (bind_site c)
    iapply (part1 c X) $$ HP
    iintro %v165 %v170 ⟨HT, H0, Hc⟩
    icombine HT H0 as HP
    iapply (bind_site c)
    iapply (part2 c X) $$ HP
    iintro %v198 ⟨HT, H0⟩
    iapply (bind_site c)
    iapply (part3 c X) $$ H1
    iintro %v234 %v236 %v H1
    dsimp only
    iapply (start_at c X snd3 (by omega) (by omega) 256 rfl) $$ H1; iintro H1
    iapply (start_at c X snd4 (by omega) (by omega) 128 rfl) $$ H1; iintro H1
    iapply (read_N c _ hn (nxt_chk 0).2.2 _ numel1_S1 rfl _ (hP := (nxt_chk 0).1)) $$ HT; iintro HT
    iapply (read_S c _ hn (nxt_chk 0).2.2 _ numel1_S1 rfl _ (hP := (nxt_chk 0).2.1)) $$ HT; iintro HT
    iapply (start_at c X (nxt0 0) (by omega) (by omega) 2048 rfl) $$ H; iintro H
    iapply (start_at c X (nxt1 0) (by omega) (by omega) 1024 rfl) $$ H; iintro H
    iapply (ret_site c)
    iapply Hk
    unfold rdy
    isplitl [HT]; · iexact HT
    isplitl [H0 H1 Hc]
    · isplitl [H0]; · iexact H0
      isplitl [H1]; · iexact H1
      iexact Hc
    iexact H
  · rw [dif_neg (fun h => h0 ((first_cond t).1 h))]
    unfold ini
    rw [if_neg h0]
    iintro ⟨HT, HI, H⟩ Hk
    iapply (read_N c _ hn (nxt_chk t).2.2 _ numel1_S1 rfl _ (hP := (nxt_chk t).1)) $$ HT; iintro HT
    iapply (read_S c _ hn (nxt_chk t).2.2 _ numel1_S1 rfl _ (hP := (nxt_chk t).2.1)) $$ HT; iintro HT
    iapply (start_at c X (nxt0 t) (by omega) (by omega) 2048 rfl) $$ H; iintro H
    iapply (start_at c X (nxt1 t) (by omega) (by omega) 1024 rfl) $$ H; iintro H
    iapply (ret_site c)
    iapply Hk
    unfold rdy
    isplitl [HT]; · iexact HT
    isplitl [HI]; · iexact HI
    iexact H

end Cert.KernelIdeal.Hand

end
-- ==== Proof.Flow.lean ====
/-
  The body's later parts: the padding's fill and the wait for an earlier block, the wait for the step's own rows, the
  block computed, and the last step's waits.
-/
module

public import proofs.«01_k».proof.Proof.Parts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (X : Flat (F := F))

/-- The padding blocks not yet filled, the result's blocks not yet sent and those known to have arrived. -/
def toFill (k : ℕ) : Finset ℕ := (Finset.Ico k 10).image flT
def toSend (t : ℕ) : Finset ℕ := (Finset.Ico t 22).image obT
def come (t : ℕ) : Finset ℕ := (Finset.range (t - 3)).image obT

theorem toFill_step (k : ℕ) (hk : k < 10) : oBlk (toFill k) = oBlk {flT k} ∪ oBlk (toFill (k + 1)) ∧ Disjoint (oBlk {flT k}) (oBlk (toFill (k + 1))) := by
  constructor
  · rw [← oBlk_insert]
    congr 1
    exact (by decide +kernel : ∀ k : Fin 10, toFill k = insert (flT k) (toFill (k + 1))) ⟨k, hk⟩
  · exact oBlk_disj _ _ ((by decide +kernel : ∀ k : Fin 10, Disjoint {flT k} (toFill (k + 1))) ⟨k, hk⟩)
theorem toSend_step (t : Fin 22) : oBlk (toSend t) = oBlk {obT t} ∪ oBlk (toSend (t + 1)) ∧ Disjoint (oBlk {obT t}) (oBlk (toSend (t + 1))) := by
  constructor
  · rw [← oBlk_insert]
    congr 1
    exact (by decide +kernel : ∀ t : Fin 22, toSend t = insert (obT t) (toSend (t + 1))) t
  · exact oBlk_disj _ _ ((by decide +kernel : ∀ t : Fin 22, Disjoint {obT t} (toSend (t + 1))) t)
theorem come_step (t : Fin 25) (h : 3 ≤ t.val) : oBlk (come (t + 1)) = oBlk {obT (t - 3)} ∪ oBlk (come t) ∧ Disjoint (oBlk {obT (t - 3)}) (oBlk (come t)) := by
  constructor
  · rw [← oBlk_insert]
    congr 1
    exact (by decide +kernel : ∀ t : Fin 25, 3 ≤ t.val → come (t + 1) = insert (obT (t - 3)) (come t)) t h
  · exact oBlk_disj _ _ ((by decide +kernel : ∀ t : Fin 25, 3 ≤ t.val → Disjoint {obT (t - 3)} (come t)) t h)

theorem outFree_mod {p q : ℕ} (h : p % 3 = q % 3) : outFree (F := F) c p = outFree c q := by
  unfold outFree semO; simp only [h]

/-! ## The padding -/

/-- The padding before step `t`: the fills started, what is left of the constant block, and the blocks to come. -/
def pads (V : Outc (F := F)) (t : ℕ) : sProp 𝕄 :=
  iprop(fillBat c (gOut X) (kf t) 0 ∗ (CBF.view.loc (c : Thread nD τ) ↦[Finset.univ]{shr (kf t)} (halfBlk (F := F)))
    ∗ (OUT.view.loc (c : Thread nD τ) ↦[oBlk (toFill (kf t))]{fullShare} V))

theorem fill_site (V : Outc (F := F)) (t : Fin 22) (i49 : ∀ _ : k0_cond17 (co t) = 1#1, _) (d : ∀ v, Decidable (k0_chk7 (co t) v))
    (i6 : ∀ (h : k0_cond17 (co t) = 1#1) (v : Elt F .i32) (w : PLift (k0_chk7 (co t) v)) (a : Fin 2), k0_off50 v a + S2048x1024.size a ≤ S65536x1024.size a)
    (hs : ∀ (h : k0_cond17 (co t) = 1#1) (v : Elt F .i32) (w : PLift (k0_chk7 (co t) v)), _)
    (hd : ∀ (h : k0_cond17 (co t) = 1#1) (v : Elt F .i32) (w : PLift (k0_chk7 (co t) v)), _)
    (ht : ∀ (h : k0_cond17 (co t) = 1#1) (v : Elt F .i32) (w : PLift (k0_chk7 (co t) v)), _)
    {α : Type} (K : Prog (TpuEff nD τ sig (Elt F) Λ₀ .tc) α) (Q : α → sProp 𝕄) :
    (iprop(tabs c ∗ pads c X V t) : sProp 𝕄)
      ⊢ iprop((iprop(tabs c ∗ pads c X V (t + 1)) -∗ run c K Q)
        -∗ run c (dite (k0_cond17 (co t) = 1#1) (fun h => smemLoad (Memref.whole main_c_2) (Rect.unit (s := S22) (k0_off49 (co t)) S1.size (i49 h)) numel1_S1 rfl
            >>= fun v => Prog.lift (.assume (k0_chk7 (co t) v) (d v))
            >>= fun w => Prog.lift (.enqueueDma CBF (.here (oWin (k0_off50 v) (i6 h v w))) (.dma cc0_scratch5.sem) (hs h v w) (hd h v w) (ht h v w))
            >>= fun _ : PUnit.{1} => K)
          (fun _ => K)) Q) := by
  by_cases h : k0_cond17 (co t) = 1#1
  · rw [dif_pos h]
    obtain ⟨-, hk, hk', ho, hc, h6⟩ := (fill_at t).1 h
    obtain ⟨he, hd'⟩ := toFill_step (kf t) hk
    unfold pads
    rw [hk', he]
    iintro ⟨HT, HB, Hc, HO⟩ Hk
    ihave HO := (pointsTo_union hd').1 $$ HO
    icases HO with ⟨HO, HR⟩
    iapply (read_F c _ (by omega) ho _ numel1_S1 rfl _ (hP := hc)) $$ HT; iintro HT
    icombine HB Hc HO as HP
    iapply (fill_start c (gOut X) (kf t) hk semF_eq h6 (i6 h (wF (kf t)) ⟨hc⟩) (hs h (wF (kf t)) ⟨hc⟩) (hd h (wF (kf t)) ⟨hc⟩) (ht h (wF (kf t)) ⟨hc⟩) V (gOut_fill X (kf t) hk)) $$ HP
    iintro ⟨HB, Hc⟩
    iapply Hk
    isplitl [HT]; · iexact HT
    isplitl [HB]; · iexact HB
    isplitl [Hc] <;> iassumption
  · rw [dif_neg h]
    unfold pads
    rw [(fill_at t).2 h]
    iintro H Hk
    iapply Hk
    iexact H

/-! ## An earlier block's arrival -/

theorem owait_site (t : Fin 22) (i51 : ∀ _ : k0_cond18 (co t) = 1#1, _) (d : ∀ v, Decidable (k0_chk8 (co t) v)) (i52 : ∀ _ : k0_cond18 (co t) = 1#1, _) (hsq : S1.Squeezes S_)
    (hq : (⟨3, ![1, 2048, 1024]⟩ : Shape).Squeezes ⟨2, ![2048, 1024]⟩)
    (i9 : ∀ (h : k0_cond18 (co t) = 1#1) (a : Fin 3), k0_off54 (co t) a + S1x2048x1024.size a ≤ S3x2048x1024.size a)
    (i6 : ∀ (h : k0_cond18 (co t) = 1#1) (v : Elt F .i32) (w : PLift (k0_chk8 (co t) v)) (a : Fin 2), k0_off53 v a + S2048x1024.size a ≤ S65536x1024.size a)
    (hs : ∀ (h : k0_cond18 (co t) = 1#1) (v : Elt F .i32) (w : PLift (k0_chk8 (co t) v)), _)
    (hd : ∀ (h : k0_cond18 (co t) = 1#1) (v : Elt F .i32) (w : PLift (k0_chk8 (co t) v)), _)
    {α : Type} (K : Prog (TpuEff nD τ sig (Elt F) Λ₀ .tc) α) (Q : α → sProp 𝕄) :
    (iprop(tabs c ∗ outSt c (gOut X) t ∗ (OUT.view.loc (c : Thread nD τ) ↦[oBlk (come t)]{fullShare} gOut X) ∗ owe c) : sProp 𝕄)
      ⊢ iprop((iprop(tabs c ∗ outFree c t ∗ (OUT.view.loc (c : Thread nD τ) ↦[oBlk (come (t + 1))]{fullShare} gOut X) ∗ owe c) -∗ run c K Q)
        -∗ run c (dite (k0_cond18 (co t) = 1#1) (fun h => smemLoad (Memref.whole main_c_1) (Rect.unit (s := S22) (k0_off51 (co t)) S1.size (i51 h)) numel1_S1 rfl
            >>= fun v => Prog.lift (.assume (k0_chk8 (co t) v) (d v))
            >>= fun w => Prog.lift (.waitDma2 ((cc0_scratch3.slice (Rect.unit (s := S3) (k0_off52 (co t)) S1.size (i52 h))).squeeze S_ hsq).sem
                (rWin OBF 2048 (k0_off54 (co t)) (i9 h) hq) (oWin (k0_off53 v) (i6 h v w)) (hs h v w) (hd h v w))
            >>= fun _ : PUnit.{1} => K)
          (fun _ => K)) Q) := by
  unfold outSt
  by_cases h : k0_cond18 (co t) = 1#1
  · rw [dif_pos h]
    obtain ⟨hc, hx⟩ := owait_at t
    obtain ⟨ho, hk, hsm⟩ := hx h
    have h3 := hc.1 h
    obtain ⟨he, hd'⟩ := come_step ⟨t.val, by omega⟩ h3
    simp only at he hd'
    rw [if_neg (by omega), he, ← outFree_mod c (show (t.val - 3) % 3 = t.val % 3 by omega)]
    iintro ⟨HT, HB, HO, Hw⟩ Hk
    iapply (read_O c (t.val - 3) (by omega) ho _ numel1_S1 rfl _ (hP := hk)) $$ HT; iintro HT
    icombine HB Hw as HP
    iapply (out_wait c (gOut X) (t.val - 3) (semO_eq _ _ hsm (i52 h) hsq) (i9 h) (i6 h (wO (t.val - 3)) ⟨hk⟩) hq (hs h (wO (t.val - 3)) ⟨hk⟩) (hd h (wO (t.val - 3)) ⟨hk⟩)) $$ HP
    iintro ⟨HF, HN, Hw⟩
    iapply Hk
    isplitl [HT]; · iexact HT
    isplitl [HF]
    · iexact HF
    isplitl [HN HO]
    · iapply (pointsTo_union hd').2
      isplitl [HN] <;> iassumption
    iexact Hw
  · rw [dif_neg h]
    have h3 : t.val < 3 := by by_contra hh; exact h ((owait_at t).1.2 (by omega))
    rw [if_pos h3]
    have he : come (t + 1) = come t := by unfold come; rw [show t.val + 1 - 3 = t.val - 3 by omega]
    rw [he]
    iintro H Hk
    iapply Hk
    iexact H

/-! ## The step's own rows waited for -/

theorem part8 (V : Outc (F := F)) (t : Fin 22) (a1 a2 a3 a4 a5 a6 a7 a9 a11) (arg0 v60 v65 v33) (Q) :
    (iprop(tabs c ∗ pads c X V t ∗ outSt c (gOut X) t ∗ (OUT.view.loc (c : Thread nD τ) ↦[oBlk (come t)]{fullShare} gOut X) ∗ owe c
        ∗ bat c X t (nT t) (Transfers.sumTo (aI t) (rk t 0))) : sProp 𝕄)
      ⊢ iprop((∀ v95 v96, iprop(tabs c ∗ pads c X V (t + 1) ∗ outFree c t ∗ (OUT.view.loc (c : Thread nD τ) ↦[oBlk (come (t + 1))]{fullShare} gOut X) ∗ owe c
          ∗ bat c X t (nT t) (Transfers.sumTo (aI t) (rk t 3))) -∗ Q ⟨wN t, (own_chk t).2.1, wS t, (own_chk t).2.2.1, v95, v96⟩)
      -∗ run c (k0_part8 (F := F) (co t) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 v60 v65 v33) Q) := by
  simp only [k0_part8_eq_skeleton]
  unfold k0_part8_skel
  dsimp only
  obtain ⟨c0, c1, c2, -, -⟩ := own_cond t
  obtain ⟨s0, s1, s2, -, -⟩ := own_sem t
  obtain ⟨e1, e2, e3, -, -⟩ := own_chk t
  iintro ⟨HT, HP, HS, HO, Hw, HB⟩ Hk
  icombine HT HP as HX
  iapply (fill_site c X V t) $$ HX
  iintro ⟨HT, HP⟩
  icombine HT HS HO Hw as HX
  iapply (owait_site c X t) $$ HX
  iintro ⟨HT, HS, HO, Hw⟩
  iapply (read_N c t.val t.isLt e1 _ numel1_S1 rfl _ (hP := e2)) $$ HT; iintro HT
  iapply (read_S c t.val t.isLt e1 _ numel1_S1 rfl _ (hP := e3)) $$ HT; iintro HT
  icombine HB Hw as HX
  iapply (wait_at c X t.val 0 c0 s0 (by omega) (by omega) 2048 rfl) $$ HX; iintro HX
  iapply (wait_at c X t.val 1 c1 s1 (by omega) (by omega) 1024 rfl) $$ HX; iintro HX
  iapply (wait_at c X t.val 2 c2 s2 (by omega) (by omega) 512 rfl) $$ HX; iintro ⟨HB, Hw⟩
  iapply (ret_site c)
  iapply Hk
  isplitl [HT]; · iexact HT
  isplitl [HP]; · iexact HP
  isplitl [HS]; · iexact HS
  isplitl [HO]; · iexact HO
  isplitl [Hw] <;> iassumption

/-! ## The block computed -/

/-- A step's block computed in its slot of the result ring. -/
def made (t : ℕ) : sProp 𝕄 :=
  iprop(∃ w : Ring (F := F), ⌜∀ (r : Fin 2048) (q : Fin 1024) (s' : Fin 3) (R : Fin 65536), s'.val = t % 3 → R.val = 2048 * obT t + r.val →
      w (Fin.cons s' (Fin.cons r (Fin.cons q (fun x => x.elim0)))) = gOut X (Fin.cons R (Fin.cons q (fun x => x.elim0)))⌝
    ∗ (OBF.view.loc (c : Thread nD τ) ↦[bRows (t % 3) 0 2048]{fullShare} w))

theorem slot_sub (M : Memref sig .tc .vmem S3x2048x1024 .f32) (hM : M = BUF ∨ M = OBF) (s : ℕ) {o : Fin 3 → ℕ} (ho : o = ![s, 0, 0])
    (h : ∀ a, o a + S1x2048x1024.size a ≤ S3x2048x1024.size a) :
    (BUF.access (Rect.unit (s := S3x2048x1024) o S1x2048x1024.size h)).set ⊆ bRows s 0 2048
    ∧ (OBF.access (Rect.unit (s := S3x2048x1024) o S1x2048x1024.size h)).set ⊆ bRows s 0 2048 := by
  subst ho
  constructor
  · have := bWin_set 2048 s 0 h squeezes_S1x2048x1024_S2048x1024
    exact (View.set_reshape _ _).symm.trans this |>.le
  · have := obWin_set 2048 s 0 h squeezes_S1x2048x1024_S2048x1024
    exact (View.set_reshape _ _).symm.trans this |>.le

theorem block_site (t : Fin 22) {cnd : BitVec 1} {o : Fin 3 → ℕ} (ho : o = ![t.val % 3, 0, 0])
    (i : ∀ a, o a + S1x2048x1024.size a ≤ S3x2048x1024.size a) (g : Ring (F := F))
    (hg : ∀ i ∈ bRows (t.val % 3) 0 (ndT t), g i = landed X (stT t) i)
    (pay : Vec F S1x2048x1024 .f32 → Vec F S1x2048x1024 .f32)
    (hp : cnd = 1#1 → ∀ v j, pay v j = if (j 1).val < ndT t then act (v j) else half)
    (l7) (l9) (st) (sm)
    {α : Type} (K : Prog (TpuEff nD τ sig (Elt F) Λ₀ .tc) α) (Q : α → sProp 𝕄) (A : sProp 𝕄)
    (hA : A ⊢ iprop(∃ f : Ring (F := F), OBF.view.loc (c : Thread nD τ) ↦[bRows (t.val % 3) 0 2048]{fullShare} f)) :
    (iprop((BUF.view.loc (c : Thread nD τ) ↦[bRows (t.val % 3) 0 2048]{fullShare} g) ∗ A) : sProp 𝕄)
      ⊢ iprop((iprop((BUF.view.loc (c : Thread nD τ) ↦[bRows (t.val % 3) 0 2048]{fullShare} g)
          ∗ (if cnd = 1#1 then made c X t else A)) -∗ run c K Q)
        -∗ run c (ite (cnd = 1#1) (Prog.lift (.load BUF (Rect.unit (s := S3x2048x1024) o S1x2048x1024.size i).toLoadRect l7)
            >>= fun v => Prog.lift (.load OBF (Rect.unit (s := S3x2048x1024) o S1x2048x1024.size i).toLoadRect l9)
            >>= fun _ => Prog.lift (.store OBF (Rect.unit (s := S3x2048x1024) o S1x2048x1024.size i) (pay v) Finset.univ st sm)
            >>= fun _ : PUnit.{1} => K) K) Q) := by
  obtain ⟨hb, hob⟩ := slot_sub BUF (.inl rfl) (t.val % 3) ho i
  by_cases h : cnd = 1#1
  · rw [if_pos h, if_pos h]
    iintro ⟨Hg, HA⟩ Hk
    ihave HA := hA $$ HA
    icases HA with ⟨%f, Hf⟩
    iapply (wp_load_rect (defs := defs₀ (F := F)) Variants.none (c : Thread nD τ) none Set.univ (m := BUF)
      (r := Rect.unit (s := S3x2048x1024) o S1x2048x1024.size i) hb) $$ Hg; iintro Hg
    iapply (wp_load_rect (defs := defs₀ (F := F)) Variants.none (c : Thread nD τ) none Set.univ (m := OBF)
      (r := Rect.unit (s := S3x2048x1024) o S1x2048x1024.size i) hob) $$ Hf; iintro Hf
    iapply (wp_store (defs := defs₀ (F := F)) Variants.none (c : Thread nD τ) none Set.univ (m := OBF)
      (r := Rect.unit (s := S3x2048x1024) o S1x2048x1024.size i) (Mk := Finset.univ) (by rw [View.setOn_univ]; exact hob)) $$ Hf; iintro Hf
    iapply Hk
    isplitl [Hg]; · iexact Hg
    unfold made
    iexists _
    isplitr
    rotate_left
    · iexact Hf
    · ipureintro
      exact fun r q s' R hs hR => block_at X t.val t.isLt g f o ho i hg _ (hp h _) r q s' R hs hR
  · rw [if_neg h, if_neg h]
    iintro H Hk
    iapply Hk
    iexact H

theorem own_collect (p : ℕ) (hp : p < 25) :
    (iprop(bat c X p (nT p) (Transfers.sumTo (aI p) (rk p (4 + 1)))
        ∗ (∃ g : Ring (F := F), BUF.view.loc (c : Thread nD τ) ↦[bRows (p % 3) (ndT p) (2048 - ndT p)]{fullShare} g)) : sProp 𝕄)
      ⊢ |={Set.univ}=> iprop(semVal ((c : Thread nD τ), .dma (semI p)) 0
        ∗ (∃ g : Ring (F := F), ⌜∀ i ∈ bRows (p % 3) 0 (ndT p), g i = landed X (stT p) i⌝
            ∗ (BUF.view.loc (c : Thread nD τ) ↦[bRows (p % 3) 0 2048]{fullShare} g))
        ∗ (FLT.view.loc (c : Thread nD τ) ↦[fRows (stT p) (ndT p)]{fullShare} X)) := in_collect c X p hp

theorem outFree_open (p : ℕ) : (outFree c p : sProp 𝕄) ⊢ iprop(semVal ((c : Thread nD τ), .dma (semO p)) 0
    ∗ ∃ g : Ring (F := F), OBF.view.loc (c : Thread nD τ) ↦[bRows (p % 3) 0 2048]{fullShare} g) := .rfl
theorem made_some (t : ℕ) (P : Prop) [Decidable P] :
    (if P then made c X t else iprop(∃ f : Ring (F := F), OBF.view.loc (c : Thread nD τ) ↦[bRows (t % 3) 0 2048]{fullShare} f) : sProp 𝕄)
      ⊢ iprop(∃ f : Ring (F := F), OBF.view.loc (c : Thread nD τ) ↦[bRows (t % 3) 0 2048]{fullShare} f) := by
  by_cases h : P
  · rw [if_pos h]
    unfold made
    iintro ⟨%w, -, H⟩
    iexists w
    iexact H
  · rw [if_neg h]
theorem made_once (t : ℕ) (P R : Prop) [Decidable P] [Decidable R] (h : P ∨ R) (A : sProp 𝕄) :
    (if P then made c X t else if R then made c X t else A : sProp 𝕄) ⊢ made c X t := by
  by_cases hp : P
  · rw [if_pos hp]
  · rw [if_neg hp, if_pos (h.resolve_left hp)]

theorem part9 (t : Fin 22) (a1 a2 a3 a4 a5 a6 a7 a9 a11) (arg0) (h10 h9) (v95 v96) (Q) :
    (iprop(tabs c ∗ outFree c t ∗ owe c ∗ bat c X t (nT t) (Transfers.sumTo (aI t) (rk t 3))
        ∗ (∃ g : Ring (F := F), BUF.view.loc (c : Thread nD τ) ↦[bRows (t.val % 3) (ndT t) (2048 - ndT t)]{fullShare} g)) : sProp 𝕄)
      ⊢ iprop((iprop(tabs c ∗ owe c ∗ inFree c t ∗ (FLT.view.loc (c : Thread nD τ) ↦[fRows (stT t) (ndT t)]{fullShare} X)
          ∗ semVal ((c : Thread nD τ), .dma (semO t)) 0 ∗ made c X t) -∗ Q ⟨wO t, (out_at t).2.1⟩)
      -∗ run c (k0_part9 (F := F) (co t) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 (wN t) h10 (wS t) h9 v95 v96) Q) := by
  simp only [k0_part9_eq_skeleton]
  unfold k0_part9_skel
  dsimp only
  obtain ⟨-, -, -, c3, c4⟩ := own_cond t
  obtain ⟨-, -, -, s3, s4⟩ := own_sem t
  obtain ⟨-, -, -, e1, e2, e3, e4⟩ := own_chk t
  obtain ⟨f1, f2⟩ := own_full t
  have hnd : ndT t ≤ 2048 := (pre_all ⟨t.val, by omega⟩).2.1
  iintro ⟨HT, HF, Hw, HB, HG⟩ Hk
  icombine HB Hw as HX
  iapply (wait_at c X t.val 3 c3 s3 (by omega) (by omega) 256 rfl) $$ HX; iintro HX
  iapply (wait_at c X t.val 4 c4 s4 (by omega) (by omega) 128 rfl) $$ HX; iintro ⟨HB, Hw⟩
  icombine HB HG as HX
  imod (own_collect c X t.val (by omega)) $$ HX with ⟨Hs, ⟨%g, %hg, Hg⟩, HX⟩
  iapply (read_len c t.val t.isLt e1 _ numel1_S1 rfl) $$ HT; iintro HT
  ihave HF := (outFree_open c t.val) $$ HF
  icases HF with ⟨HsO, HF⟩
  icombine Hg HF as HY
  iapply (block_site c X t e2 _ g hg k0_pay2 (fun h v j => by
    rw [pay2_at, if_pos]; rw [f1.1 h]; exact (j 1).isLt) _ _ _ _ _ _ _ .rfl) $$ HY
  iintro ⟨Hg, HF⟩
  icombine Hg HF as HY
  iapply (block_site c X t e3 _ g hg (k0_pay3 (wN t)) (fun h v j => by
    rw [e4, pay3_at _ hnd]) _ _ _ _ _ _ _ (made_some c X t.val _)) $$ HY
  iintro ⟨Hg, HF⟩
  iapply (read_O c t.val t.isLt (out_at t).1 _ numel1_S1 rfl _ (hP := (out_at t).2.1)) $$ HT; iintro HT
  iapply (ret_site c)
  iapply Hk
  ihave HF := (made_once c X t.val _ _ ((em (ndT t = 2048)).symm.imp f2.2 f1.2) _) $$ HF
  isplitl [HT]; · iexact HT
  isplitl [Hw]; · iexact Hw
  isplitl [Hs Hg]
  · unfold inFree
    isplitl [Hs]; · iexact Hs
    iexists g; iexact Hg
  isplitl [HX]; · iexact HX
  isplitl [HsO] <;> iassumption

/-! ## The last step's waits -/

theorem part4 (a1 a2 a3 a4 a5 a6 a7 a9 a11) (arg0) (h26) (Q) :
    (iprop(tabs c ∗ outBat c (gOut X) 19 1 0 ∗ outBat c (gOut X) 20 1 0 ∗ outBat c (gOut X) 21 1 0 ∗ owe c) : sProp 𝕄)
      ⊢ iprop((iprop(tabs c ∗ (outFree c 19 ∗ (OUT.view.loc (c : Thread nD τ) ↦[oBlk {obT 19}]{fullShare} gOut X))
          ∗ (outFree c 20 ∗ (OUT.view.loc (c : Thread nD τ) ↦[oBlk {obT 20}]{fullShare} gOut X))
          ∗ (outFree c 21 ∗ (OUT.view.loc (c : Thread nD τ) ↦[oBlk {obT 21}]{fullShare} gOut X)) ∗ owe c) -∗ Q ⟨wF 21, last_fill.1.2⟩)
      -∗ run c (k0_part4 (F := F) (co 21) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 h26) Q) := by
  simp only [k0_part4_eq_skeleton]
  unfold k0_part4_skel
  dsimp only
  obtain ⟨⟨p1, p2, p3⟩, ⟨p4, p5, p6⟩, ⟨p7, p8, p9⟩⟩ := last_out
  iintro ⟨HT, H1, H2, H3, Hw⟩ Hk
  iapply (read_O c 19 (by omega) p1 _ numel1_S1 rfl _ (hP := p2)) $$ HT; iintro HT
  icombine H1 Hw as HX
  iapply (out_wait c (gOut X) 19 (semO_eq _ _ p3 _ _)) $$ HX; iintro ⟨H1, H1', Hw⟩
  iapply (read_O c 20 (by omega) p4 _ numel1_S1 rfl _ (hP := p5)) $$ HT; iintro HT
  icombine H2 Hw as HX
  iapply (out_wait c (gOut X) 20 (semO_eq _ _ p6 _ _)) $$ HX; iintro ⟨H2, H2', Hw⟩
  iapply (read_O c 21 (by omega) p7 _ numel1_S1 rfl _ (hP := p8)) $$ HT; iintro HT
  icombine H3 Hw as HX
  iapply (out_wait c (gOut X) 21 (semO_eq _ _ p9 _ _)) $$ HX; iintro ⟨H3, H3', Hw⟩
  iapply (read_F c 21 (by omega) last_fill.1.1 _ numel1_S1 rfl _ (hP := last_fill.1.2)) $$ HT; iintro HT
  iapply (ret_site c)
  iapply Hk
  isplitl [HT]; · iexact HT
  isplitl [H1 H1']; · isplitl [H1] <;> iassumption
  isplitl [H2 H2']; · isplitl [H2] <;> iassumption
  isplitl [H3 H3']; · isplitl [H3] <;> iassumption
  iexact Hw

theorem part5 (a1 a2 a3 a4 a5 a6 a7 a9 a11) (arg0) (h26) (h15) (Q) :
    (iprop(tabs c ∗ fillBat c (gOut X) 10 (0 * crO) ∗ owe c) : sProp 𝕄)
      ⊢ iprop((∀ v205, iprop(tabs c ∗ fillBat c (gOut X) 10 (7 * crO) ∗ owe c) -∗ Q v205)
      -∗ run c (k0_part5 (F := F) (co 21) (Memref.whole main_c) a1 (Memref.whole main_c_0) a2
      (Memref.whole main_c_1) a3 (Memref.whole main_c_2) a4 FLT a5 OUT a6 BUF a7 cc0_scratch1 OBF a9 cc0_scratch3
      CBF a11 cc0_scratch5 arg0 h26 (wF 21) h15) Q) := by
  simp only [k0_part5_eq_skeleton]
  unfold k0_part5_skel
  dsimp only
  obtain ⟨-, ⟨p1, q1⟩, ⟨p2, q2⟩, ⟨p3, q3⟩, ⟨p4, q4⟩, ⟨p5, q5⟩, ⟨p6, q6⟩, -⟩ := last_fill
  iintro ⟨HT, HX⟩ Hk
  iapply (fill_wait c (gOut X) 0 (by omega) semF_eq) $$ HX; iintro HX
  iapply (read_F c 21 (by omega) p1 _ numel1_S1 rfl _ (hP := q1)) $$ HT; iintro HT
  iapply (fill_wait c (gOut X) 1 (by omega) semF_eq) $$ HX; iintro HX
  iapply (read_F c 21 (by omega) p2 _ numel1_S1 rfl _ (hP := q2)) $$ HT; iintro HT
  iapply (fill_wait c (gOut X) 2 (by omega) semF_eq) $$ HX; iintro HX
  iapply (read_F c 21 (by omega) p3 _ numel1_S1 rfl _ (hP := q3)) $$ HT; iintro HT
  iapply (fill_wait c (gOut X) 3 (by omega) semF_eq) $$ HX; iintro HX
  iapply (read_F c 21 (by omega) p4 _ numel1_S1 rfl _ (hP := q4)) $$ HT; iintro HT
  iapply (fill_wait c (gOut X) 4 (by omega) semF_eq) $$ HX; iintro HX
  iapply (read_F c 21 (by omega) p5 _ numel1_S1 rfl _ (hP := q5)) $$ HT; iintro HT
  iapply (fill_wait c (gOut X) 5 (by omega) semF_eq) $$ HX; iintro HX
  iapply (read_F c 21 (by omega) p6 _ numel1_S1 rfl _ (hP := q6)) $$ HT; iintro HT
  iapply (fill_wait c (gOut X) 6 (by omega) semF_eq) $$ HX; iintro HX
  iapply (ret_site c)
  iapply Hk
  isplitl [HT]; · iexact HT
  iexact HX

end Cert.KernelIdeal.Hand

end
-- ==== Proof.Body.lean ====
/-
  The body at a grid step: what is held before each step, and the body taking it to the next.
-/
module

public import proofs.«01_k».proof.Proof.Flow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (X : Flat (F := F))

/-! ## What is held before a step -/

/-- The flat rows not lent to a transfer: those of the steps before `t` and those from step `t + 2` on. -/
def home (t : ℕ) : sProp 𝕄 :=
  iprop((FLT.view.loc (c : Thread nD τ) ↦[fRows 0 (stT t)]{fullShare} X)
    ∗ (FLT.view.loc (c : Thread nD τ) ↦[fRows (stT (t + 2)) (32768 - stT (t + 2))]{fullShare} X))

/-- Before step `t`. -/
def mid (V : Outc (F := F)) (t : ℕ) : sProp 𝕄 :=
  iprop(ini c X t ∗ inFree c (t + 2) ∗ home c X t ∗ outSt c (gOut X) t ∗ outSt c (gOut X) (t + 1) ∗ outSt c (gOut X) (t + 2)
    ∗ (fillBat c (gOut X) (kf t) 0 ∗ (OUT.view.loc (c : Thread nD τ) ↦[oBlk (toFill (kf t))]{fullShare} V))
    ∗ (OUT.view.loc (c : Thread nD τ) ↦[oBlk (toSend t)]{fullShare} V)
    ∗ (OUT.view.loc (c : Thread nD τ) ↦[oBlk (come t)]{fullShare} gOut X))

/-- After the last step: nothing in flight, and the result written. -/
def fin : sProp 𝕄 :=
  iprop(inFree c 0 ∗ inFree c 1 ∗ inFree c 2 ∗ outFree c 0 ∗ outFree c 1 ∗ outFree c 2
    ∗ (semVal ((c : Thread nD τ), .dma semF) 0 ∗ (CBF.view.loc (c : Thread nD τ) ↦[Finset.univ]{fullShare} (halfBlk (F := F))))
    ∗ (FLT.view.loc (c : Thread nD τ) ↦[Finset.univ]{fullShare} X)
    ∗ (OUT.view.loc (c : Thread nD τ) ↦[Finset.univ]{fullShare} gOut X))

/-- After the body's send at step `t`. -/
def aft (V : Outc (F := F)) (t : ℕ) : sProp 𝕄 :=
  iprop(inSt c X (t + 1) (nT (t + 1)) ∗ inSt c X (t + 2) (nT (t + 2)) ∗ inFree c (t + 3) ∗ home c X (t + 1)
    ∗ outSt c (gOut X) (t + 1) ∗ outSt c (gOut X) (t + 2) ∗ outBat c (gOut X) t 1 0
    ∗ pads c X V (t + 1)
    ∗ (OUT.view.loc (c : Thread nD τ) ↦[oBlk (toSend (t + 1))]{fullShare} V)
    ∗ (OUT.view.loc (c : Thread nD τ) ↦[oBlk (come (t + 1))]{fullShare} gOut X))

theorem aft_mid (V : Outc (F := F)) (t : ℕ) : (aft c X V t : sProp 𝕄) ⊢ mid c X V (t + 1) := by
  unfold aft mid ini pads
  rw [if_neg (Nat.succ_ne_zero t), show outSt (F := F) c (gOut X) (t + 1 + 2) = outBat c (gOut X) t 1 0 from by
    unfold outSt; rw [if_neg (by omega)]; rfl]
  iintro ⟨H1, H2, H3, H4, H5, H6, H7, ⟨H8, H9, H10⟩, H11, H12⟩
  isplitl [H1 H2 H9]
  · isplitl [H1]; · iexact H1
    isplitl [H2] <;> iassumption
  isplitl [H3]; · iexact H3
  isplitl [H4]; · iexact H4
  isplitl [H5]; · iexact H5
  isplitl [H6]; · iexact H6
  isplitl [H7]; · iexact H7
  isplitl [H8 H10]; · isplitl [H8] <;> iassumption
  isplitl [H11] <;> iassumption

/-! ## Small steps between the states -/

theorem inFree_mod {p q : ℕ} (h : p % 3 = q % 3) : inFree (F := F) c p = inFree c q := by
  unfold inFree semI; simp only [h]

theorem inSt_full (p : ℕ) (hp : p < 25) : (inSt c X p (nT p) : sProp 𝕄)
    ⊢ iprop(bat c X p (nT p) (Transfers.sumTo (aI p) (rk p 0))
      ∗ ∃ g : Ring (F := F), BUF.view.loc (c : Thread nD τ) ↦[bRows (p % 3) (ndT p) (2048 - ndT p)]{fullShare} g) := by
  have h : pre p (nT p) = ndT p := (pre_all ⟨p, hp⟩).1
  unfold inSt
  rw [h]
  iintro ⟨HB, Hg, -⟩
  isplitl [HB]; · iexact HB
  iexact Hg

theorem in_open (p : ℕ) (hp : p < 25) :
    (iprop(inFree (F := F) c p ∗ (FLT.view.loc (c : Thread nD τ) ↦[fRows (stT p) (ndT p)]{fullShare} X)) : sProp 𝕄)
      ⊢ |={Set.univ}=> inSt c X p (rk p 0) := in_alloc c X p hp

/-- A step with no rows has nothing in flight. -/
theorem inSt_empty (p : ℕ) (hp : p < 25) (h0 : nT p = 0) : (inSt c X p (nT p) : sProp 𝕄) ⊢ |={Set.univ}=> inFree c p := by
  have hc := in_collect c X p hp
  have hf := inSt_full c X p hp
  rw [show Transfers.sumTo (aI p) (nT p) = Transfers.sumTo (aI p) (rk p 0) from congrArg _ (show nT p = rk p 0 from h0)] at hc
  iintro H
  ihave H := hf $$ H
  imod hc $$ H with ⟨Hs, ⟨%g, -, Hg⟩, -⟩
  imodintro
  unfold inFree
  isplitl [Hs]; · iexact Hs
  iexists g; iexact Hg

theorem home_take (t : Fin 22) : (home c X t : sProp 𝕄)
    ⊢ iprop((FLT.view.loc (c : Thread nD τ) ↦[fRows (stT (t + 2)) (ndT (t + 2))]{fullShare} X)
      ∗ (FLT.view.loc (c : Thread nD τ) ↦[fRows 0 (stT t)]{fullShare} X)
      ∗ (FLT.view.loc (c : Thread nD τ) ↦[fRows (stT (t + 1 + 2)) (32768 - stT (t + 1 + 2))]{fullShare} X)) := by
  obtain ⟨-, -, h1, h2⟩ := pre_all ⟨t.val + 2, by omega⟩
  simp only at h1 h2
  have h3 : stT (t + 1 + 2) = stT (t + 2) + ndT (t + 2) := h1.symm
  unfold home
  rw [h3, fRows_split (stT (t + 2)) (32768 - stT (t + 2)) (ndT (t + 2)) (by omega),
    show 32768 - stT (t + 2) - ndT (t + 2) = 32768 - (stT (t + 2) + ndT (t + 2)) by omega]
  iintro ⟨H, H'⟩
  ihave H' := (pointsTo_union (fRows_disj ..)).1 $$ H'
  icases H' with ⟨H1, H2⟩
  isplitl [H1]; · iexact H1
  isplitl [H] <;> iassumption

theorem home_give (t : Fin 22) :
    (iprop((FLT.view.loc (c : Thread nD τ) ↦[fRows 0 (stT t)]{fullShare} X)
      ∗ (FLT.view.loc (c : Thread nD τ) ↦[fRows (stT t) (ndT t)]{fullShare} X)
      ∗ (FLT.view.loc (c : Thread nD τ) ↦[fRows (stT (t + 1 + 2)) (32768 - stT (t + 1 + 2))]{fullShare} X)) : sProp 𝕄)
    ⊢ home c X (t + 1) := by
  obtain ⟨-, -, h1, h2⟩ := pre_all ⟨t.val, by omega⟩
  simp only at h1 h2
  unfold home
  rw [← h1, fRows_split 0 (stT t + ndT t) (stT t) (by omega), Nat.zero_add, Nat.add_sub_cancel_left]
  iintro ⟨H, H1, H2⟩
  isplitr [H2]
  · iapply (pointsTo_union (by simpa using fRows_disj 0 (stT t) (ndT t))).2
    isplitl [H] <;> iassumption
  iexact H2

/-! ## The body -/

theorem take_then {α : Type} {cnd : Prop} [Decidable cnd] (h : cnd) (A : cnd → Prog (TpuEff nD τ sig (Elt F) Λ₀ .tc) α)
    (B : ¬ cnd → Prog (TpuEff nD τ sig (Elt F) Λ₀ .tc) α) (Q : α → sProp 𝕄) : run c (A h) Q ⊢ run c (dite cnd A B) Q := by
  rw [dif_pos h]
theorem take_else {α : Type} {cnd : Prop} [Decidable cnd] (h : ¬ cnd) (A : cnd → Prog (TpuEff nD τ sig (Elt F) Λ₀ .tc) α)
    (B : ¬ cnd → Prog (TpuEff nD τ sig (Elt F) Λ₀ .tc) α) (Q : α → sProp 𝕄) : run c (B h) Q ⊢ run c (dite cnd A B) Q := by
  rw [dif_neg h]

theorem rdy_open (t : ℕ) : (rdy c X t : sProp 𝕄) ⊢ iprop(inSt c X t (nT t) ∗ inSt c X (t + 1) (nT (t + 1))
    ∗ (CBF.view.loc (c : Thread nD τ) ↦[Finset.univ]{shr (kf t)} (halfBlk (F := F)))) := .rfl

/-- What the body leaves after step `t`. -/
def nxt (V : Outc (F := F)) (t : ℕ) : sProp 𝕄 := if t = 21 then fin c X else mid c X V (t + 1)

theorem nxt_mid (V : Outc (F := F)) (t : Fin 22) (h : t.val ≠ 21) : (aft c X V t : sProp 𝕄) ⊢ nxt c X V t := by
  unfold nxt; rw [if_neg h]; exact aft_mid c X V t

theorem nxt_fin (V : Outc (F := F)) : (fin c X : sProp 𝕄) ⊢ nxt c X V (21 : Fin 22).val := .rfl

theorem made_open (t : ℕ) : (made c X t : sProp 𝕄) ⊢ iprop(∃ w : Ring (F := F),
    ⌜∀ (r : Fin 2048) (q : Fin 1024) (s' : Fin 3) (R : Fin 65536), s'.val = t % 3 → R.val = 2048 * obT t + r.val →
      w (Fin.cons s' (Fin.cons r (Fin.cons q (fun x => x.elim0)))) = gOut X (Fin.cons R (Fin.cons q (fun x => x.elim0)))⌝
    ∗ (OBF.view.loc (c : Thread nD τ) ↦[bRows (t % 3) 0 2048]{fullShare} w)) := .rfl

theorem send_take (V : Outc (F := F)) (t : Fin 22) : (OUT.view.loc (c : Thread nD τ) ↦[oBlk (toSend t)]{fullShare} V : sProp 𝕄)
    ⊢ iprop((OUT.view.loc (c : Thread nD τ) ↦[oBlk {obT t}]{fullShare} V)
      ∗ (OUT.view.loc (c : Thread nD τ) ↦[oBlk (toSend (t + 1))]{fullShare} V)) := by
  rw [(toSend_step t).1]; exact (pointsTo_union (toSend_step t).2).1

theorem outSt_late (G : Outc (F := F)) (q : ℕ) (h : 3 ≤ q) : outSt c G q = outBat c G (q - 3) 1 0 := by
  unfold outSt; rw [if_neg (by omega)]

theorem all_blocks (G : Outc (F := F)) :
    (iprop((OUT.view.loc (c : Thread nD τ) ↦[oBlk (come 22)]{fullShare} G)
      ∗ (OUT.view.loc (c : Thread nD τ) ↦[oBlk {obT 19}]{fullShare} G) ∗ (OUT.view.loc (c : Thread nD τ) ↦[oBlk {obT 20}]{fullShare} G)
      ∗ (OUT.view.loc (c : Thread nD τ) ↦[oBlk {obT 21}]{fullShare} G)
      ∗ (OUT.view.loc (c : Thread nD τ) ↦[oBlk ((Finset.range 10).image flT)]{fullShare} G)) : sProp 𝕄)
    ⊢ (OUT.view.loc (c : Thread nD τ) ↦[Finset.univ]{fullShare} G) := by
  have hd : Disjoint (oBlk (come 25)) (oBlk ((Finset.range 10).image flT)) := oBlk_disj _ _ (by decide +kernel)
  have hu : (Finset.univ : Finset S65536x1024.Idx) = oBlk (come 25) ∪ oBlk ((Finset.range 10).image flT) := by
    ext i
    have hi : (i 0).val < 65536 := (i 0).isLt
    simp only [Finset.mem_univ, Finset.mem_union, mem_oBlk, true_iff]
    exact (by decide +kernel : ∀ b : Fin 32, b.val ∈ come 25 ∨ b.val ∈ (Finset.range 10).image flT) ⟨(i 0).val / 2048, by omega⟩
  have h22 := come_step ⟨22, by omega⟩ (by show 3 ≤ 22; omega)
  have h23 := come_step ⟨23, by omega⟩ (by show 3 ≤ 23; omega)
  have h24 := come_step ⟨24, by omega⟩ (by show 3 ≤ 24; omega)
  rw [hu]
  iintro ⟨H, H19, H20, H21, HF⟩
  iapply (pointsTo_union hd).2
  isplitr [HF]
  · rw [h24.1]
    iapply (pointsTo_union h24.2).2
    isplitl [H21]; · iexact H21
    rw [h23.1]
    iapply (pointsTo_union h23.2).2
    isplitl [H20]; · iexact H20
    rw [h22.1]
    iapply (pointsTo_union h22.2).2
    isplitl [H19] <;> iassumption
  iexact HF

/-- The last step's state, its rings' slots named. -/
theorem aft_last (V : Outc (F := F)) : (aft c X V 21 : sProp 𝕄)
    ⊢ iprop(inSt c X 22 (nT 22) ∗ inSt c X 23 (nT 23) ∗ inFree c 24 ∗ (FLT.view.loc (c : Thread nD τ) ↦[Finset.univ]{fullShare} X)
      ∗ outBat c (gOut X) 19 1 0 ∗ outBat c (gOut X) 20 1 0 ∗ outBat c (gOut X) 21 1 0
      ∗ fillBat c (gOut X) 10 (0 * crO) ∗ (CBF.view.loc (c : Thread nD τ) ↦[Finset.univ]{shr 10} (halfBlk (F := F)))
      ∗ (OUT.view.loc (c : Thread nD τ) ↦[oBlk (come 22)]{fullShare} gOut X)) := by
  unfold aft home pads
  rw [show fRows 0 (stT (21 + 1)) = Finset.univ from by
    ext i; simp only [mem_fRows, Finset.mem_univ, iff_true]; exact ⟨Nat.zero_le _, by have := (i 0).isLt; exact this⟩]
  rw [outSt_late c _ (21 + 1) (by omega), outSt_late c _ (21 + 2) (by omega), show kf (21 + 1) = 10 from rfl]
  iintro ⟨H1, H2, H3, ⟨H4, -⟩, H5, H6, H7, ⟨H8, H9, -⟩, -, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [Nat.zero_mul]; iexact H8
  isplitl [H9] <;> iassumption

theorem body (V : Outc (F := F)) (t : Fin 22) (a1 a2 a3 a4 a5 a6 a7 a9 a11) :
    (iprop(tabs c ∗ mid c X V t ∗ owe c) : sProp 𝕄)
      ⊢ run c (cc0__body (F := F) (co t) (Memref.whole main_c) a1 (Memref.whole main_c_0) a2
      (Memref.whole main_c_1) a3 (Memref.whole main_c_2) a4 FLT a5 OUT a6 BUF a7 cc0_scratch1 OBF a9 cc0_scratch3
      CBF a11 cc0_scratch5) (fun _ => iprop(tabs c ∗ nxt c X V t ∗ owe c)) := by
  simp only [cc0__body_eq_skeleton]
  unfold cc0__body_skel
  dsimp only
  unfold mid
  iintro ⟨HT, ⟨HI, HF, HH, HS0, HS1, HS2, ⟨HB, HL⟩, HV, HG⟩, Hw⟩
  ihave HH := (home_take c X t) $$ HH
  icases HH with ⟨HX, HA, HZ⟩
  icombine HF HX as HF
  imod (in_open c X (t.val + 2) (by omega)) $$ HF with H2
  icombine HT HI H2 as HX
  iapply (bind_site c)
  iapply (part6 c X t) $$ HX
  iintro %arg0 %v3 %v27 %v31 ⟨HT, HI, H2⟩
  iapply (bind_site c)
  iapply (part7 c X t) $$ H2
  iintro %v60 %v65 %v33 H2
  ihave HI := (rdy_open c X t) $$ HI
  icases HI with ⟨H0, H1, HC⟩
  ihave H0 := (inSt_full c X t.val (by omega)) $$ H0
  icases H0 with ⟨H0, Hr⟩
  iapply (bind_site c)
  iapply (part8 c X V t) $$ [HT HB HC HL HS0 HG Hw H0]
  · unfold pads
    isplitl [HT]; · iexact HT
    isplitl [HB HC HL]
    · isplitl [HB]; · iexact HB
      isplitl [HC] <;> iassumption
    isplitl [HS0]; · iexact HS0
    isplitl [HG]; · iexact HG
    isplitl [Hw] <;> iassumption
  iintro %v95 %v96 ⟨HT, HP, HS0, HG, Hw, H0⟩
  iapply (bind_site c)
  iapply (part9 c X t) $$ [HT HS0 Hw H0 Hr]
  · isplitl [HT]; · iexact HT
    isplitl [HS0]; · iexact HS0
    isplitl [Hw]; · iexact Hw
    isplitl [H0] <;> iassumption
  iintro ⟨HT, Hw, HF, HX, Hs, HM⟩
  ihave HM := (made_open c X t.val) $$ HM
  icases HM with ⟨%w, %hw, HM⟩
  ihave HV := (send_take c V t) $$ HV
  icases HV with ⟨HO, HV⟩
  icombine Hs HM HO as HY
  iapply (out_start c (gOut X) t.val (semO_eq _ _ (out_at t).2.2.1 _ _) (out_at t).2.2.2.2 (out_at t).2.2.2.1 (w := w) (g := V) (hG := hw)) $$ HY
  iintro HO
  iapply (bind_site c)
  iapply (ret_site c)
  icombine HA HX HZ as HH
  ihave HH := (home_give c X t) $$ HH
  ihave HY : aft c X V t $$ [H1 H2 HF HH HS1 HS2 HO HP HV HG]
  · unfold aft
    rw [inFree_mod c (show (t.val + 3) % 3 = t.val % 3 by omega)]
    isplitl [H1]; · iexact H1
    isplitl [H2]; · iexact H2
    isplitl [HF]; · iexact HF
    isplitl [HH]; · iexact HH
    isplitl [HS1]; · iexact HS1
    isplitl [HS2]; · iexact HS2
    isplitl [HO]; · iexact HO
    isplitl [HP]; · iexact HP
    isplitl [HV] <;> iassumption
  by_cases h26 : k0_cond26 (co t) = 1#1
  · obtain rfl : t = 21 := Fin.ext ((last_cond t).1 h26)
    iapply (take_then c h26)
    ihave HY := (show (aft c X V (21 : Fin 22).val : sProp 𝕄) ⊢ aft c X V 21 from .rfl) $$ HY
    ihave HY := (aft_last c X V) $$ HY
    icases HY with ⟨H1, H2, HF, HX, HS0, HS1, HS2, HB, HC, HG⟩
    icombine HT HS0 HS1 HS2 Hw as HY
    iapply (bind_site c)
    iapply (part4 c X) $$ HY
    iintro ⟨HT, ⟨HS0, HO0⟩, ⟨HS1, HO1⟩, ⟨HS2, HO2⟩, Hw⟩
    icombine HT HB Hw as HY
    iapply (bind_site c)
    iapply (part5 c X) $$ HY
    iintro %v205 ⟨HT, HY⟩
    iapply (read_F c 21 (by omega) last_fill.2.2.2.2.2.2.2.1.1 _ numel1_S1 rfl _ (hP := last_fill.2.2.2.2.2.2.2.1.2)) $$ HT; iintro HT
    iapply (fill_wait c (gOut X) 7 (by omega) semF_eq) $$ HY; iintro HY
    iapply (read_F c 21 (by omega) last_fill.2.2.2.2.2.2.2.2.1.1 _ numel1_S1 rfl _ (hP := last_fill.2.2.2.2.2.2.2.2.1.2)) $$ HT; iintro HT
    iapply (fill_wait c (gOut X) 8 (by omega) semF_eq) $$ HY; iintro HY
    iapply (read_F c 21 (by omega) last_fill.2.2.2.2.2.2.2.2.2.1 _ numel1_S1 rfl _ (hP := last_fill.2.2.2.2.2.2.2.2.2.2)) $$ HT; iintro HT
    iapply (fill_wait c (gOut X) 9 (by omega) semF_eq) $$ HY; iintro ⟨HB, Hw⟩
    icombine HB HC as HB
    imod (fill_collect c (gOut X)) $$ HB with ⟨Hs, HL, HC⟩
    imod (inSt_empty c X 22 (by omega) (by decide)) $$ H1 with H1
    imod (inSt_empty c X 23 (by omega) (by decide)) $$ H2 with H2
    iapply (ret_site c)
    isplitl [HT]; · iexact HT
    isplitr [Hw]
    · ihave HY : fin c X $$ [HF H1 H2 HS0 HS1 HS2 HO0 HO1 HO2 HX HG HL HC Hs]
      · unfold fin
        rw [inFree_mod c (show 0 % 3 = 24 % 3 by omega), inFree_mod c (show 1 % 3 = 22 % 3 by omega), inFree_mod c (show 2 % 3 = 23 % 3 by omega),
          outFree_mod c (show 0 % 3 = 21 % 3 by omega), outFree_mod c (show 1 % 3 = 19 % 3 by omega), outFree_mod c (show 2 % 3 = 20 % 3 by omega)]
        isplitl [HF]; · iexact HF
        isplitl [H1]; · iexact H1
        isplitl [H2]; · iexact H2
        isplitl [HS2]; · iexact HS2
        isplitl [HS0]; · iexact HS0
        isplitl [HS1]; · iexact HS1
        isplitl [Hs HC]; · isplitl [Hs] <;> iassumption
        isplitl [HX]; · iexact HX
        iapply (all_blocks c (gOut X))
        isplitl [HG]; · iexact HG
        isplitl [HO0]; · iexact HO0
        isplitl [HO1]; · iexact HO1
        isplitl [HO2] <;> iassumption
      iapply (nxt_fin c X V)
      iexact HY
    iexact Hw
  · iapply (take_else c h26)
    iapply (ret_site c)
    isplitl [HT]; · iexact HT
    isplitl [HY]
    · iapply (nxt_mid c X V t (fun h => h26 ((last_cond t).2 h)))
      iexact HY
    iexact Hw

end Cert.KernelIdeal.Hand

end
-- ==== Proof.Entry.lean ====
/-
  Into the first step and out of the last: what the launch hands the kernel, split into what the first step expects, and what
  the last step leaves, put together again.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (X : Flat (F := F))

/-! ## A ring and its three slots -/

theorem slots_disj (s s' a n a' n' : ℕ) (h : s ≠ s') : Disjoint (bRows s a n) (bRows s' a' n') := by
  rw [Finset.disjoint_left]; intro i; simp only [mem_bRows]; omega
theorem slots_univ : (Finset.univ : Finset S3x2048x1024.Idx) = bRows 0 0 2048 ∪ (bRows 1 0 2048 ∪ bRows 2 0 2048) := by
  ext i
  have h0 : (i 0).val < 3 := (i 0).isLt
  have h1 : (i 1).val < 2048 := (i 1).isLt
  simp only [Finset.mem_univ, Finset.mem_union, mem_bRows, true_iff]
  omega
theorem slots12_disj : Disjoint (bRows 0 0 2048) (bRows 1 0 2048 ∪ bRows 2 0 2048) :=
  Finset.disjoint_union_right.mpr ⟨slots_disj _ _ _ _ _ _ (by decide), slots_disj _ _ _ _ _ _ (by decide)⟩

theorem buf_split (g : Ring (F := F)) : (BUF.view.loc (c : Thread nD τ) ↦[Finset.univ]{fullShare} g : sProp 𝕄)
    ⊢ iprop((∃ g : Ring (F := F), BUF.view.loc (c : Thread nD τ) ↦[bRows 0 0 2048]{fullShare} g)
      ∗ (∃ g : Ring (F := F), BUF.view.loc (c : Thread nD τ) ↦[bRows 1 0 2048]{fullShare} g)
      ∗ ∃ g : Ring (F := F), BUF.view.loc (c : Thread nD τ) ↦[bRows 2 0 2048]{fullShare} g) := by
  rw [slots_univ]
  iintro H
  ihave H := (pointsTo_union slots12_disj).1 $$ H
  icases H with ⟨H0, H⟩
  ihave H := (pointsTo_union (slots_disj 1 2 0 2048 0 2048 (by decide))).1 $$ H
  icases H with ⟨H1, H2⟩
  isplitl [H0]; · iexists g; iexact H0
  isplitl [H1]; · iexists g; iexact H1
  iexists g; iexact H2
theorem obf_split (g : Ring (F := F)) : (OBF.view.loc (c : Thread nD τ) ↦[Finset.univ]{fullShare} g : sProp 𝕄)
    ⊢ iprop((∃ g : Ring (F := F), OBF.view.loc (c : Thread nD τ) ↦[bRows 0 0 2048]{fullShare} g)
      ∗ (∃ g : Ring (F := F), OBF.view.loc (c : Thread nD τ) ↦[bRows 1 0 2048]{fullShare} g)
      ∗ ∃ g : Ring (F := F), OBF.view.loc (c : Thread nD τ) ↦[bRows 2 0 2048]{fullShare} g) := by
  rw [slots_univ]
  iintro H
  ihave H := (pointsTo_union slots12_disj).1 $$ H
  icases H with ⟨H0, H⟩
  ihave H := (pointsTo_union (slots_disj 1 2 0 2048 0 2048 (by decide))).1 $$ H
  icases H with ⟨H1, H2⟩
  isplitl [H0]; · iexists g; iexact H0
  isplitl [H1]; · iexists g; iexact H1
  iexists g; iexact H2

theorem buf_join : (iprop((∃ g : Ring (F := F), BUF.view.loc (c : Thread nD τ) ↦[bRows 0 0 2048]{fullShare} g)
      ∗ (∃ g : Ring (F := F), BUF.view.loc (c : Thread nD τ) ↦[bRows 1 0 2048]{fullShare} g)
      ∗ ∃ g : Ring (F := F), BUF.view.loc (c : Thread nD τ) ↦[bRows 2 0 2048]{fullShare} g) : sProp 𝕄)
    ⊢ iprop(∃ g : Ring (F := F), BUF.view.loc (c : Thread nD τ) ↦[Finset.univ]{fullShare} g) := by
  rw [slots_univ]
  iintro ⟨⟨%g0, H0⟩, ⟨%g1, H1⟩, ⟨%g2, H2⟩⟩
  icombine H1 H2 as H
  ihave H := (pointsTo_join (slots_disj 1 2 0 2048 0 2048 (by decide))) $$ H
  icombine H0 H as H
  ihave H := (pointsTo_join slots12_disj) $$ H
  iexists _; iexact H
theorem obf_join : (iprop((∃ g : Ring (F := F), OBF.view.loc (c : Thread nD τ) ↦[bRows 0 0 2048]{fullShare} g)
      ∗ (∃ g : Ring (F := F), OBF.view.loc (c : Thread nD τ) ↦[bRows 1 0 2048]{fullShare} g)
      ∗ ∃ g : Ring (F := F), OBF.view.loc (c : Thread nD τ) ↦[bRows 2 0 2048]{fullShare} g) : sProp 𝕄)
    ⊢ iprop(∃ g : Ring (F := F), OBF.view.loc (c : Thread nD τ) ↦[Finset.univ]{fullShare} g) := by
  rw [slots_univ]
  iintro ⟨⟨%g0, H0⟩, ⟨%g1, H1⟩, ⟨%g2, H2⟩⟩
  icombine H1 H2 as H
  ihave H := (pointsTo_join (slots_disj 1 2 0 2048 0 2048 (by decide))) $$ H
  icombine H0 H as H
  ihave H := (pointsTo_join slots12_disj) $$ H
  iexists _; iexact H

/-! ## The flat input and the result at the start -/

theorem flt_split : (FLT.view.loc (c : Thread nD τ) ↦[Finset.univ]{fullShare} X : sProp 𝕄)
    ⊢ iprop((FLT.view.loc (c : Thread nD τ) ↦[fRows (stT 0) (ndT 0)]{fullShare} X)
      ∗ (FLT.view.loc (c : Thread nD τ) ↦[fRows (stT 1) (ndT 1)]{fullShare} X) ∗ home c X 0) := by
  have hu : (Finset.univ : Finset S32768x1024.Idx) = fRows 0 32768 := by
    ext i
    have h0 : (i 0).val < 32768 := (i 0).isLt
    simp only [Finset.mem_univ, mem_fRows, true_iff]; omega
  unfold home
  rw [hu, show stT 0 = 0 from rfl, show ndT 0 = 2048 from rfl, show stT 1 = 2048 from rfl, show ndT 1 = 2048 from rfl,
    show stT (0 + 2) = 4096 from rfl, fRows_zero, fRows_split 0 32768 2048 (by omega), fRows_split (0 + 2048) (32768 - 2048) 2048 (by omega)]
  iintro H
  ihave H := (pointsTo_union (by
    rw [← fRows_split (0 + 2048) (32768 - 2048) 2048 (by omega)]; exact fRows_disj ..)).1 $$ H
  icases H with ⟨H0, H⟩
  ihave H := (pointsTo_union (fRows_disj ..)).1 $$ H
  icases H with ⟨H1, H⟩
  isplitl [H0]; · iexact H0
  isplitl [H1]; · iexact H1
  isplitr
  · iapply (Entails.of_eq pointsTo_empty.symm)
    iempintro
  iexact H

theorem out_split (V : Outc (F := F)) : (OUT.view.loc (c : Thread nD τ) ↦[Finset.univ]{fullShare} V : sProp 𝕄)
    ⊢ iprop((OUT.view.loc (c : Thread nD τ) ↦[oBlk (toFill 0)]{fullShare} V)
      ∗ (OUT.view.loc (c : Thread nD τ) ↦[oBlk (toSend 0)]{fullShare} V)
      ∗ (OUT.view.loc (c : Thread nD τ) ↦[oBlk (come 0)]{fullShare} gOut X)) := by
  have hd : Disjoint (oBlk (toFill 0)) (oBlk (toSend 0)) := oBlk_disj _ _ (by decide +kernel)
  have hu : (Finset.univ : Finset S65536x1024.Idx) = oBlk (toFill 0) ∪ oBlk (toSend 0) := by
    ext i
    have hi : (i 0).val < 65536 := (i 0).isLt
    simp only [Finset.mem_univ, Finset.mem_union, mem_oBlk, true_iff]
    exact (by decide +kernel : ∀ b : Fin 32, b.val ∈ toFill 0 ∨ b.val ∈ toSend 0) ⟨(i 0).val / 2048, by omega⟩
  rw [hu, show come 0 = ∅ from by decide, oBlk_empty]
  iintro H
  ihave H := (pointsTo_union hd).1 $$ H
  icases H with ⟨H0, H1⟩
  isplitl [H0]; · iexact H0
  isplitl [H1]; · iexact H1
  iapply (Entails.of_eq pointsTo_empty.symm)
  iempintro

/-! ## The two ends -/

/-- The scratch buffers whole, each at some contents. -/
def scr : sProp 𝕄 :=
  iprop((∃ g : Ring (F := F), BUF.view.loc (c : Thread nD τ) ↦[Finset.univ]{fullShare} g)
    ∗ (∃ g : Ring (F := F), OBF.view.loc (c : Thread nD τ) ↦[Finset.univ]{fullShare} g)
    ∗ ∃ g : Blk (F := F), CBF.view.loc (c : Thread nD τ) ↦[Finset.univ]{fullShare} g)
/-- The seven cells at zero. -/
def sems : sProp 𝕄 :=
  iprop(semVal ((c : Thread nD τ), .dma (semI 0)) 0 ∗ semVal ((c : Thread nD τ), .dma (semI 1)) 0 ∗ semVal ((c : Thread nD τ), .dma (semI 2)) 0
    ∗ semVal ((c : Thread nD τ), .dma (semO 0)) 0 ∗ semVal ((c : Thread nD τ), .dma (semO 1)) 0 ∗ semVal ((c : Thread nD τ), .dma (semO 2)) 0
    ∗ semVal ((c : Thread nD τ), .dma semF) 0)
/-- Everything outside the tables, the result at `V`: how the kernel is entered and how it is left. -/
def rim (V : Outc (F := F)) : sProp 𝕄 :=
  iprop(scr (F := F) c ∗ sems (F := F) c ∗ (FLT.view.loc (c : Thread nD τ) ↦[Finset.univ]{fullShare} X)
    ∗ (OUT.view.loc (c : Thread nD τ) ↦[Finset.univ]{fullShare} V))

theorem enter (V : Outc (F := F)) : (rim c X V : sProp 𝕄) ⊢ |={Set.univ}=> mid c X V 0 := by
  unfold rim scr sems mid ini outSt
  rw [if_pos rfl, if_pos (by omega), if_pos (by omega), if_pos (by omega), show kf 0 = 0 from by decide]
  iintro ⟨⟨⟨%g, HB⟩, ⟨%g', HO⟩, ⟨%g'', HC⟩⟩, ⟨S0, S1, S2, O0, O1, O2, SF⟩, HX, HV⟩
  ihave HB := (buf_split c g) $$ HB
  icases HB with ⟨B0, B1, B2⟩
  ihave HO := (obf_split c g') $$ HO
  icases HO with ⟨Q0, Q1, Q2⟩
  ihave HX := (flt_split c X) $$ HX
  icases HX with ⟨X0, X1, HX⟩
  ihave HV := (out_split c X V) $$ HV
  icases HV with ⟨V0, V1, V2⟩
  imod (fill_alloc c (gOut X)) $$ SF with SF
  ihave B0 : iprop(inFree (F := F) c 0 ∗ (FLT.view.loc (c : Thread nD τ) ↦[fRows (stT 0) (ndT 0)]{fullShare} X)) $$ [S0 B0 X0]
  · unfold inFree
    isplitr [X0]; · isplitl [S0] <;> iassumption
    iexact X0
  ihave B1 : iprop(inFree (F := F) c 1 ∗ (FLT.view.loc (c : Thread nD τ) ↦[fRows (stT 1) (ndT 1)]{fullShare} X)) $$ [S1 B1 X1]
  · unfold inFree
    isplitr [X1]; · isplitl [S1] <;> iassumption
    iexact X1
  imod (in_open c X 0 (by omega)) $$ B0 with B0
  imod (in_open c X 1 (by omega)) $$ B1 with B1
  imodintro
  isplitl [B0 B1 HC]
  · isplitl [B0]; · iexact B0
    isplitl [B1]; · iexact B1
    iexists g''; iexact HC
  isplitl [S2 B2]; · unfold inFree; isplitl [S2] <;> iassumption
  isplitl [HX]; · iexact HX
  isplitl [O0 Q0]; · unfold outFree; isplitl [O0] <;> iassumption
  isplitl [O1 Q1]; · unfold outFree; isplitl [O1] <;> iassumption
  isplitl [O2 Q2]; · unfold outFree; isplitl [O2] <;> iassumption
  isplitl [SF V0]; · isplitl [SF] <;> iassumption
  isplitl [V1] <;> iassumption

theorem leave : (fin c X : sProp 𝕄) ⊢ rim c X (gOut X) := by
  unfold fin rim scr sems inFree outFree
  iintro ⟨⟨S0, B0⟩, ⟨S1, B1⟩, ⟨S2, B2⟩, ⟨O0, Q0⟩, ⟨O1, Q1⟩, ⟨O2, Q2⟩, ⟨SF, HC⟩, HX, HV⟩
  isplitl [B0 B1 B2 Q0 Q1 Q2 HC]
  · isplitl [B0 B1 B2]
    · iapply (buf_join c)
      isplitl [B0]; · iexact B0
      isplitl [B1] <;> iassumption
    isplitl [Q0 Q1 Q2]
    · iapply (obf_join c)
      isplitl [Q0]; · iexact Q0
      isplitl [Q1] <;> iassumption
    iexists _; iexact HC
  isplitl [S0 S1 S2 O0 O1 O2 SF]
  · isplitl [S0]; · iexact S0
    isplitl [S1]; · iexact S1
    isplitl [S2]; · iexact S2
    isplitl [O0]; · iexact O0
    isplitl [O1]; · iexact O1
    isplitl [O2] <;> iassumption
  isplitl [HX] <;> iassumption

end Cert.KernelIdeal.Hand

end
-- ==== Proof.Region.lean ====
/-
  The kernel's region: its steps one after the other, from the launch's hand-over to what the lines after it find.
-/
module

public import proofs.«01_k».proof.Proof.Entry
public import proofs.«01_k».proof.Proof.Gen.KernelIdeal.Launch
public import Idealize.ShloMosaic.Lib.Pipeline.FrameBody
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (c : Dev nD) (X : Flat (F := F)) (V : Outc (F := F))

/-! ## The state before each step -/

/-- What is held, beside the tables, before step `n`; before step 22, after the last. -/
def st (n : ℕ) : sProp 𝕄 := if n = 0 then rim c X V else if n = 22 then fin c X else mid c X V n

theorem st_enter (t : Fin 22) : (st c X V t : sProp 𝕄) ⊢ |={Set.univ}=> mid c X V t := by
  unfold st
  by_cases h : t.val = 0
  · rw [if_pos h, h]; exact enter c X V
  · rw [if_neg h, if_neg (by omega)]
    iintro H; imodintro; iexact H
theorem st_next (t : Fin 22) : (nxt c X V t : sProp 𝕄) = st c X V (t.val + 1) := by
  unfold nxt st
  rw [if_neg (Nat.succ_ne_zero _)]
  by_cases h : t.val = 21
  · rw [if_pos h, if_pos (by omega)]
  · rw [if_neg h, if_neg (by omega)]

theorem step (t : Fin 22) (a1 a2 a3 a4 a5 a6 a7 a9 a11) :
    (iprop((tabs c ∗ st c X V t) ∗ owe c) : sProp 𝕄)
      ⊢ run c (cc0__body (F := F) (co t) (Memref.whole main_c) a1 (Memref.whole main_c_0) a2
      (Memref.whole main_c_1) a3 (Memref.whole main_c_2) a4 FLT a5 OUT a6 BUF a7 cc0_scratch1 OBF a9 cc0_scratch3
      CBF a11 cc0_scratch5) (fun _ => iprop((tabs c ∗ st c X V (t.val + 1)) ∗ owe c)) := by
  have hb := body c X V t a1 a2 a3 a4 a5 a6 a7 a9 a11
  rw [st_next] at hb
  have hQ : ∀ _ : PUnit, (iprop(tabs c ∗ st c X V (t.val + 1) ∗ owe c) : sProp 𝕄) ⊢ iprop((tabs c ∗ st c X V (t.val + 1)) ∗ owe c) := by
    intro _
    iintro ⟨H1, H2, H3⟩
    isplitr [H3]; · isplitl [H1] <;> iassumption
    iexact H3
  have hr := hb.trans ((wp frame (wpE (defs₀ (F := F)) Variants.none (c : Thread nD τ) none) Set.univ _).mono hQ)
  iintro ⟨⟨HT, HS⟩, Hw⟩
  imod (st_enter c X V t) $$ HS with HS
  iapply hr
  isplitl [HT]; · iexact HT
  isplitl [HS] <;> iassumption

/-! ## What the region is given and gives back -/

/-- The body's cells. -/
abbrev osem0 : Fin 7 → SemLoc sig := fun j => .dma ⟨j.val, j.isLt⟩
theorem ownSemFacts0 : Pipeline.OwnSemFacts spec0 osem0 := by decide
abbrev H0 : Finset (Ref sig .tc) := {main_arg0}
abbrev R0 : Finset (Ref sig .tc) := {main_v0}
theorem H0_sub : H0 ⊆ Pipeline.restRefsP sig pre0 spec0 := by decide
theorem R0_sub : R0 ⊆ Pipeline.restRefsP sig pre0 spec0 \ H0 := by decide

theorem ownSems0_eq :
    (Pipeline.ownSems0 (Ix := Unit) (Name := ℕ) (U := Pipeline.UD sig nD τ) (Lvl := ℕ) (Val := Elt F) (τ := τ) osem0 c : sProp 𝕄)
      = sems c := by
  rw [Pipeline.ownSems0_eq_of_list c osem0 [0, 1, 2, 3, 4, 5, 6] (by decide) (by decide)]; rfl

/-- The region's side of the launch is the kernel's: scratch, cells, input and result. -/
theorem rim_eq (V G : (c : Dev nD) → (b : Ref sig .tc) → Buf (Elt F) ((c : Thread nD τ).loc b)) :
    (Pipeline.ΦDRV osem0 spec0 H0 R0 V G c : sProp 𝕄) = rim c (V c main_arg0) (G c main_v0) := by
  unfold Pipeline.ΦDRV
  rw [scopedRest0_eq, ownSems0_eq, BI.bigSep_eq_bigSepL_of_eq [main_arg0] (by decide) (by decide),
    BI.bigSep_eq_bigSepL_of_eq [main_v0] (by decide) (by decide)]
  rfl

/-- The tables' contents. -/
def words : pre0.Contents (Elt F) := fun
  | 0 => fun i => lit0 (S22.rowMajor i)
  | 1 => fun i => lit1 (S22.rowMajor i)
  | 2 => fun i => lit2 (S22.rowMajor i)
  | 3 => fun i => lit3 (S22.rowMajor i)
  | ⟨_ + 4, h⟩ => absurd h (Nat.not_lt.2 (Nat.le_add_left _ _))
abbrev adm : (p : Fin 1) → (pcfgs (F := F) p).Adm := fun _ => ⟨words, trivial⟩

theorem tabs_eq : (Pipeline.ΦT pre0 (words (F := F)) c : sProp 𝕄) = tabs c := by
  unfold Pipeline.ΦT Pipeline.prefHeld
  rw [BI.bigSep_eq_bigSepL_of_eq [0, 1, 2, 3] (by decide) (by decide)]
  rfl

/-! ## The run -/

variable (m : (ℓ : Loc nD τ sig) → Buf (Elt F) ℓ) (ρ : Dev nD → PrngReg)

/-- The contents at the region's entry: the launch's, and the tables' words. -/
def entry (c : Dev nD) : Valuation τ sig (Elt F) := StableHlo.after (hostOps0 (F := F)) fun b => m (c, b)

/-- The flat input and the result's buffer at the launch. -/
abbrev inX (c : Dev nD) : Flat (F := F) := m ((c : Thread nD τ).loc main_arg0)
abbrev inV (c : Dev nD) : Outc (F := F) := m ((c : Thread nD τ).loc main_v0)

theorem entry_arg0 (c : Dev nD) : entry m c (Proc.devRef .tc main_arg0) = inX m c := by
  unfold entry; after_results
theorem entry_arg1 (c : Dev nD) : entry m c (Proc.devRef .tc main_arg1) = m ((c : Thread nD τ).loc main_arg1) := by
  unfold entry; after_results
theorem entry_v0 (c : Dev nD) : entry m c (Proc.devRef .tc main_v0) = inV m c := by
  unfold entry; after_results
theorem entry_pre (c : Dev nD) (k : Fin 4) : entry m c (Proc.devRef .tc (pre0.ref k)) = words k := by
  unfold entry
  match k with
  | 0 => exact (by after_results; rfl : StableHlo.after (hostOps0 (F := F)) (fun b => m (c, b)) (Proc.devRef .tc main_c) = words 0)
  | 1 => exact (by after_results; rfl : StableHlo.after (hostOps0 (F := F)) (fun b => m (c, b)) (Proc.devRef .tc main_c_0) = words 1)
  | 2 => exact (by after_results; rfl : StableHlo.after (hostOps0 (F := F)) (fun b => m (c, b)) (Proc.devRef .tc main_c_1) = words 2)
  | 3 => exact (by after_results; rfl : StableHlo.after (hostOps0 (F := F)) (fun b => m (c, b)) (Proc.devRef .tc main_c_2) = words 3)

/-- The region's proof data on core `c`: no windows; before each step, the state above. -/
def dats (_ : Fin 1) (c : Dev nD) : Dat τ (Elt F) Unit ℕ (Pipeline.UD sig nD τ) ℕ (cfg0 (F := F) (adm 0)) c where
  A w := w.elim0
  after w := w.elim0
  Φ t := iprop(tabs c ∗ st c (inX m c) (inV m c) t.val)
  q w := w.elim0
  owed _ := 0

theorem points_lt (t : Fin (cfg0 (F := F) (adm 0)).N) : t.val < 22 := lt_of_lt_of_eq t.isLt N_0

theorem none_left (P : Fin 0 → sProp 𝕄) : (BI.emp : sProp 𝕄) ⊢ bigSep Finset.univ P := by
  rw [Finset.univ_eq_empty, BI.bigSep_empty]

theorem body_obligation (c : Dev nD) : BodyObligation (dats (F := F) m 0 c) (defs₀ (F := F)) Variants.none () Set.univ := fun t => by
  have ht := points_lt (F := F) t
  have hs := step c (inX m c) (inV m c) ⟨t.val, ht⟩ (Memref.isWhole_whole _) (Memref.isWhole_whole _) (Memref.isWhole_whole _)
    (Memref.isWhole_whole _) (Memref.isWhole_whole _) (Memref.isWhole_whole _) (Memref.isWhole_whole _) (Memref.isWhole_whole _) (Memref.isWhole_whole _)
  rw [← coords_co t ht] at hs
  have hrow : defs₀ (F := F) .tc (cfg0 (F := F) (adm 0)).body ((cfg0 (F := F) (adm 0)).bodyArgs t ((cfg0 (F := F) (adm 0)).slots t))
      = cc0__body (F := F) (grid0.coords t) (Memref.whole main_c) (Memref.isWhole_whole _) (Memref.whole main_c_0) (Memref.isWhole_whole _)
          (Memref.whole main_c_1) (Memref.isWhole_whole _) (Memref.whole main_c_2) (Memref.isWhole_whole _) FLT (Memref.isWhole_whole _)
          OUT (Memref.isWhole_whole _) BUF (Memref.isWhole_whole _) cc0_scratch1 OBF (Memref.isWhole_whole _) cc0_scratch3
          CBF (Memref.isWhole_whole _) cc0_scratch5 := by
    unfold defs₀; rw [Defs.onTc_tc]
  rw [hrow]
  refine triple_restated hs rfl ?_ fun _ => ?_
  · rw [show (dats m 0 c).Φ t.castSucc = iprop(tabs c ∗ st c (inX m c) (inV m c) t.val) from rfl]
    unfold Dat.owesAt Pipeline.owesWithin owe
    iintro ⟨HΦ, ⟨%W, -, HW⟩, -⟩
    isplitl [HΦ]; · iexact HΦ
    iexists W; iexact HW
  · rw [show (dats m 0 c).Φ t.succ = iprop(tabs c ∗ st c (inX m c) (inV m c) (t.val + 1)) from rfl]
    unfold Dat.owesAt Pipeline.owesWithin owe
    iintro ⟨HΦ, ⟨%W, HW⟩⟩
    isplitl [HΦ]; · iexact HΦ
    isplitl [HW]
    · iexists W; isplitr; · ipureintro; exact fun _ _ => Or.inl trivial
      iexact HW
    iapply none_left
    iempintro

/-- What the result's buffers hold when the kernel is done. -/
def left (c : Dev nD) (b : Ref sig .tc) : Buf (Elt F) ((c : Thread nD τ).loc b) :=
  if h : main_v0 = b then h ▸ (gOut (inX m c) : Buf (Elt F) ((c : Thread nD τ).loc main_v0)) else m ((c : Thread nD τ).loc b)
theorem left_v0 (c : Dev nD) : left m c main_v0 = gOut (inX m c) := by
  unfold left; rw [dif_pos rfl]

theorem hmain : Pipeline.HMainPK (Ix := Unit) (Name := ℕ) (U := Pipeline.UD sig nD τ) (Lvl := ℕ) (pcfgs (F := F)) 0 defs₀ Variants.none m
    (main (F := F)) (fun c b => entry m c (Proc.devRef .tc b)) (fun _ => Pipeline.chain ([hostOps1].map StableHlo.seq)) := by
  have h := Pipeline.hmainP_around (Ix := Unit) (Name := ℕ) (U := Pipeline.UD sig nD τ) (Lvl := ℕ) (pcfgs (F := F)) 0 defs₀ Variants.none m
    (main (F := F)) [hostOps0] [hostOps1] hostOps0_sub ⟨rfl, rfl, rfl, rfl⟩ main_chain
  exact h

/-- The line after the region writes the reshaped result and nothing else. -/
theorem after_lines (W : Valuation τ sig (Elt F)) (b : Ref sig .tc) (hb : b ≠ main_v1) :
    StableHlo.after [hostOps1 (F := F)].flatten W (Proc.devRef .tc b) = W (Proc.devRef .tc b) :=
  StableHlo.after_of_writes_sub (W := [main_v1]) [StableHlo.reshape main_v0 main_v1 (rfl : (.f32 : EltTy) = .f32) shapeCasts_S65536x1024_S16x4096x1024] W
    (by simp) (by simpa using hb)
theorem after_reshape (W : Valuation τ sig (Elt F)) :
    StableHlo.after [hostOps1 (F := F)].flatten W (Proc.devRef .tc main_v1)
      = shapeCast S16x4096x1024 (W (Proc.devRef .tc main_v0)) shapeCasts_S65536x1024_S16x4096x1024 := by
  show StableHlo.after (hostOps1 (F := F)) W (Proc.devRef .tc main_v1) = _
  after_results
  rfl

set_option backward.isDefEq.respectTransparency.types false in
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = shapeCast S16x4096x1024 (gOut (inX m c)) shapeCasts_S65536x1024_S16x4096x1024)
    ∧ r.2.sem = fun _ => 0) := by
  refine Pipeline.θ_run_frameP_dmaR_aroundV (pcfgs (F := F)) adm (dats m) (0 : Fin 1) launch0 osem0 defs₀ Variants.none ownSemFacts0 H0 R0
    H0_sub R0_sub m ρ main (hbody := fun c => (body_obligation m c).loose) (hshare := fun c w => w.elim0) (howed := fun _ _ => rfl)
    (V₀ := entry m) (opss := [hostOps1]) (hsub := ?_) (hfresh := ?_) (hkeep := ?_) (G := left m) (hmain := hmain m)
    (hA := fun c w => w.elim0) (hpf := entry_pre m) (hin := ?_) (hout := ?_) (Q' := _) (hQ' := ?_)
  · intro ops ho op h
    obtain rfl := List.mem_singleton.mp ho
    obtain rfl := List.mem_singleton.mp h
    exact Pipeline.sub_tailRefs pre0 spec0 _ hostOps1_sub (fun k => by
      show _ ∉ ({Proc.devRef .tc main_v0, Proc.devRef .tc main_v1} : Finset (DevRef τ sig)); revert k; decide)
  · intro ops ho op h
    obtain rfl := List.mem_singleton.mp ho
    obtain rfl := List.mem_singleton.mp h
    rfl
  · exact fun _ _ _ _ w => w.elim0
  · intro c
    rw [show (dats m 0 c).Φ 0 = iprop(tabs c ∗ st c (inX m c) (inV m c) 0) from rfl]
    have h1 := rim_eq (F := F) c (fun c b => entry m c (Proc.devRef .tc b)) (fun c b => entry m c (Proc.devRef .tc b))
    have h2 := tabs_eq (F := F) c
    rw [entry_arg0, entry_v0] at h1
    refine (Laws.sep_mono (Entails.of_eq h1) (Entails.of_eq h2)).trans ?_
    unfold st
    rw [if_pos rfl]
    exact Laws.sep_comm.1
  · intro c
    rw [show (dats m 0 c).Φ (Fin.last _) = iprop(tabs c ∗ st c (inX m c) (inV m c) 22) from rfl]
    have h1 := rim_eq (F := F) c (fun c b => entry m c (Proc.devRef .tc b)) (left m)
    rw [entry_arg0, left_v0] at h1
    refine BIBase.Entails.trans ?_ (Entails.of_eq h1.symm)
    unfold st
    rw [if_neg (by decide), if_pos rfl]
    iintro ⟨-, H⟩
    iapply (leave c (inX m c))
    iexact H
  · intro r h
    refine ⟨fun c => ?_, h.2⟩
    have hc := (h.1 c).2
    have hw : ∀ b : Ref sig .tc, Pipeline.withArrays (τ := τ) spec0 c (Pipeline.withR (entry m c) R0 c (left m c))
        (fun w => (dats m 0 c).arrAt w (cfg0 (F := F) (adm 0)).N) (Proc.devRef .tc b) = Pipeline.withR (entry m c) R0 c (left m c) (Proc.devRef .tc b) := by
      intro b
      unfold Pipeline.withArrays
      rw [dif_neg]
      rintro ⟨w, -⟩
      exact w.elim0
    refine ⟨?_, ?_, ?_⟩
    · refine (hc main_arg0 (show main_arg0 ∈ Pipeline.restRefsP sig pre0 spec0 by decide)).trans ?_
      refine (after_lines _ main_arg0 (by decide)).trans ?_
      rw [hw, Pipeline.withR_of_not_mem _ _ _ _ _ (by decide), entry_arg0]
    · refine (hc main_arg1 (show main_arg1 ∈ Pipeline.restRefsP sig pre0 spec0 by decide)).trans ?_
      refine (after_lines _ main_arg1 (by decide)).trans ?_
      rw [hw, Pipeline.withR_of_not_mem _ _ _ _ _ (by decide), entry_arg1]
    · refine (hc main_v1 (show main_v1 ∈ Pipeline.restRefsP sig pre0 spec0 by decide)).trans ?_
      refine (after_reshape _).trans ?_
      rw [hw, Pipeline.withR_of_mem _ _ _ _ _ (by decide), left_v0]

end Cert.KernelIdeal.Hand

end
-- ==== Proof.Frames.lean ====
/- The kernel as printed and its idealized copy are one program here (no rule was applied), so one run serves both: the frames of both follow from `run_main`. -/
module

public import proofs.«01_k».proof.Defs
public import proofs.«01_k».proof.Proof.Gen.Kernel.Launch
public import proofs.«01_k».proof.Proof.Gen.ReferenceIdeal.Run
public import proofs.«01_k».proof.Proof.Region

@[expose] public section

noncomputable section

namespace Cert.Hand

open Idealize.ShloMosaic Idealize.SL.Sem Idealize.ShloMosaic.TcCoe

variable {F : FTy → Type} [FloatOps F]

set_option maxHeartbeats 8000000 in
/-- The two entry points are the same program. -/
theorem main_eq : (@Cert.Kernel.main F _ Cert.Kernel.Gen.facts) = (@Cert.KernelIdeal.main F _ Cert.KernelIdeal.Gen.facts) := rfl

set_option maxHeartbeats 8000000 in
/-- The two bodies' tables are the same. -/
theorem defs_eq : (@Cert.Kernel.defs F _ Cert.Kernel.Gen.facts) = (@Cert.KernelIdeal.defs F _ Cert.KernelIdeal.Gen.facts) := rfl

theorem frame_kernelIdeal : Cert.quiescent_KernelIdeal (hKernelIdeal := Cert.KernelIdeal.Gen.facts) := by
  intro m g _
  exact (θ_run _ _ _).mono (fun _ h => ⟨fun c => ⟨(h.1 c).1, (h.1 c).2.1⟩, h.2⟩) (Cert.KernelIdeal.Hand.run_main (F := Ideal) m g)

theorem frame_kernelIdeal_pre (hp : Cert.Pre_lengths_fixed.Facts) :
    Cert.quiescent_KernelIdeal_pre_lengths_fixed (hKernelIdeal := Cert.KernelIdeal.Gen.facts) (hPre_lengths_fixed := hp) := by
  intro m g _
  exact frame_kernelIdeal m g trivial

theorem frame_kernel : Cert.quiescent_Kernel (hKernel := Cert.Kernel.Gen.facts) := by
  intro m g _
  rw [main_eq, defs_eq]
  exact (θ_run _ _ _).mono (fun _ h => ⟨fun c => ⟨(h.1 c).1, (h.1 c).2.1⟩, h.2⟩) (Cert.KernelIdeal.Hand.run_main (F := Bits) m g)

theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run (F := Ideal) m g)

theorem frame_reference_pre (hp : Cert.Pre_lengths_fixed.Facts) :
    Cert.quiescent_ReferenceIdeal_pre_lengths_fixed (hReferenceIdeal := Cert.ReferenceIdeal.Gen.facts) (hPre_lengths_fixed := hp) := by
  intro m g _
  exact frame_reference m g trivial

end Cert.Hand

end
-- ==== Proof.Seg.lean ====
/-
  Where the sequences lie in the flat array: sequence `b` holds the tokens `cu b … cu (b + 1) - 1`, and `seg i` is the sequence of token `i`,
  one less than the number of sequences that start at or before it.
-/
module

public import Idealize.ShloMosaic.Lib.Routing.Count

@[expose] public section

namespace Cert.Hand

open Idealize.ShloMosaic.Routing

/-- The first token of sequence `b`; the number of tokens at `b = 16`. -/
def cu (b : ℕ) : ℕ :=
  [0, 4096, 4608, 6656, 7680, 10752, 12288, 14848, 15616, 19712, 20992, 23040, 23936, 27520, 29312, 31616, 32768].getD b 0

/-- The sequence of token `i`. -/
def seg (i : ℕ) : ℕ := Nat.count (fun k => cu k ≤ i) 16 - 1

theorem cu_mono : ∀ a b : Fin 17, a ≤ b → cu a ≤ cu b := by decide +kernel

theorem starts_down (i a b : ℕ) (hab : a ≤ b) (hb : b < 16) (h : cu b ≤ i) : cu a ≤ i :=
  (cu_mono ⟨a, by omega⟩ ⟨b, by omega⟩ hab).trans h

theorem started (i : ℕ) {k : ℕ} (hk : k < 16) : cu k ≤ i ↔ k < Nat.count (fun k => cu k ≤ i) 16 :=
  lt_count_iff (Q := fun k => cu k ≤ i) (starts_down i) hk

theorem count_pos (i : ℕ) : 1 ≤ Nat.count (fun k => cu k ≤ i) 16 := (started i (k := 0) (by omega)).1 (Nat.zero_le _)

theorem count_le (i : ℕ) : Nat.count (fun k => cu k ≤ i) 16 ≤ 16 := Nat.count_le _

theorem seg_lt (i : ℕ) : seg i < 16 := by
  have := count_pos i
  have := count_le i
  unfold seg; omega

theorem cu_seg (i : ℕ) : cu (seg i) ≤ i := by
  refine (started i (seg_lt i)).2 ?_
  have := count_pos i
  unfold seg; omega

theorem lt_cu_seg {i : ℕ} (hi : i < 32768) : i < cu (seg i + 1) := by
  by_contra h
  rcases Nat.lt_or_ge (seg i + 1) 16 with hs | hs
  · have h1 := (started i hs).1 (by omega)
    unfold seg at h1; omega
  · have h2 : seg i + 1 = 16 := by have := seg_lt i; omega
    rw [h2] at h
    exact h hi

theorem seg_eq {b i : ℕ} (hb : b < 16) (h1 : cu b ≤ i) (h2 : i < cu (b + 1)) : seg i = b := by
  have h3 := (started i hb).1 h1
  rcases Nat.lt_or_ge (b + 1) 16 with hs | hs
  · have h4 : ¬ b + 1 < Nat.count (fun k => cu k ≤ i) 16 := fun q => absurd ((started i hs).2 q) (by omega)
    unfold seg; omega
  · have := count_le i
    unfold seg; omega

end Cert.Hand
-- ==== Proof.Repeat.lean ====
/-
  The reference's `batch_ids`, read at a token: `jnp.repeat` prints as a running sum of the lengths, a scatter of ones at the starts,
  a running sum of that and a take; at token `i` it holds `seg i`.
-/
module

public import proofs.«01_k».proof.Proof.Gen.ReferenceIdeal.Run
public import proofs.«01_k».proof.Proof.Seg
public import Idealize.ShloMosaic.Lib.Routing.OpsOne
public import Idealize.ShloMosaic.Lib.Routing.OpsSet
public import Idealize.ShloMosaic.Lib.Routing.OpsPair
public import Idealize.ShloMosaic.Lib.Routing.OpsSearch
public import Idealize.ShloMosaic.Lib.Routing.BitFacts
public import Idealize.ShloMosaic.Lib.ReduceAll
public import Idealize.ShloMosaic.Lib.Pointwise.SelectCore

@[expose] public section

set_option maxRecDepth 16384

noncomputable section

namespace Cert.Hand

open Idealize.ShloMosaic hiding ix1 ix2 ix3
open Idealize.ShloMosaic.ValueIdx Idealize.ShloMosaic.Routing
open Cert.ReferenceIdeal Cert.ReferenceIdeal.Gen Cert.ReferenceIdeal.Value

variable {F : FTy → Type} [FloatOps F] (V0 : Valuation τ sig (Elt F))

/-- What each start adds to the one before: nothing for the first sequence, then the lengths. -/
def lenBefore (k : ℕ) : ℕ :=
  [0, 4096, 512, 2048, 1024, 3072, 1536, 2560, 768, 4096, 1280, 2048, 896, 3584, 1792, 2304].getD k 0

theorem sum_lenBefore : ∀ k : Fin 16, ((List.range (k.val + 1)).map lenBefore).sum = cu k := by decide +kernel

theorem lens_at (i : Fin 16) :
    Host.scatter scatter_S16_S1_S__n_0_0_0 (fun _ b => b) (concatenate S16 0 [⟨S1, (extractStridedSlice S1 ![15] (res_main_c V0) slices_S16_S1_15)⟩, ⟨S15, (extractStridedSlice S15 ![0] (res_main_c V0) slices_S16_S15_0)⟩] concatenates_S1_S15_S16_d0) (broadcastInDim S1 ![] bcast_S_S1 (constantI S_ 32 0#32)) (constantI S_ 32 0#32) (ix1 i)
      = BitVec.ofNat 32 (lenBefore i) := by
  refine (scatter_one _ rfl rfl _ _ _ (0 : Fin 16) (by decide) rfl i).trans ?_
  fin_cases i <;> rfl

theorem starts_at (k : Fin 16) : res_main_v5 V0 (ix1 k) = BitVec.ofNat 32 (cu k) := by
  unfold res_main_v5
  exact (cumsum1 (N := 16) (Nm1 := 15) rfl _ lenBefore (lens_at V0) _ rfl _ _ k).trans (congrArg _ (sum_lenBefore k))

/-- Where the update of a start lands: at the token its word names. -/
theorem start_lands (idx : IVec S16x1 32) (k : Fin 16) (x : Fin 32768) :
    scatter_S32768_S16x1_S16_n_0_0_1.resultIdx? (ix1 k) idx = some (ix1 x) ↔ (idx (ix2 k (0 : Fin 1))).toInt = (x.val : Int) := by
  rw [resultIdx?_ix1]
  have hw : scatter_S32768_S16x1_S16_n_0_0_1.window (ix1 k) 0 = 0 := rfl
  have hs : scatter_S32768_S16x1_S16_n_0_0_1.start (ix1 k) idx 0 = (idx (ix2 k (0 : Fin 1))).toInt := by
    unfold ScatterDims.start
    rw [dif_pos (by decide)]
    refine congrArg (fun q => (idx q).toInt) (funext fun b => ?_)
    match b with
    | ⟨0, _⟩ => rfl
    | ⟨1, _⟩ => rfl
  rw [hw, hs]
  omega

/-- Ones added at the starts: each token holds the number of sequences that start there. -/
theorem marks_at (x0 : IVec S32768 32) (hx0 : ∀ i, x0 i = 0#32) (idx : IVec S16x1 32) (hidx : ∀ k : Fin 16, idx (ix2 k (0 : Fin 1)) = BitVec.ofNat 32 (cu k))
    (upd : IVec S16 32) (hupd : ∀ i, upd i = 1#32) (x : Fin 32768) :
    Host.scatter scatter_S32768_S16x1_S16_n_0_0_1 IntOp.addi x0 idx upd (ix1 x) = BitVec.ofNat 32 (Nat.count (fun k => cu k = x.val) 16) := by
  have hstep : ∀ (a : BitVec 32) (n : Fin S16.numel),
      (if scatter_S32768_S16x1_S16_n_0_0_1.resultIdx? (S16.rowMajor.symm n) idx = some (ix1 x) then IntOp.addi a (upd (S16.rowMajor.symm n)) else a)
        = IntOp.addi a (if cu n.val = x.val then 1#32 else 0#32) := by
    intro a n
    have hc : cu n.val < 2 ^ 31 := by
      have hn : n.val < 16 := (n.cast (numel1 16)).isLt
      have := cu_mono ⟨n.val, by omega⟩ 16 (Fin.le_last _)
      exact lt_of_le_of_lt this (by decide)
    rw [show S16.rowMajor.symm n = ix1 (n.cast (numel1 16)) from symm1 n, hupd]
    have hl := start_lands idx (n.cast (numel1 16)) x
    rw [hidx, Fin.val_cast, StableHlo.Predicate.toInt_ofNat_small _ hc] at hl
    by_cases h : cu n.val = x.val
    · rw [if_pos h, if_pos (hl.2 (by exact_mod_cast h))]
    · rw [if_neg h, if_neg fun q => h (by exact_mod_cast hl.1 q)]
      exact (BitVec.add_zero a).symm
  rw [scatter_at]
  simp only [hstep]
  refine (foldl_addi_ofNat _ _ (fun n => if cu n.val = x.val then 1 else 0) (fun n _ => ?_) _ 0 (hx0 _)).trans ?_
  · split <;> rfl
  · rw [Nat.zero_add, map_finRange_val _ (fun k => if cu k = x.val then 1 else 0), numel1, sum_map_ite]

/-- A host wrap of an index vector, read at one entry that is not negative. -/
theorem wrap_at {s : Shape} (x z n : IVec s 32) (i : s.Idx) (hz : z i = 0#32) {k : ℕ} (hk : k < 2 ^ 31) (hx : x i = BitVec.ofNat 32 k) :
    select (cmpi .slt x z) (addi x n) x i = BitVec.ofNat 32 k := by
  show Scalar.select (IntOp.cmpi .slt (x i) (z i)) _ (x i) = _
  rw [hz, hx, wrap_of_lt _ _ (by rw [BitVec.toNat_ofNat]; omega)]

theorem column_at (k : Fin 16) :
    (broadcastInDim S16x1 ![0] bcast_S16_S16x1_0 (select (cmpi .slt (res_main_v5 V0) (broadcastInDim S16 ![] bcast_S_S16 (constantI S_ 32 0#32))) (addi (res_main_v5 V0) (broadcastInDim S16 ![] bcast_S_S16 (constantI S_ 32 32768#32))) (res_main_v5 V0)) : IVec S16x1 32) (ix2 k (0 : Fin 1))
      = BitVec.ofNat 32 (cu k) := by
  have hc : cu k.val < 2 ^ 31 := by
    have := cu_mono ⟨k.val, by omega⟩ 16 (Fin.le_last _)
    exact lt_of_le_of_lt this (by decide)
  exact (bcCol _ _ k).trans (wrap_at _ _ _ _ rfl hc (starts_at V0 k))

theorem place_at (i : Fin 32768) : res_main_v17 V0 (ix1 i) = BitVec.ofNat 32 (seg i) := by
  unfold res_main_v17
  refine (congrArg (fun q => IntOp.subi q 1#32) (cumsum1 (N := 32768) (Nm1 := 32767) rfl _ (fun x => Nat.count (fun k => cu k = x) 16)
    (fun x => marks_at _ (fun _ => rfl) _ (column_at V0) _ (fun _ => rfl) x) _ rfl _ _ i)).trans ?_
  rw [sum_count_eq]
  exact StableHlo.Predicate.sub_one_ofNat _ (count_pos i) (lt_of_le_of_lt (count_le i) (by decide))

end Cert.Hand

end
-- ==== Proof.Place.lean ====
/-
  The reference's two index vectors at a token: `batch_ids`, the sequence the token lies in, and `pos`, its place in that sequence.
-/
module

public import proofs.«01_k».proof.Proof.Repeat

@[expose] public section

set_option maxRecDepth 16384

noncomputable section

namespace Cert.Hand

open Idealize.ShloMosaic hiding ix1 ix2 ix3
open Idealize.ShloMosaic.ValueIdx Idealize.ShloMosaic.Routing
open Cert.ReferenceIdeal Cert.ReferenceIdeal.Gen Cert.ReferenceIdeal.Value

variable {F : FTy → Type} [FloatOps F] (V0 : Valuation τ sig (Elt F))

theorem seg_small (i : ℕ) : seg i < 2 ^ 31 := lt_trans (seg_lt i) (by decide)

/-- The column of take indices holds the sequence of each token. -/
theorem takeColumn_at (i : Fin 32768) : res_main_call3_v5 V0 (ix2 i (0 : Fin 1)) = BitVec.ofNat 32 (seg i) := by
  unfold res_main_call3_v5
  exact (bcCol _ _ i).trans (wrap_at _ _ _ _ rfl (seg_small i) (place_at V0 i))

/-- Every take index is in range, so the mask of the take is all ones. -/
theorem takeMask_at (z m : IVec S32768x1 32) (hz : ∀ q, z q = 0#32) (hm : ∀ q, m q = 15#32) (q : S32768x1.Idx) :
    andi (cmpi .sge (res_main_call3_v5 V0) z) (cmpi .sle (res_main_call3_v5 V0) m) q = 1#1 := by
  show IntOp.andi (IntOp.cmpi .sge (res_main_call3_v5 V0 q) (z q)) (IntOp.cmpi .sle (res_main_call3_v5 V0 q) (m q)) = 1#1
  have hq : q = ix2 (q 0) (0 : Fin 1) := by
    funext a
    match a with
    | ⟨0, _⟩ => rfl
    | ⟨1, _⟩ => exact Subsingleton.elim (α := Fin 1) _ _
  have hv : res_main_call3_v5 V0 q = BitVec.ofNat 32 (seg (q 0).val) := by
    rw [hq]
    exact takeColumn_at V0 (q 0)
  rw [hz, hm, hv]
  have hs := seg_lt (q 0).val
  generalize seg (q 0).val = k at hs
  interval_cases k <;> rfl

theorem select_one {s : Shape} (c : IVec s 1) (x y : IVec s 32) (i : s.Idx) (h : c i = 1#1) : select c x y i = x i := by
  show Scalar.select (c i) _ _ = _
  rw [h]
  rfl

/-- `batch_ids` at a token. -/
theorem batch_at (i : Fin 32768) : res_main_v18 V0 (ix1 i) = BitVec.ofNat 32 (seg i) := by
  unfold res_main_v18
  have hmask := Host.reduce_andi_one (andi (cmpi .sge (res_main_call3_v5 V0) (broadcastInDim S32768x1 ![] bcast_S_S32768x1 (constantI S_ 32 0#32)))
    (cmpi .sle (res_main_call3_v5 V0) (broadcastInDim S32768x1 ![0, 1] bcast_S1x1_S32768x1_0_1 (broadcastInDim S1x1 ![1] bcast_S1_S1x1_1 (constantI S1 32 15#32)))))
    (constantI S_ 1 1#1) reducesTo_S32768x1_S32768_d1 h_S_ (ix1 i) rfl (takeMask_at V0 _ _ (fun _ => rfl) (fun _ => rfl))
  have htake := take_ap gather_S16_S32768x1_S32768_n_0_n_n_0_1_1 rfl rfl rfl rfl (iotaInDim S16 32 0) (res_main_call3_v5 V0) i (seg_lt i) (seg_small i) (takeColumn_at V0 i)
  exact (select_one _ _ _ _ hmask).trans htake

/-- `pos` at a token, where `cu_seqlens` holds the starts. -/
theorem pos_at (hcu : ∀ b : Fin 17, (V0 (Proc.devRef .tc main_arg1) : IVec S17 32) (ix1 b) = BitVec.ofNat 32 (cu b)) (i : Fin 32768) :
    res_main_v27 V0 (ix1 i) = BitVec.ofNat 32 (i - cu (seg i)) := by
  unfold res_main_v27
  have h17 : seg i < 17 := lt_trans (seg_lt i) (by decide)
  have htake := take_ap gather_S17_S32768x1_S32768_n_0_n_n_0_1_1 rfl rfl rfl rfl (V0 (Proc.devRef .tc main_arg1)) _ i h17 (seg_small i)
    ((bcCol bcast_S32768_S32768x1_0 _ i).trans (wrap_at (res_main_v18 V0) (broadcastInDim S32768 ![] bcast_S_S32768 (constantI S_ 32 0#32)) (broadcastInDim S32768 ![] bcast_S_S32768 (constantI S_ 32 17#32)) (ix1 i) rfl (seg_small i) (batch_at V0 i)))
  refine (congrArg (fun q => IntOp.subi (BitVec.ofNat 32 i.val) q) (htake.trans (hcu ⟨seg i, h17⟩))).trans ?_
  exact ofNat32_sub (cu_seg i)

end Cert.Hand

end
-- ==== Proof.Padded.lean ====
/-
  The reference's padded batch: the scatter of the tokens at (`batch_ids`, `pos`), read at an entry.
-/
module

public import proofs.«01_k».proof.Proof.Place
public import Idealize.ShloMosaic.Lib.Pipeline.Value

@[expose] public section

set_option maxRecDepth 16384

noncomputable section

namespace Cert.Hand

open Idealize.ShloMosaic hiding ix1 ix2 ix3
open Idealize.ShloMosaic.ValueIdx Idealize.ShloMosaic.Routing
open Cert.ReferenceIdeal Cert.ReferenceIdeal.Gen Cert.ReferenceIdeal.Value

/-- Where an entry of a token lands: at the sequence and the place the token's two index words name, in the same column. -/
theorem token_lands (idx : IVec S32768x2 32) (i : Fin 32768) (d' : Fin 1024) (b : Fin 16) (p : Fin 4096) (d : Fin 1024) :
    scatter_S16x4096x1024_S32768x2_S32768x1024_1_01_01_1.resultIdx? (ix2 i d') idx = some (ix3 b p d)
      ↔ (idx (ix2 i (0 : Fin 2))).toInt = (b.val : Int) ∧ (idx (ix2 i (1 : Fin 2))).toInt = (p.val : Int) ∧ d' = d := by
  have hw0 : scatter_S16x4096x1024_S32768x2_S32768x1024_1_01_01_1.window (ix2 i d') 0 = 0 := rfl
  have hw1 : scatter_S16x4096x1024_S32768x2_S32768x1024_1_01_01_1.window (ix2 i d') 1 = 0 := rfl
  have hw2 : scatter_S16x4096x1024_S32768x2_S32768x1024_1_01_01_1.window (ix2 i d') 2 = d'.val := rfl
  have hs0 : scatter_S16x4096x1024_S32768x2_S32768x1024_1_01_01_1.start (ix2 i d') idx 0 = (idx (ix2 i (0 : Fin 2))).toInt := by
    unfold ScatterDims.start
    rw [dif_pos (by decide)]
    refine congrArg (fun q => (idx q).toInt) (funext fun a => ?_)
    match a with
    | ⟨0, _⟩ => rfl
    | ⟨1, _⟩ => rfl
  have hs1 : scatter_S16x4096x1024_S32768x2_S32768x1024_1_01_01_1.start (ix2 i d') idx 1 = (idx (ix2 i (1 : Fin 2))).toInt := by
    unfold ScatterDims.start
    rw [dif_pos (by decide)]
    refine congrArg (fun q => (idx q).toInt) (funext fun a => ?_)
    match a with
    | ⟨0, _⟩ => rfl
    | ⟨1, _⟩ => rfl
  have hs2 : scatter_S16x4096x1024_S32768x2_S32768x1024_1_01_01_1.start (ix2 i d') idx 2 = 0 := by
    unfold ScatterDims.start
    exact dif_neg (by decide)
  rw [resultIdx?_eq_some]
  constructor
  · intro h
    have h0 := h 0
    have h1 := h 1
    have h2 := h 2
    rw [hs0, hw0] at h0
    rw [hs1, hw1] at h1
    rw [hs2, hw2] at h2
    have e0 : ((ix3 b p d : S16x4096x1024.Idx) 0).val = b.val := rfl
    have e1 : ((ix3 b p d : S16x4096x1024.Idx) 1).val = p.val := rfl
    have e2 : ((ix3 b p d : S16x4096x1024.Idx) 2).val = d.val := rfl
    rw [e0] at h0
    rw [e1] at h1
    rw [e2] at h2
    exact ⟨by omega, by omega, Fin.ext (by omega)⟩
  · rintro ⟨h0, h1, rfl⟩ a
    match a with
    | ⟨0, _⟩ => exact (congrArg₂ (fun (x : Int) (y : ℕ) => x + (y : Int)) (hs0.trans h0) hw0).trans (by simp)
    | ⟨1, _⟩ => exact (congrArg₂ (fun (x : Int) (y : ℕ) => x + (y : Int)) (hs1.trans h1) hw1).trans (by simp)
    | ⟨2, _⟩ => exact (congrArg₂ (fun (x : Int) (y : ℕ) => x + (y : Int)) hs2 hw2).trans (by simp)

/-- The scatter at an entry: the token of that place of that sequence, or the operand's entry past the sequence's end. -/
theorem padded_at {α : Type} (x0 : S16x4096x1024.Idx → α) (z : α) (hx0 : ∀ q, x0 q = z) (idx : IVec S32768x2 32)
    (h0 : ∀ i : Fin 32768, idx (ix2 i (0 : Fin 2)) = BitVec.ofNat 32 (seg i))
    (h1 : ∀ i : Fin 32768, idx (ix2 i (1 : Fin 2)) = BitVec.ofNat 32 (i - cu (seg i)))
    (upd : S32768x1024.Idx → α) (b : Fin 16) (p : Fin 4096) (d : Fin 1024) :
    Host.scatter scatter_S16x4096x1024_S32768x2_S32768x1024_1_01_01_1 (fun _ b => b) x0 idx upd (ix3 b p d)
      = if cu b + p < cu (b + 1) then upd (ix2 (Fin.ofNat 32768 (cu b + p)) d) else z := by
  have hland : ∀ (i : Fin 32768) (d' : Fin 1024), scatter_S16x4096x1024_S32768x2_S32768x1024_1_01_01_1.resultIdx? (ix2 i d') idx = some (ix3 b p d)
      ↔ seg i = b ∧ i - cu (seg i) = p ∧ d' = d := by
    intro i d'
    rw [token_lands, h0, h1, StableHlo.Predicate.toInt_ofNat_small _ (seg_small i),
      StableHlo.Predicate.toInt_ofNat_small _ (lt_of_le_of_lt (Nat.sub_le _ _) (lt_trans i.isLt (by decide)))]
    norm_cast
  have hcol : ∀ k : S32768x1024.Idx, k = ix2 (k 0) (k 1) := by
    intro k
    funext a
    match a with
    | ⟨0, _⟩ => rfl
    | ⟨1, _⟩ => rfl
  by_cases h : cu b + p < cu (b + 1)
  · rw [if_pos h]
    have hlt : cu b.val + p.val < 32768 := lt_of_lt_of_le h (cu_mono ⟨b.val + 1, by omega⟩ 16 (Fin.le_last _))
    have hseg : seg (cu b.val + p.val) = b.val := seg_eq b.isLt (Nat.le_add_right _ _) h
    have hof : (Fin.ofNat 32768 (cu b.val + p.val)) = ⟨cu b.val + p.val, hlt⟩ := Fin.ext (Nat.mod_eq_of_lt hlt)
    refine scatter_set_hit _ _ _ _ _ _ (fun k hk => ?_) (ix2 (Fin.ofNat 32768 (cu b + p)) d) ?_
    · rw [hcol k] at hk ⊢
      obtain ⟨e0, e1, e2⟩ := (hland _ _).1 hk
      have hle := cu_seg (k 0).val
      rw [e0] at e1 hle
      rw [e2, hof]
      exact congrArg (fun q => upd (ix2 q d)) (Fin.ext (by show (k 0).val = cu b.val + p.val; omega))
    · rw [hof, hland]
      refine ⟨hseg, ?_, rfl⟩
      show cu b.val + p.val - cu (seg (cu b.val + p.val)) = p.val
      rw [hseg]
      omega
  · rw [if_neg h, scatter_set_miss _ _ _ _ _ (fun k hk => ?_)]
    · exact hx0 _
    · rw [hcol k] at hk
      obtain ⟨e0, e1, -⟩ := (hland _ _).1 hk
      have hle := cu_seg (k 0).val
      have hlt := lt_cu_seg (k 0).isLt
      rw [e0] at e1 hle hlt
      omega

/-- A pair of columns read at its first column. -/
theorem pair_fst (x y : IVec S32768x1 32) (i : Fin 32768) :
    concatenate S32768x2 1 [⟨S32768x1, x⟩, ⟨S32768x1, y⟩] concatenates_S32768x1_S32768x1_S32768x2_d1 (ix2 i (0 : Fin 2)) = x (ix2 i (0 : Fin 1)) :=
  concatenate_pair_apply_left (t := S32768x2) (s₁ := S32768x1) (s₂ := S32768x1) 1 x y concatenates_S32768x1_S32768x1_S32768x2_d1 (ix2 i (0 : Fin 2)) rfl (ix2 i (0 : Fin 1)) fun a => match a with
    | ⟨0, _⟩ => rfl
    | ⟨1, _⟩ => rfl

/-- A pair of columns read at its second column. -/
theorem pair_snd (x y : IVec S32768x1 32) (i : Fin 32768) :
    concatenate S32768x2 1 [⟨S32768x1, x⟩, ⟨S32768x1, y⟩] concatenates_S32768x1_S32768x1_S32768x2_d1 (ix2 i (1 : Fin 2)) = y (ix2 i (0 : Fin 1)) :=
  concatenate_pair_apply_right (t := S32768x2) (s₁ := S32768x1) (s₂ := S32768x1) 1 x y concatenates_S32768x1_S32768x1_S32768x2_d1 (ix2 i (1 : Fin 2)) rfl rfl (ix2 i (0 : Fin 1)) (fun a => match a with
    | ⟨0, _⟩ => fun _ => rfl
    | ⟨1, _⟩ => fun h => absurd rfl h) rfl

end Cert.Hand

end
-- ==== Proof.Act.lean ====
/-
  The kernel's function of one entry over the extended reals: half plus half the tanh of half of `tanh x` is the logistic of `tanh x`.
-/
module

public import proofs.«01_k».proof.Proof.Values
public import Idealize.ShloMosaic.PureOps.Ideal

@[expose] public section

noncomputable section

namespace Cert.Hand

open Idealize.ShloMosaic

theorem half_real : (Cert.KernelIdeal.Hand.half (F := Ideal) : EReal) = ((1 / 2 : ℝ) : EReal) := by
  show Ideal.ofBits .f32 0x3F000000#32 = _
  simp [Ideal.ofBits, Ideal.ieee, -EReal.coe_mul]
  norm_num

/-- Half plus half the tanh of half a number is its logistic, over the reals. -/
theorem half_tanh (t : ℝ) : 1 / 2 + 1 / 2 * Real.tanh (1 / 2 * t) = (1 + Real.exp (-t))⁻¹ := by
  have ha : (0 : ℝ) < Real.exp (1 / 2 * t) := Real.exp_pos _
  have hb : Real.exp (-t) = (Real.exp (1 / 2 * t))⁻¹ * (Real.exp (1 / 2 * t))⁻¹ := by
    rw [← Real.exp_neg, ← Real.exp_add]; congr 1; ring
  rw [Real.tanh_eq_sinh_div_cosh, Real.sinh_eq, Real.cosh_eq, Real.exp_neg, hb]
  generalize Real.exp (1 / 2 * t) = a at ha
  field_simp
  ring

theorem tanh_real (x : EReal) : ∃ t : ℝ, Ideal.tanh x = (t : EReal) := by
  induction x using EReal.rec with
  | bot => exact ⟨-1, by simp⟩
  | top => exact ⟨1, by simp⟩
  | coe r => exact ⟨_, Ideal.tanh_coe r⟩

/-- A data entry: the kernel's function is the logistic of the entry's tanh. -/
theorem act_logistic (x : EReal) : (Cert.KernelIdeal.Hand.act (F := Ideal) x : EReal) = Ideal.logistic (Ideal.tanh x) := by
  obtain ⟨t, ht⟩ := tanh_real x
  show (Cert.KernelIdeal.Hand.half (F := Ideal) : EReal)
      + (Cert.KernelIdeal.Hand.half (F := Ideal) : EReal) * Ideal.tanh ((Cert.KernelIdeal.Hand.half (F := Ideal) : EReal) * Ideal.tanh x) = _
  rw [half_real, ht, ← EReal.coe_mul, Ideal.tanh_coe, ← EReal.coe_mul, ← EReal.coe_add, Ideal.logistic_coe, half_tanh]

/-- A padding entry: one half is the logistic of zero. -/
theorem half_logistic : (Cert.KernelIdeal.Hand.half (F := Ideal) : EReal) = Ideal.logistic 0 := by
  rw [half_real, ← EReal.coe_zero, Ideal.logistic_coe]
  congr 1
  norm_num

end Cert.Hand

end
-- ==== Proof.Blocks.lean ====
/-
  The array the kernel leaves, read at a place of a sequence: the schedule's blocks are the sequences' halves.
-/
module

public import proofs.«01_k».proof.Proof.Act
public import proofs.«01_k».proof.Proof.Seg
public import Idealize.ShloMosaic.Lib.ValueIdxCore
public import Idealize.ShloMosaic.Lib.Pipeline.Value

@[expose] public section

set_option maxRecDepth 16384

noncomputable section

namespace Cert.Hand

open Idealize.ShloMosaic Idealize.ShloMosaic.ValueIdx
open Cert.KernelIdeal Cert.KernelIdeal.Gen Cert.KernelIdeal.Hand

/-- Half `h` of sequence `b`'s rows of the result has as many data rows as the sequence has tokens there. -/
theorem block_rows : ∀ (b : Fin 16) (h : Fin 2), ndT (pOf (2 * b + h)) = min (cu (b + 1) - (cu b + 2048 * h)) 2048 := by decide +kernel

/-- Its data rows start at the sequence's token of that place. -/
theorem block_start : ∀ (b : Fin 16) (h : Fin 2), 0 < ndT (pOf (2 * b + h)) → stT (pOf (2 * b + h)) = cu b + 2048 * h := by decide +kernel

theorem left_at (X : Flat (F := Ideal)) (b : Fin 16) (p : Fin 4096) (d : Fin 1024) :
    shapeCast S16x4096x1024 (gOut X) shapeCasts_S65536x1024_S16x4096x1024 (ix3 b p d)
      = Ideal.logistic (if cu b + p < cu (b + 1) then Ideal.tanh (X (ix2 (Fin.ofNat 32768 (cu b + p)) d)) else 0) := by
  have hR : 4096 * b.val + p.val < 65536 := by omega
  rw [shapeCast_apply (gOut X) shapeCasts_S65536x1024_S16x4096x1024 (ix3 b p d) (ix2 (⟨4096 * b.val + p.val, hR⟩ : Fin 65536) d) (by
    rw [Shape.rowMajor_val_two, Shape.rowMajor_val_three]
    show (4096 * b.val + p.val) * 1024 + d.val = (b.val * 4096 + p.val) * 1024 + d.val
    omega)]
  have hblk : (4096 * b.val + p.val) / 2048 = 2 * b.val + p.val / 2048 := by omega
  have hrow : (4096 * b.val + p.val) % 2048 = p.val % 2048 := by omega
  have hn := block_rows b ⟨p.val / 2048, by omega⟩
  have hs := block_start b ⟨p.val / 2048, by omega⟩
  simp only at hn hs
  show (if (4096 * b.val + p.val) % 2048 < ndT (pOf ((4096 * b.val + p.val) / 2048)) then
      act (F := Ideal) (X (Fin.cons (Fin.ofNat 32768 (stT (pOf ((4096 * b.val + p.val) / 2048)) + (4096 * b.val + p.val) % 2048)) (Fin.cons d (fun x => x.elim0))))
    else half (F := Ideal)) = _
  rw [hblk, hrow]
  by_cases h : cu b.val + p.val < cu (b.val + 1)
  · have hlt : p.val % 2048 < ndT (pOf (2 * b.val + p.val / 2048)) := by rw [hn]; omega
    rw [if_pos hlt, if_pos h, hs (by omega), act_logistic]
    have hq : cu b.val + 2048 * (p.val / 2048) + p.val % 2048 = cu b.val + p.val := by omega
    rw [hq]
    refine congrArg (fun q => Ideal.logistic (Ideal.tanh (X q))) (funext fun a => ?_)
    match a with
    | ⟨0, _⟩ => rfl
    | ⟨1, _⟩ => rfl
  · have hge : ¬ p.val % 2048 < ndT (pOf (2 * b.val + p.val / 2048)) := by rw [hn]; omega
    rw [if_neg hge, if_neg h]
    exact half_logistic

end Cert.Hand

end
-- ==== Proof.Algebraic.lean ====
/-
  The value claim: over the extended reals, where `cu_seqlens` holds the starts of the fixed lengths, the kernel and the reference leave one array.
-/
module

public import proofs.«01_k».proof.Defs
public import proofs.«01_k».proof.Proof.Gen.Pre_lengths_fixed
public import proofs.«01_k».proof.Proof.Padded
public import proofs.«01_k».proof.Proof.Blocks
public import proofs.«01_k».proof.Proof.Region
public import Idealize.ShloMosaic.Lib.IdealHost
public import Idealize.ShloMosaic.PureOps.Ideal.Laws

@[expose] public section

set_option maxRecDepth 16384

noncomputable section

namespace Cert.Hand

open Idealize.SL.Sem Idealize.ShloMosaic.StableHlo
open Idealize.ShloMosaic hiding ix1 ix2 ix3
open Idealize.ShloMosaic.ValueIdx Idealize.ShloMosaic.Routing

section Reference

open Cert.ReferenceIdeal Cert.ReferenceIdeal.Gen Cert.ReferenceIdeal.Value

/-- The reference's sigmoid at an entry. -/
theorem sigmoid_at (y : FVec Ideal S16x4096x1024 .f32) (i : S16x4096x1024.Idx) :
    Host.divf (broadcastInDim S16x4096x1024 ![] bcast_S_S16x4096x1024 (constant S_ .f32 0x3F800000#32))
      (addf (broadcastInDim S16x4096x1024 ![] bcast_S_S16x4096x1024 (constant S_ .f32 0x3F800000#32)) (Host.exp (Host.negf y))) i = Ideal.logistic (y i) := by
  show Ideal.div (Ideal.ofBits .f32 0x3F800000#32) (Ideal.ofBits .f32 0x3F800000#32 + Ideal.exp (-(y i))) = _
  rw [Ideal.ofBits_one_f32]
  rfl

/-- The reference's result at an entry. -/
theorem reference_at (V0 : Valuation τ sig (Elt Ideal)) (hcu : ∀ b : Fin 17, (V0 (Proc.devRef .tc main_arg1) : IVec S17 32) (ix1 b) = BitVec.ofNat 32 (cu b))
    (b : Fin 16) (p : Fin 4096) (d : Fin 1024) :
    (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (Host.scatter scatter_S16x4096x1024_S32768x2_S32768x1024_1_01_01_1 (fun _ b => b) (broadcastInDim S16x4096x1024 ![] bcast_S_S16x4096x1024 (constant S_ .f32 0x00000000#32)) (concatenate S32768x2 1 [⟨S32768x1, (broadcastInDim S32768x1 ![0] bcast_S32768_S32768x1_0 (select (cmpi .slt (res_main_v18 V0) (broadcastInDim S32768 ![] bcast_S_S32768 (constantI S_ 32 0#32))) (addi (res_main_v18 V0) (broadcastInDim S32768 ![] bcast_S_S32768 (constantI S_ 32 16#32))) (res_main_v18 V0)))⟩, ⟨S32768x1, (broadcastInDim S32768x1 ![0] bcast_S32768_S32768x1_0 (select (cmpi .slt (res_main_v27 V0) (broadcastInDim S32768 ![] bcast_S_S32768 (constantI S_ 32 0#32))) (addi (res_main_v27 V0) (broadcastInDim S32768 ![] bcast_S_S32768 (constantI S_ 32 4096#32))) (res_main_v27 V0)))⟩] concatenates_S32768x1_S32768x1_S32768x2_d1) (Host.tanh (V0 (Proc.devRef .tc main_arg0))))))) : FVec Ideal S16x4096x1024 .f32) (ix3 b p d)
      = Ideal.logistic (if cu b + p < cu (b + 1) then Ideal.tanh ((V0 (Proc.devRef .tc main_arg0) : FVec Ideal S32768x1024 .f32) (ix2 (Fin.ofNat 32768 (cu b + p)) d)) else 0) := by
  refine (sigmoid_at _ _).trans (congrArg Ideal.logistic ?_)
  refine padded_at _ (0 : EReal) (fun _ => Ideal.ofBits_zero_f32) _ (fun i => ?_) (fun i => ?_) _ b p d
  · exact (pair_fst _ _ i).trans ((bcCol _ _ i).trans (wrap_at _ _ _ _ rfl (seg_small i) (batch_at V0 i)))
  · exact (pair_snd _ _ i).trans ((bcCol _ _ i).trans (wrap_at _ _ _ _ rfl (lt_of_le_of_lt (Nat.sub_le _ _) (lt_trans i.isLt (by decide))) (pos_at V0 hcu i)))

end Reference

/-- What the precondition says of `cu_seqlens`. -/
theorem starts_of_pre [Cert.Pre_lengths_fixed.Facts] (x : FVec Ideal Cert.Pre_lengths_fixed.S32768x1024 .f32) (s : IVec Cert.Pre_lengths_fixed.S17 32)
    (h : Cert.Pre_lengths_fixed.fn (F := Ideal) x s = fun _ => 1#1) (b : Fin 17) : s (ix1 b) = BitVec.ofNat 32 (cu b) := by
  have hs : Subsingleton Cert.Pre_lengths_fixed.S_.Idx := ⟨fun _ _ => funext fun a => a.elim0⟩
  have he := Host.reduce_andi_all _ _ _ _ (fun a => a.elim0) (congrFun h (fun a => a.elim0)) (ix1 b)
  refine (StableHlo.Predicate.cmpi_eq_iff.1 he).trans ?_
  fin_cases b <;> rfl

theorem algebraic (hp : Cert.Pre_lengths_fixed.Facts) :
    Cert.algebraic_KernelIdeal_ReferenceIdeal_pre_lengths_fixed (hKernelIdeal := Cert.KernelIdeal.Gen.facts) (hReferenceIdeal := Cert.ReferenceIdeal.Gen.facts)
      (hPre_lengths_fixed := hp) := by
  intro m g m' g' hpre hargs
  refine ⟨fun c => shapeCast Cert.KernelIdeal.S16x4096x1024 (Cert.KernelIdeal.Hand.gOut (Cert.KernelIdeal.Hand.inX m c)) Cert.KernelIdeal.Gen.shapeCasts_S65536x1024_S16x4096x1024,
    (θ_run _ _ _).mono (fun _ h c => ⟨(h.1 c).2.2, (h.1 c).1, (h.1 c).2.1⟩) (Cert.KernelIdeal.Hand.run_main (F := Ideal) m g),
    (θ_run _ _ _).mono (fun _ h c => ⟨(h c).1.trans (funext fun q => ?_), (h c).2⟩) (Cert.ReferenceIdeal.Value.run (F := Ideal) m' g')⟩
  have hq : q = ix3 (q 0) (q 1) (q 2) := by
    funext a
    match a with
    | ⟨0, _⟩ => rfl
    | ⟨1, _⟩ => rfl
    | ⟨2, _⟩ => rfl
  have hcu : ∀ b : Fin 17, (launchContents m' c (Proc.devRef .tc Cert.ReferenceIdeal.main_arg1) : IVec Cert.ReferenceIdeal.S17 32) (ix1 b) = BitVec.ofNat 32 (cu b) :=
    fun b => (congrFun (hargs c).2 (ix1 b)).trans (starts_of_pre _ _ (hpre c) b)
  rw [hq]
  refine (reference_at (launchContents m' c) hcu (q 0) (q 1) (q 2)).trans (Eq.trans ?_ (left_at (Cert.KernelIdeal.Hand.inX m c) (q 0) (q 1) (q 2)).symm)
  exact congrArg (fun x : FVec Ideal Cert.ReferenceIdeal.S32768x1024 .f32 => Ideal.logistic (if cu (q 0).val + (q 1).val < cu ((q 0).val + 1) then Ideal.tanh (x (ix2 (Fin.ofNat 32768 (cu (q 0).val + (q 1).val)) (q 2))) else 0)) (hargs c).1

end Cert.Hand

end
-- ==== Proof.lean ====
/- The claims, assembled: the frames of the kernel, of its idealized copy and of the reference, and the value claim. -/
module

public import proofs.«01_k».proof.Defs
public import proofs.«01_k».proof.Proof.Gen.Kernel.Launch
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal.Run
public import proofs.«01_k».proof.Proof.Gen.Pre_lengths_fixed
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_lengths_fixed.Gen.facts,
  Cert.Hand.frame_kernel, Cert.Hand.frame_kernelIdeal, Cert.Hand.frame_kernelIdeal_pre _, Cert.Hand.frame_reference, Cert.Hand.frame_reference_pre _, trivial,
  Cert.Hand.algebraic _⟩

end Cert.Proof

end
